-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2 = (fun _ => 1#1)

def Pre_Experts [hPre_two_experts : Cert.Pre_two_experts.Facts] (m : (ℓ : Loc Cert.Experts.nD Cert.Experts.τ Cert.Experts.sig) → Buf (Elt Bits) ℓ) : Prop :=
  ∀ c : Dev Cert.Experts.nD,
    (Cert.Pre_two_experts.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))) = (fun _ => 1#1)

def Pre_ExpertsIdeal [hPre_two_experts : Cert.Pre_two_experts.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_two_experts.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_two_experts [hPre_two_experts : Cert.Pre_two_experts.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_two_experts.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Experts [hExperts : Cert.Experts.Facts] [hPre_two_experts : Cert.Pre_two_experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_two_experts : Cert.Pre_two_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7))
      ∧ r.2.sem = fun _ => 0)

def quiescent_ExpertsReferenceIdeal_pre_two_experts [hExpertsReferenceIdeal : Cert.ExpertsReferenceIdeal.Facts] [hPre_two_experts : Cert.Pre_two_experts.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_two_experts m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4)
      ∧ r.2.mem ((c.tc : Thread Cert.Projection.nD Cert.Projection.τ).loc Cert.Projection.main_arg5) = m ((c.tc : Thread Cert.Projection.nD Cert.Projection.τ).loc Cert.Projection.main_arg5)
      ∧ r.2.mem ((c.tc : Thread Cert.Projection.nD Cert.Projection.τ).loc Cert.Projection.main_arg6) = m ((c.tc : Thread Cert.Projection.nD Cert.Projection.τ).loc Cert.Projection.main_arg6))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
      ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
      ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3)
      ∧ r.2.mem ((c.tc : Thread Cert.ProjectionReferenceIdeal.nD Cert.ProjectionReferenceIdeal.τ).loc Cert.ProjectionReferenceIdeal.main_arg4) = m ((c.tc : Thread Cert.ProjectionReferenceIdeal.nD Cert.ProjectionReferenceIdeal.τ).loc Cert.ProjectionReferenceIdeal.main_arg4)
      ∧ r.2.mem ((c.tc : Thread Cert.ProjectionReferenceIdeal.nD Cert.ProjectionReferenceIdeal.τ).loc Cert.ProjectionReferenceIdeal.main_arg5) = m ((c.tc : Thread Cert.ProjectionReferenceIdeal.nD Cert.ProjectionReferenceIdeal.τ).loc Cert.ProjectionReferenceIdeal.main_arg5)
      ∧ r.2.mem ((c.tc : Thread Cert.ProjectionReferenceIdeal.nD Cert.ProjectionReferenceIdeal.τ).loc Cert.ProjectionReferenceIdeal.main_arg6) = m ((c.tc : Thread Cert.ProjectionReferenceIdeal.nD Cert.ProjectionReferenceIdeal.τ).loc Cert.ProjectionReferenceIdeal.main_arg6))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v148_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v148_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_two_experts : Cert.Pre_two_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v5)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v5) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v54) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)
      ∧ m' ((c.tc : Thread Cert.ProjectionReferenceIdeal.nD Cert.ProjectionReferenceIdeal.τ).loc Cert.ProjectionReferenceIdeal.main_arg4) = m ((c.tc : Thread Cert.ProjectionIdeal.nD Cert.ProjectionIdeal.τ).loc Cert.ProjectionIdeal.main_arg4)
      ∧ m' ((c.tc : Thread Cert.ProjectionReferenceIdeal.nD Cert.ProjectionReferenceIdeal.τ).loc Cert.ProjectionReferenceIdeal.main_arg5) = m ((c.tc : Thread Cert.ProjectionIdeal.nD Cert.ProjectionIdeal.τ).loc Cert.ProjectionIdeal.main_arg5)
      ∧ m' ((c.tc : Thread Cert.ProjectionReferenceIdeal.nD Cert.ProjectionReferenceIdeal.τ).loc Cert.ProjectionReferenceIdeal.main_arg6) = m ((c.tc : Thread Cert.ProjectionIdeal.nD Cert.ProjectionIdeal.τ).loc Cert.ProjectionIdeal.main_arg6)) →
    ∃ (v0 : (c : Dev Cert.ProjectionIdeal.nD) → Buf (Elt Ideal) ((c.tc : Thread Cert.ProjectionIdeal.nD Cert.ProjectionIdeal.τ).loc Cert.ProjectionIdeal.main_v8_1)) (v1 : (c : Dev Cert.ProjectionIdeal.nD) → Buf (Elt Ideal) ((c.tc : Thread Cert.ProjectionIdeal.nD Cert.ProjectionIdeal.τ).loc Cert.ProjectionIdeal.main_v8_2)) (v2 : (c : Dev Cert.ProjectionIdeal.nD) → Buf (Elt Ideal) ((c.tc : Thread Cert.ProjectionIdeal.nD Cert.ProjectionIdeal.τ).loc Cert.ProjectionIdeal.main_v8_3)) (v3 : (c : Dev Cert.ProjectionIdeal.nD) → Buf (Elt Ideal) ((c.tc : Thread Cert.ProjectionIdeal.nD Cert.ProjectionIdeal.τ).loc Cert.ProjectionIdeal.main_v8_4)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v8_1) = v0 c
          ∧ r.2.mem ((c.tc : Thread Cert.ProjectionIdeal.nD Cert.ProjectionIdeal.τ).loc Cert.ProjectionIdeal.main_v8_2) = v1 c
          ∧ r.2.mem ((c.tc : Thread Cert.ProjectionIdeal.nD Cert.ProjectionIdeal.τ).loc Cert.ProjectionIdeal.main_v8_3) = v2 c
          ∧ r.2.mem ((c.tc : Thread Cert.ProjectionIdeal.nD Cert.ProjectionIdeal.τ).loc Cert.ProjectionIdeal.main_v8_4) = v3 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
          ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
          ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v17) = v0 c
          ∧ r.2.mem ((c.tc : Thread Cert.ProjectionReferenceIdeal.nD Cert.ProjectionReferenceIdeal.τ).loc Cert.ProjectionReferenceIdeal.main_v18) = v1 c
          ∧ r.2.mem ((c.tc : Thread Cert.ProjectionReferenceIdeal.nD Cert.ProjectionReferenceIdeal.τ).loc Cert.ProjectionReferenceIdeal.main_v19) = v2 c
          ∧ r.2.mem ((c.tc : Thread Cert.ProjectionReferenceIdeal.nD Cert.ProjectionReferenceIdeal.τ).loc Cert.ProjectionReferenceIdeal.main_v20) = v3 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3)
          ∧ r.2.mem ((c.tc : Thread Cert.ProjectionReferenceIdeal.nD Cert.ProjectionReferenceIdeal.τ).loc Cert.ProjectionReferenceIdeal.main_arg4) = m' ((c.tc : Thread Cert.ProjectionReferenceIdeal.nD Cert.ProjectionReferenceIdeal.τ).loc Cert.ProjectionReferenceIdeal.main_arg4)
          ∧ r.2.mem ((c.tc : Thread Cert.ProjectionReferenceIdeal.nD Cert.ProjectionReferenceIdeal.τ).loc Cert.ProjectionReferenceIdeal.main_arg5) = m' ((c.tc : Thread Cert.ProjectionReferenceIdeal.nD Cert.ProjectionReferenceIdeal.τ).loc Cert.ProjectionReferenceIdeal.main_arg5)
          ∧ r.2.mem ((c.tc : Thread Cert.ProjectionReferenceIdeal.nD Cert.ProjectionReferenceIdeal.τ).loc Cert.ProjectionReferenceIdeal.main_arg6) = m' ((c.tc : Thread Cert.ProjectionReferenceIdeal.nD Cert.ProjectionReferenceIdeal.τ).loc Cert.ProjectionReferenceIdeal.main_arg6))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hProjection : Cert.Projection.Facts) (hProjectionIdeal : Cert.ProjectionIdeal.Facts) (hProjectionReferenceIdeal : Cert.ProjectionReferenceIdeal.Facts) (hPre_finite_scores : Cert.Pre_finite_scores.Facts) (hPre_two_experts : Cert.Pre_two_experts.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Experts (hExperts := hExperts) (hPre_two_experts := hPre_two_experts)
    ∧ quiescent_ExpertsIdeal (hExpertsIdeal := hExpertsIdeal) (hPre_two_experts := hPre_two_experts)
    ∧ quiescent_ExpertsReferenceIdeal (hExpertsReferenceIdeal := hExpertsReferenceIdeal)
    ∧ quiescent_ExpertsReferenceIdeal_pre_two_experts (hExpertsReferenceIdeal := hExpertsReferenceIdeal) (hPre_two_experts := hPre_two_experts)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Experts_ExpertsIdeal
    ∧ algebraic_ExpertsIdeal_ExpertsReferenceIdeal (hExpertsIdeal := hExpertsIdeal) (hExpertsReferenceIdeal := hExpertsReferenceIdeal) (hPre_two_experts := hPre_two_experts)
    ∧ preserves_Projection_ProjectionIdeal
    ∧ algebraic_ProjectionIdeal_ProjectionReferenceIdeal (hProjectionIdeal := hProjectionIdeal) (hProjectionReferenceIdeal := hProjectionReferenceIdeal)
-- ==== Pre_finite_scores.lean ====
abbrev S65536x512 : Shape := ⟨2, ![65536, 512]⟩
abbrev S65536x2048 : Shape := ⟨2, ![65536, 2048]⟩
abbrev S65536x1024 : Shape := ⟨2, ![65536, 1024]⟩
abbrev S512x1024 : Shape := ⟨2, ![512, 1024]⟩
abbrev S8x513 : Shape := ⟨2, ![8, 513]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S_ : Shape := ⟨0, ![]⟩

class Facts : Prop where
  bcast_S_S65536x512 : S_.BroadcastsInDim S65536x512 (![] : Fin 0 → Fin S65536x512.rank)
  bitsLt_bf16_f32 : FTy.bits .bf16 < FTy.bits .f32
  bcast_S_S8x513 : S_.BroadcastsInDim S8x513 (![] : Fin 0 → Fin S8x513.rank)

variable [Facts]

def fn {F : FTy → Type} [FloatOps F] (main_arg0 : FVec F S65536x512 .bf16) (main_arg1 : FVec F S65536x512 .f32) (main_arg2 : FVec F S65536x512 .bf16) (main_arg3 : FVec F S65536x512 .bf16) (main_arg4 : FVec F S65536x2048 .bf16) (main_arg5 : FVec F S65536x1024 .f32) (main_arg6 : FVec F S512x1024 .f32) (main_arg7 : FVec F S8x513 .f32) (main_arg8 : FVec F S512x1024 .f32) (main_arg9 : FVec F S1024x1024 .f32) (main_arg10 : FVec F S1024 .f32) (main_arg11 : FVec F S1024 .f32) (main_arg12 : FVec F S1024 .f32) (main_arg13 : FVec F S1024x16 .f32) (main_arg14 : FVec F S16 .f32) : IVec S65536x512 1 × IVec S65536x512 1 × IVec S8x513 1 :=
  let main_v0 : FVec F S65536x512 .f32 := Host.absf main_arg1
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_v3 : FVec F S65536x512 .f32 := (extf .f32 · bitsLt_bf16_f32) main_arg2
  let main_v4 : FVec F S65536x512 .f32 := Host.absf main_v3
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_v7 : FVec F S8x513 .f32 := Host.absf main_arg7
  let main_cst_1 : FVec F S_ .f32 := constant S_ .f32 0x7F800000#32
  let main_v8 : FVec F S8x513 .f32 := broadcastInDim S8x513 ![] bcast_S_S8x513 main_cst_1
  let main_v9 : IVec S8x513 1 := cmpf .olt main_v7 main_v8
  (main_v2, main_v6, main_v9)
-- ==== Pre_two_experts.lean ====
abbrev S280 : Shape := ⟨1, ![280]⟩
abbrev S71680x1152 : Shape := ⟨2, ![71680, 1152]⟩
abbrev S16x1024x1024 : Shape := ⟨3, ![16, 1024, 1024]⟩
abbrev S16x512x1024 : Shape := ⟨3, ![16, 512, 1024]⟩
abbrev S1024 : Shape := ⟨1, ![1024]⟩
abbrev S_ : Shape := ⟨0, ![]⟩

class Facts : Prop where
  bcast_S_S280 : S_.BroadcastsInDim S280 (![] : Fin 0 → Fin S280.rank)

variable [Facts]

def fn {F : FTy → Type} [FloatOps F] (main_arg0 : IVec S280 32) (main_arg1 : IVec S280 32) (main_arg2 : IVec S280 32) (main_arg3 : FVec F S71680x1152 .f32) (main_arg4 : FVec F S16x1024x1024 .f32) (main_arg5 : FVec F S16x512x1024 .f32) (main_arg6 : FVec F S1024 .f32) (main_arg7 : FVec F S1024 .f32) : IVec S280 1 :=
  let main_c : IVec S_ 32 := constantI S_ 32 0#32
  let main_v0 : IVec S280 32 := broadcastInDim S280 ![] bcast_S_S280 main_c
  let main_v1 : IVec S280 1 := cmpi .sge main_arg0 main_v0
  let main_c_0 : IVec S_ 32 := constantI S_ 32 16#32
  let main_v2 : IVec S280 32 := broadcastInDim S280 ![] bcast_S_S280 main_c_0
  let main_v3 : IVec S280 1 := cmpi .slt main_arg0 main_v2
  let main_v4 : IVec S280 1 := andi main_v1 main_v3
  let main_c_1 : IVec S_ 32 := constantI S_ 32 0#32
  let main_v5 : IVec S280 32 := broadcastInDim S280 ![] bcast_S_S280 main_c_1
  let main_v6 : IVec S280 1 := cmpi .sge main_arg1 main_v5
  let main_v7 : IVec S280 1 := andi main_v4 main_v6
  let main_c_2 : IVec S_ 32 := constantI S_ 32 16#32
  let main_v8 : IVec S280 32 := broadcastInDim S280 ![] bcast_S_S280 main_c_2
  let main_v9 : IVec S280 1 := cmpi .slt main_arg1 main_v8
  let main_v10 : IVec S280 1 := andi main_v7 main_v9
  let main_v11 : IVec S280 1 := cmpi .ne main_arg0 main_arg1
  let main_v12 : IVec S280 1 := andi main_v10 main_v11
  main_v12
-- ==== Kernel.lean ====
abbrev S65536x512 : Shape := ⟨2, ![65536, 512]⟩
abbrev S65536x2048 : Shape := ⟨2, ![65536, 2048]⟩
abbrev S65536x1024 : Shape := ⟨2, ![65536, 1024]⟩
abbrev S512x1024 : Shape := ⟨2, ![512, 1024]⟩
abbrev S8x513 : Shape := ⟨2, ![8, 513]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S639 : Shape := ⟨1, ![639]⟩
abbrev S_ : Shape := ⟨0, ![]⟩
abbrev S639x1 : Shape := ⟨2, ![639, 1]⟩
abbrev S8x639 : Shape := ⟨2, ![8, 639]⟩
abbrev S8x576 : Shape := ⟨2, ![8, 576]⟩
abbrev S8x1x576 : Shape := ⟨3, ![8, 1, 576]⟩
abbrev S8x16x576 : Shape := ⟨3, ![8, 16, 576]⟩
abbrev S8x64x576 : Shape := ⟨3, ![8, 64, 576]⟩
abbrev S4x128x576 : Shape := ⟨3, ![4, 128, 576]⟩
abbrev S1x1024 : Shape := ⟨2, ![1, 1024]⟩
abbrev S16x1024 : Shape := ⟨2, ![16, 1024]⟩
abbrev S16x1 : Shape := ⟨2, ![16, 1]⟩
abbrev S65536x1152 : Shape := ⟨2, ![65536, 1152]⟩
abbrev S128x1x512 : Shape := ⟨3, ![128, 1, 512]⟩
abbrev S32x128 : Shape := ⟨2, ![32, 128]⟩
abbrev S512x512 : Shape := ⟨2, ![512, 512]⟩
abbrev S512x2048 : Shape := ⟨2, ![512, 2048]⟩
abbrev S512x1152 : Shape := ⟨2, ![512, 1152]⟩
abbrev S1x1x512 : Shape := ⟨3, ![1, 1, 512]⟩
abbrev S1024x512 : Shape := ⟨2, ![1024, 512]⟩
abbrev S2x4x128x576 : Shape := ⟨4, ![2, 4, 128, 576]⟩
abbrev S2x4x128x1 : Shape := ⟨4, ![2, 4, 128, 1]⟩
abbrev S128x576 : Shape := ⟨2, ![128, 576]⟩
abbrev S64x128 : Shape := ⟨2, ![64, 128]⟩
abbrev S576x128 : Shape := ⟨2, ![576, 128]⟩
abbrev S128x128 : Shape := ⟨2, ![128, 128]⟩
abbrev S1x1x128x576 : Shape := ⟨4, ![1, 1, 128, 576]⟩
abbrev S1x128x576 : Shape := ⟨3, ![1, 128, 576]⟩
abbrev S128 : Shape := ⟨1, ![128]⟩
abbrev S128x1 : Shape := ⟨2, ![128, 1]⟩
abbrev S1x1x128x1 : Shape := ⟨4, ![1, 1, 128, 1]⟩
abbrev S512 : Shape := ⟨1, ![512]⟩
abbrev S512x1 : Shape := ⟨2, ![512, 1]⟩
abbrev S16x512 : Shape := ⟨2, ![16, 512]⟩
abbrev S1x512 : Shape := ⟨2, ![1, 512]⟩
abbrev S32x512 : Shape := ⟨2, ![32, 512]⟩
abbrev S32x1 : Shape := ⟨2, ![32, 1]⟩
abbrev S32 : Shape := ⟨1, ![32]⟩
abbrev S126x512 : Shape := ⟨2, ![126, 512]⟩
abbrev S128x512 : Shape := ⟨2, ![128, 512]⟩
abbrev S512x128 : Shape := ⟨2, ![512, 128]⟩

abbrev nBuf : Space → Nat
  | .hbm => 170
  | .vmem => 40
  | .smem => 0
  | _ => 0

abbrev hbmTy0_0 (i : Nat) : BufTy := match i % 128 with
  | 0 => ⟨S65536x512, .bf16⟩
  | 1 => ⟨S65536x512, .f32⟩
  | 2 => ⟨S65536x512, .bf16⟩
  | 3 => ⟨S65536x512, .bf16⟩
  | 4 => ⟨S65536x2048, .bf16⟩
  | 5 => ⟨S65536x1024, .f32⟩
  | 6 => ⟨S512x1024, .f32⟩
  | 7 => ⟨S8x513, .f32⟩
  | 8 => ⟨S512x1024, .f32⟩
  | 9 => ⟨S1024x1024, .f32⟩
  | 10 => ⟨S1024, .f32⟩
  | 11 => ⟨S1024, .f32⟩
  | 12 => ⟨S1024, .f32⟩
  | 13 => ⟨S1024x16, .f32⟩
  | 14 => ⟨S16, .f32⟩
  | 15 => ⟨S639, .i32⟩
  | 16 => ⟨S639, .i1⟩
  | 17 => ⟨S512x1024, .bf16⟩
  | 18 => ⟨S_, .i32⟩
  | 19 => ⟨S639, .i32⟩
  | 20 => ⟨S639, .i32⟩
  | 21 => ⟨S639, .i32⟩
  | 22 => ⟨S639x1, .i32⟩
  | 23 => ⟨S8x639, .f32⟩
  | 24 => ⟨S8x576, .f32⟩
  | 25 => ⟨S8x576, .f32⟩
  | 26 => ⟨S8x576, .f32⟩
  | 27 => ⟨S8x576, .f32⟩
  | 28 => ⟨S8x576, .f32⟩
  | 29 => ⟨S8x576, .f32⟩
  | 30 => ⟨S8x576, .f32⟩
  | 31 => ⟨S8x576, .f32⟩
  | 32 => ⟨S8x576, .f32⟩
  | 33 => ⟨S8x576, .f32⟩
  | 34 => ⟨S8x576, .f32⟩
  | 35 => ⟨S8x576, .f32⟩
  | 36 => ⟨S8x576, .f32⟩
  | 37 => ⟨S8x576, .f32⟩
  | 38 => ⟨S8x576, .f32⟩
  | 39 => ⟨S8x576, .f32⟩
  | 40 => ⟨S8x576, .f32⟩
  | 41 => ⟨S8x576, .f32⟩
  | 42 => ⟨S8x576, .f32⟩
  | 43 => ⟨S8x576, .f32⟩
  | 44 => ⟨S8x576, .f32⟩
  | 45 => ⟨S8x576, .f32⟩
  | 46 => ⟨S8x576, .f32⟩
  | 47 => ⟨S8x576, .f32⟩
  | 48 => ⟨S8x576, .f32⟩
  | 49 => ⟨S8x576, .f32⟩
  | 50 => ⟨S8x576, .f32⟩
  | 51 => ⟨S8x576, .f32⟩
  | 52 => ⟨S8x576, .f32⟩
  | 53 => ⟨S8x576, .f32⟩
  | 54 => ⟨S8x576, .f32⟩
  | 55 => ⟨S8x576, .f32⟩
  | 56 => ⟨S8x576, .f32⟩
  | 57 => ⟨S8x576, .f32⟩
  | 58 => ⟨S8x576, .f32⟩
  | 59 => ⟨S8x576, .f32⟩
  | 60 => ⟨S8x576, .f32⟩
  | 61 => ⟨S8x576, .f32⟩
  | 62 => ⟨S8x576, .f32⟩
  | 63 => ⟨S8x576, .f32⟩
  | 64 => ⟨S8x576, .f32⟩
  | 65 => ⟨S8x576, .f32⟩
  | 66 => ⟨S8x576, .f32⟩
  | 67 => ⟨S8x576, .f32⟩
  | 68 => ⟨S8x576, .f32⟩
  | 69 => ⟨S8x576, .f32⟩
  | 70 => ⟨S8x576, .f32⟩
  | 71 => ⟨S8x576, .f32⟩
  | 72 => ⟨S8x576, .f32⟩
  | 73 => ⟨S8x576, .f32⟩
  | 74 => ⟨S8x576, .f32⟩
  | 75 => ⟨S8x576, .f32⟩
  | 76 => ⟨S8x576, .f32⟩
  | 77 => ⟨S8x576, .f32⟩
  | 78 => ⟨S8x576, .f32⟩
  | 79 => ⟨S8x576, .f32⟩
  | 80 => ⟨S8x576, .f32⟩
  | 81 => ⟨S8x576, .f32⟩
  | 82 => ⟨S8x576, .f32⟩
  | 83 => ⟨S8x576, .f32⟩
  | 84 => ⟨S8x576, .f32⟩
  | 85 => ⟨S8x576, .f32⟩
  | 86 => ⟨S8x576, .f32⟩
  | 87 => ⟨S8x576, .f32⟩
  | 88 => ⟨S8x1x576, .f32⟩
  | 89 => ⟨S8x1x576, .f32⟩
  | 90 => ⟨S8x1x576, .f32⟩
  | 91 => ⟨S8x1x576, .f32⟩
  | 92 => ⟨S8x1x576, .f32⟩
  | 93 => ⟨S8x1x576, .f32⟩
  | 94 => ⟨S8x1x576, .f32⟩
  | 95 => ⟨S8x1x576, .f32⟩
  | 96 => ⟨S8x1x576, .f32⟩
  | 97 => ⟨S8x1x576, .f32⟩
  | 98 => ⟨S8x1x576, .f32⟩
  | 99 => ⟨S8x1x576, .f32⟩
  | 100 => ⟨S8x1x576, .f32⟩
  | 101 => ⟨S8x1x576, .f32⟩
  | 102 => ⟨S8x1x576, .f32⟩
  | 103 => ⟨S8x1x576, .f32⟩
  | 104 => ⟨S8x1x576, .f32⟩
  | 105 => ⟨S8x1x576, .f32⟩
  | 106 => ⟨S8x1x576, .f32⟩
  | 107 => ⟨S8x1x576, .f32⟩
  | 108 => ⟨S8x1x576, .f32⟩
  | 109 => ⟨S8x1x576, .f32⟩
  | 110 => ⟨S8x1x576, .f32⟩
  | 111 => ⟨S8x1x576, .f32⟩
  | 112 => ⟨S8x1x576, .f32⟩
  | 113 => ⟨S8x1x576, .f32⟩
  | 114 => ⟨S8x1x576, .f32⟩
  | 115 => ⟨S8x1x576, .f32⟩
  | 116 => ⟨S8x1x576, .f32⟩
  | 117 => ⟨S8x1x576, .f32⟩
  | 118 => ⟨S8x1x576, .f32⟩
  | 119 => ⟨S8x1x576, .f32⟩
  | 120 => ⟨S8x1x576, .f32⟩
  | 121 => ⟨S8x1x576, .f32⟩
  | 122 => ⟨S8x1x576, .f32⟩
  | 123 => ⟨S8x1x576, .f32⟩
  | 124 => ⟨S8x1x576, .f32⟩
  | 125 => ⟨S8x1x576, .f32⟩
  | 126 => ⟨S8x1x576, .f32⟩
  | 127 => ⟨S8x1x576, .f32⟩
  | _ => ⟨S65536x512, .bf16⟩

abbrev hbmTy0_1 (i : Nat) : BufTy := match i % 128 with
  | 0 => ⟨S8x1x576, .f32⟩
  | 1 => ⟨S8x1x576, .f32⟩
  | 2 => ⟨S8x1x576, .f32⟩
  | 3 => ⟨S8x1x576, .f32⟩
  | 4 => ⟨S8x1x576, .f32⟩
  | 5 => ⟨S8x1x576, .f32⟩
  | 6 => ⟨S8x1x576, .f32⟩
  | 7 => ⟨S8x1x576, .f32⟩
  | 8 => ⟨S8x1x576, .f32⟩
  | 9 => ⟨S8x1x576, .f32⟩
  | 10 => ⟨S8x1x576, .f32⟩
  | 11 => ⟨S8x1x576, .f32⟩
  | 12 => ⟨S8x1x576, .f32⟩
  | 13 => ⟨S8x1x576, .f32⟩
  | 14 => ⟨S8x1x576, .f32⟩
  | 15 => ⟨S8x1x576, .f32⟩
  | 16 => ⟨S8x1x576, .f32⟩
  | 17 => ⟨S8x1x576, .f32⟩
  | 18 => ⟨S8x1x576, .f32⟩
  | 19 => ⟨S8x1x576, .f32⟩
  | 20 => ⟨S8x1x576, .f32⟩
  | 21 => ⟨S8x1x576, .f32⟩
  | 22 => ⟨S8x1x576, .f32⟩
  | 23 => ⟨S8x1x576, .f32⟩
  | 24 => ⟨S8x16x576, .f32⟩
  | 25 => ⟨S8x16x576, .f32⟩
  | 26 => ⟨S8x16x576, .f32⟩
  | 27 => ⟨S8x16x576, .f32⟩
  | 28 => ⟨S8x64x576, .f32⟩
  | 29 => ⟨S4x128x576, .f32⟩
  | 30 => ⟨S512x1024, .bf16⟩
  | 31 => ⟨S1024x1024, .bf16⟩
  | 32 => ⟨S1x1024, .f32⟩
  | 33 => ⟨S1x1024, .f32⟩
  | 34 => ⟨S1x1024, .f32⟩
  | 35 => ⟨S16x1024, .f32⟩
  | 36 => ⟨S16x1024, .bf16⟩
  | 37 => ⟨S16x1, .f32⟩
  | 38 => ⟨S65536x1152, .f32⟩
  | 39 => ⟨S128x1x512, .i32⟩
  | 40 => ⟨S128x1x512, .i32⟩
  | 41 => ⟨S32x128, .f32⟩
  | _ => ⟨S65536x512, .bf16⟩

abbrev hbmTy (i : Nat) : BufTy := match i / 128 with
  | 0 => hbmTy0_0 i
  | 1 => hbmTy0_1 i
  | _ => ⟨S65536x512, .bf16⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x2048, .bf16⟩
  | .local _ .vmem, ⟨13, _⟩ => ⟨S512x2048, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S4x128x576, .f32⟩
  | .local _ .vmem, ⟨18, _⟩ => ⟨S512x1024, .bf16⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S16x1024, .bf16⟩
  | .local _ .vmem, ⟨24, _⟩ => ⟨S16x1, .f32⟩
  | .local _ .vmem, ⟨25, _⟩ => ⟨S512x1152, .f32⟩
  | .local _ .vmem, ⟨26, _⟩ => ⟨S512x1152, .f32⟩
  | .local _ .vmem, ⟨27, _⟩ => ⟨S1x1x512, .i32⟩
  | .local _ .vmem, ⟨28, _⟩ => ⟨S1x1x512, .i32⟩
  | .local _ .vmem, ⟨29, _⟩ => ⟨S1x1x512, .i32⟩
  | .local _ .vmem, ⟨30, _⟩ => ⟨S1x1x512, .i32⟩
  | .local _ .vmem, ⟨31, _⟩ => ⟨S32x128, .f32⟩
  | .local _ .vmem, ⟨32, _⟩ => ⟨S1024x512, .bf16⟩
  | .local _ .vmem, ⟨33, _⟩ => ⟨S1024x512, .bf16⟩
  | .local _ .vmem, ⟨34, _⟩ => ⟨S512x512, .bf16⟩
  | .local _ .vmem, ⟨35, _⟩ => ⟨S2x4x128x576, .f32⟩
  | .local _ .vmem, ⟨36, _⟩ => ⟨S2x4x128x576, .bf16⟩
  | .local _ .vmem, ⟨37, _⟩ => ⟨S2x4x128x1, .f32⟩
  | .local _ .vmem, ⟨38, _⟩ => ⟨S512x512, .bf16⟩
  | .local _ .vmem, ⟨39, _⟩ => ⟨S32x128, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_v0 : Ref sig .tc := ⟨.hbm, 17, rfl⟩
abbrev main_c_1 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148_0 : Ref sig .tc := ⟨.hbm, 166, rfl⟩
abbrev main_v148_1 : Ref sig .tc := ⟨.hbm, 167, rfl⟩
abbrev main_v148_2 : Ref sig .tc := ⟨.hbm, 168, rfl⟩
abbrev main_v148_3 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_scratch7 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x576 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S16x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S16x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S512x1152 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x512 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x512 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 1 → Memref sig .tc .vmem S32x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== KernelIdeal.lean ====
variable {F : FTy → Type} [FloatOps F] [Named F]
def κ : String → Option EReal := fun
  | "log2e" => some (((Real.log 2)⁻¹ : ℝ) : EReal)
  | "mask" => some ⊥
  | "qscale" => some ((8⁻¹ * (Real.log 2)⁻¹ : ℝ) : EReal)
  | _ => none
-- ==== ReferenceIdeal.lean ====
abbrev S65536x512 : Shape := ⟨2, ![65536, 512]⟩
abbrev S65536x2048 : Shape := ⟨2, ![65536, 2048]⟩
abbrev S65536x1024 : Shape := ⟨2, ![65536, 1024]⟩
abbrev S512x1024 : Shape := ⟨2, ![512, 1024]⟩
abbrev S8x513 : Shape := ⟨2, ![8, 513]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S8x8192x8x64 : Shape := ⟨4, ![8, 8192, 8, 64]⟩
abbrev S8x128x64x8x64 : Shape := ⟨5, ![8, 128, 64, 8, 64]⟩
abbrev S_ : Shape := ⟨0, ![]⟩
abbrev S8x8704x8x64 : Shape := ⟨4, ![8, 8704, 8, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S128 : Shape := ⟨1, ![128]⟩
abbrev S128x1 : Shape := ⟨2, ![128, 1]⟩
abbrev S128x576 : Shape := ⟨2, ![128, 576]⟩
abbrev S128x576x1 : Shape := ⟨3, ![128, 576, 1]⟩
abbrev S8x128x576x8x64 : Shape := ⟨5, ![8, 128, 576, 8, 64]⟩
abbrev S8x128x8x64x576 : Shape := ⟨5, ![8, 128, 8, 64, 576]⟩
abbrev S1x1x8x64x576 : Shape := ⟨5, ![1, 1, 8, 64, 576]⟩
abbrev S1x128x1x1x576 : Shape := ⟨5, ![1, 128, 1, 1, 576]⟩
abbrev S8x128x8x64 : Shape := ⟨4, ![8, 128, 8, 64]⟩
abbrev S8x128x8x64x1 : Shape := ⟨5, ![8, 128, 8, 64, 1]⟩
abbrev S8x128x8x64x64 : Shape := ⟨5, ![8, 128, 8, 64, 64]⟩
abbrev S8x8192x512 : Shape := ⟨3, ![8, 8192, 512]⟩
abbrev S1x1024 : Shape := ⟨2, ![1, 1024]⟩
abbrev S65536 : Shape := ⟨1, ![65536]⟩
abbrev S65536x1 : Shape := ⟨2, ![65536, 1]⟩
abbrev S65536x16 : Shape := ⟨2, ![65536, 16]⟩
abbrev S1x16 : Shape := ⟨2, ![1, 16]⟩
abbrev S65536x4x4 : Shape := ⟨3, ![65536, 4, 4]⟩
abbrev S65536x4x2 : Shape := ⟨3, ![65536, 4, 2]⟩
abbrev S65536x4 : Shape := ⟨2, ![65536, 4]⟩
abbrev S65536x1x1 : Shape := ⟨3, ![65536, 1, 1]⟩
abbrev S1 : Shape := ⟨1, ![1]⟩
abbrev S1x1x1 : Shape := ⟨3, ![1, 1, 1]⟩
abbrev S65536x1x2 : Shape := ⟨3, ![65536, 1, 2]⟩
abbrev S65536x2 : Shape := ⟨2, ![65536, 2]⟩
abbrev S65536x126 : Shape := ⟨2, ![65536, 126]⟩
abbrev S65536x1152 : Shape := ⟨2, ![65536, 1152]⟩

abbrev nBuf : Space → Nat
  | .hbm => 262
  | .vmem => 0
  | .smem => 0
  | _ => 0

abbrev hbmTy0_0 (i : Nat) : BufTy := match i % 128 with
  | 0 => ⟨S65536x512, .bf16⟩
  | 1 => ⟨S65536x512, .f32⟩
  | 2 => ⟨S65536x512, .bf16⟩
  | 3 => ⟨S65536x512, .bf16⟩
  | 4 => ⟨S65536x2048, .bf16⟩
  | 5 => ⟨S65536x1024, .f32⟩
  | 6 => ⟨S512x1024, .f32⟩
  | 7 => ⟨S8x513, .f32⟩
  | 8 => ⟨S512x1024, .f32⟩
  | 9 => ⟨S1024x1024, .f32⟩
  | 10 => ⟨S1024, .f32⟩
  | 11 => ⟨S1024, .f32⟩
  | 12 => ⟨S1024, .f32⟩
  | 13 => ⟨S1024x16, .f32⟩
  | 14 => ⟨S16, .f32⟩
  | 15 => ⟨S65536x512, .f32⟩
  | 16 => ⟨S65536x1024, .f32⟩
  | 17 => ⟨S8x8192x8x64, .f32⟩
  | 18 => ⟨S65536x512, .f32⟩
  | 19 => ⟨S8x8192x8x64, .f32⟩
  | 20 => ⟨S65536x512, .f32⟩
  | 21 => ⟨S8x8192x8x64, .f32⟩
  | 22 => ⟨S8x128x64x8x64, .f32⟩
  | 23 => ⟨S_, .i32⟩
  | 24 => ⟨S_, .f32⟩
  | 25 => ⟨S8x8704x8x64, .f32⟩
  | 26 => ⟨S_, .i32⟩
  | 27 => ⟨S_, .f32⟩
  | 28 => ⟨S8x8704x8x64, .f32⟩
  | 29 => ⟨S64, .i32⟩
  | 30 => ⟨S64x1, .i32⟩
  | 31 => ⟨S576, .i32⟩
  | 32 => ⟨S1x576, .i32⟩
  | 33 => ⟨S64x576, .i32⟩
  | 34 => ⟨S64x576, .i32⟩
  | 35 => ⟨S64x576, .i32⟩
  | 36 => ⟨S_, .i32⟩
  | 37 => ⟨S64x576, .i32⟩
  | 38 => ⟨S64x576, .i32⟩
  | 39 => ⟨S_, .i32⟩
  | 40 => ⟨S_, .i32⟩
  | 41 => ⟨S_, .i32⟩
  | 42 => ⟨S64x576, .i32⟩
  | 43 => ⟨S64x576, .i32⟩
  | 44 => ⟨S_, .i32⟩
  | 45 => ⟨S64x576, .i32⟩
  | 46 => ⟨S64x576, .i32⟩
  | 47 => ⟨S_, .i32⟩
  | 48 => ⟨S64x576, .i32⟩
  | 49 => ⟨S64x576, .i32⟩
  | 50 => ⟨S_, .i32⟩
  | 51 => ⟨S64x576, .i32⟩
  | 52 => ⟨S64x576, .i1⟩
  | 53 => ⟨S_, .i32⟩
  | 54 => ⟨S64x576, .i32⟩
  | 55 => ⟨S64x576, .i32⟩
  | 56 => ⟨S64x576, .i32⟩
  | 57 => ⟨S64x576x1, .i32⟩
  | 58 => ⟨S8x64x576, .f32⟩
  | 59 => ⟨S128, .i32⟩
  | 60 => ⟨S128x1, .i32⟩
  | 61 => ⟨S_, .i32⟩
  | 62 => ⟨S128x1, .i32⟩
  | 63 => ⟨S128x1, .i32⟩
  | 64 => ⟨S576, .i32⟩
  | 65 => ⟨S1x576, .i32⟩
  | 66 => ⟨S128x576, .i32⟩
  | 67 => ⟨S128x576, .i32⟩
  | 68 => ⟨S128x576, .i32⟩
  | 69 => ⟨S_, .i32⟩
  | 70 => ⟨S128x576, .i32⟩
  | 71 => ⟨S128x576, .i1⟩
  | 72 => ⟨S_, .i32⟩
  | 73 => ⟨S128x576, .i32⟩
  | 74 => ⟨S128x576, .i32⟩
  | 75 => ⟨S128x576, .i32⟩
  | 76 => ⟨S128x576x1, .i32⟩
  | 77 => ⟨S8x128x576x8x64, .f32⟩
  | 78 => ⟨S_, .i32⟩
  | 79 => ⟨S128x576, .i32⟩
  | 80 => ⟨S128x576, .i1⟩
  | 81 => ⟨S_, .i32⟩
  | 82 => ⟨S128x576, .i32⟩
  | 83 => ⟨S128x576, .i32⟩
  | 84 => ⟨S128x576, .i32⟩
  | 85 => ⟨S128x576x1, .i32⟩
  | 86 => ⟨S8x128x576x8x64, .f32⟩
  | 87 => ⟨S8x128x8x64x576, .f32⟩
  | 88 => ⟨S_, .f32⟩
  | 89 => ⟨S8x128x8x64x576, .f32⟩
  | 90 => ⟨S8x128x8x64x576, .f32⟩
  | 91 => ⟨S1x1x8x64x576, .f32⟩
  | 92 => ⟨S8x128x8x64x576, .f32⟩
  | 93 => ⟨S8x128x8x64x576, .f32⟩
  | 94 => ⟨S_, .i32⟩
  | 95 => ⟨S128x576, .i32⟩
  | 96 => ⟨S128x576, .i1⟩
  | 97 => ⟨S1x128x1x1x576, .i1⟩
  | 98 => ⟨S_, .f32⟩
  | 99 => ⟨S_, .f32⟩
  | 100 => ⟨S8x128x8x64x576, .i1⟩
  | 101 => ⟨S8x128x8x64x576, .f32⟩
  | 102 => ⟨S8x128x8x64x576, .f32⟩
  | 103 => ⟨S_, .f32⟩
  | 104 => ⟨S8x128x8x64, .f32⟩
  | 105 => ⟨S_, .f32⟩
  | 106 => ⟨S8x128x8x64, .f32⟩
  | 107 => ⟨S8x128x8x64, .f32⟩
  | 108 => ⟨S8x128x8x64x1, .f32⟩
  | 109 => ⟨S8x128x8x64x576, .f32⟩
  | 110 => ⟨S8x128x8x64x576, .f32⟩
  | 111 => ⟨S8x128x8x64x576, .f32⟩
  | 112 => ⟨S_, .f32⟩
  | 113 => ⟨S8x128x8x64, .f32⟩
  | 114 => ⟨S8x128x8x64x1, .f32⟩
  | 115 => ⟨S8x128x8x64x576, .f32⟩
  | 116 => ⟨S8x128x8x64x576, .f32⟩
  | 117 => ⟨S8x128x8x64x64, .f32⟩
  | 118 => ⟨S8x128x64x8x64, .f32⟩
  | 119 => ⟨S8x8192x512, .f32⟩
  | 120 => ⟨S65536x512, .f32⟩
  | 121 => ⟨S65536x1024, .f32⟩
  | 122 => ⟨S65536x2048, .f32⟩
  | 123 => ⟨S65536x1024, .f32⟩
  | 124 => ⟨S65536x1024, .f32⟩
  | 125 => ⟨S65536x1024, .f32⟩
  | 126 => ⟨S65536x1024, .f32⟩
  | 127 => ⟨S65536x1024, .f32⟩
  | _ => ⟨S65536x512, .bf16⟩

abbrev hbmTy0_1 (i : Nat) : BufTy := match i % 128 with
  | 0 => ⟨S65536x1024, .f32⟩
  | 1 => ⟨S1x1024, .f32⟩
  | 2 => ⟨S65536x1024, .f32⟩
  | 3 => ⟨S65536x1024, .f32⟩
  | 4 => ⟨S_, .f32⟩
  | 5 => ⟨S65536x1024, .f32⟩
  | 6 => ⟨S65536x1024, .f32⟩
  | 7 => ⟨S65536x1024, .f32⟩
  | 8 => ⟨S_, .f32⟩
  | 9 => ⟨S65536, .f32⟩
  | 10 => ⟨S65536x1, .f32⟩
  | 11 => ⟨S_, .f32⟩
  | 12 => ⟨S65536x1, .f32⟩
  | 13 => ⟨S65536x1, .f32⟩
  | 14 => ⟨S65536x1024, .f32⟩
  | 15 => ⟨S65536x1024, .f32⟩
  | 16 => ⟨S65536x1024, .f32⟩
  | 17 => ⟨S_, .f32⟩
  | 18 => ⟨S65536, .f32⟩
  | 19 => ⟨S65536x1, .f32⟩
  | 20 => ⟨S_, .f32⟩
  | 21 => ⟨S65536x1, .f32⟩
  | 22 => ⟨S65536x1, .f32⟩
  | 23 => ⟨S65536x1024, .f32⟩
  | 24 => ⟨S65536x1024, .f32⟩
  | 25 => ⟨S_, .f32⟩
  | 26 => ⟨S65536x1, .f32⟩
  | 27 => ⟨S65536x1, .f32⟩
  | 28 => ⟨S65536x1, .f32⟩
  | 29 => ⟨S65536x1024, .f32⟩
  | 30 => ⟨S65536x1024, .f32⟩
  | 31 => ⟨S1x1024, .f32⟩
  | 32 => ⟨S65536x1024, .f32⟩
  | 33 => ⟨S65536x1024, .f32⟩
  | 34 => ⟨S1x1024, .f32⟩
  | 35 => ⟨S65536x1024, .f32⟩
  | 36 => ⟨S65536x1024, .f32⟩
  | 37 => ⟨S65536x16, .f32⟩
  | 38 => ⟨S1x16, .f32⟩
  | 39 => ⟨S65536x16, .f32⟩
  | 40 => ⟨S65536x16, .f32⟩
  | 41 => ⟨S_, .f32⟩
  | 42 => ⟨S65536, .f32⟩
  | 43 => ⟨S_, .f32⟩
  | 44 => ⟨S65536, .f32⟩
  | 45 => ⟨S65536, .f32⟩
  | 46 => ⟨S65536x1, .f32⟩
  | 47 => ⟨S65536x16, .f32⟩
  | 48 => ⟨S65536x16, .f32⟩
  | 49 => ⟨S65536x16, .f32⟩
  | 50 => ⟨S_, .f32⟩
  | 51 => ⟨S65536, .f32⟩
  | 52 => ⟨S65536x1, .f32⟩
  | 53 => ⟨S65536x16, .f32⟩
  | 54 => ⟨S65536x16, .f32⟩
  | 55 => ⟨S65536x4x4, .f32⟩
  | 56 => ⟨S65536x4x2, .f32⟩
  | 57 => ⟨S65536x4x2, .i32⟩
  | 58 => ⟨S_, .f32⟩
  | 59 => ⟨S65536x4, .f32⟩
  | 60 => ⟨S65536x1, .f32⟩
  | 61 => ⟨S65536x1, .i32⟩
  | 62 => ⟨S65536, .i32⟩
  | 63 => ⟨S65536x1x1, .i32⟩
  | 64 => ⟨S_, .i32⟩
  | 65 => ⟨S65536x1x1, .i32⟩
  | 66 => ⟨S65536x1x1, .i1⟩
  | 67 => ⟨S_, .i32⟩
  | 68 => ⟨S65536x1x1, .i32⟩
  | 69 => ⟨S65536x1x1, .i32⟩
  | 70 => ⟨S65536x1x1, .i32⟩
  | 71 => ⟨S1, .i32⟩
  | 72 => ⟨S_, .i32⟩
  | 73 => ⟨S65536x1x1, .i32⟩
  | 74 => ⟨S65536x1x1, .i1⟩
  | 75 => ⟨S1x1x1, .i32⟩
  | 76 => ⟨S65536x1x1, .i32⟩
  | 77 => ⟨S65536x1x1, .i1⟩
  | 78 => ⟨S65536x1x1, .i1⟩
  | 79 => ⟨S_, .i1⟩
  | 80 => ⟨S65536x1, .i1⟩
  | 81 => ⟨S65536x1x2, .f32⟩
  | 82 => ⟨S65536x1x2, .i1⟩
  | 83 => ⟨S_, .f32⟩
  | 84 => ⟨S65536x1x2, .f32⟩
  | 85 => ⟨S65536x1x2, .f32⟩
  | 86 => ⟨S65536x2, .f32⟩
  | 87 => ⟨S65536x1x1, .i32⟩
  | 88 => ⟨S_, .i32⟩
  | 89 => ⟨S65536x1x1, .i32⟩
  | 90 => ⟨S65536x1x1, .i1⟩
  | 91 => ⟨S_, .i32⟩
  | 92 => ⟨S65536x1x1, .i32⟩
  | 93 => ⟨S65536x1x1, .i32⟩
  | 94 => ⟨S65536x1x1, .i32⟩
  | 95 => ⟨S1, .i32⟩
  | 96 => ⟨S_, .i32⟩
  | 97 => ⟨S65536x1x1, .i32⟩
  | 98 => ⟨S65536x1x1, .i1⟩
  | 99 => ⟨S1x1x1, .i32⟩
  | 100 => ⟨S65536x1x1, .i32⟩
  | 101 => ⟨S65536x1x1, .i1⟩
  | 102 => ⟨S65536x1x1, .i1⟩
  | 103 => ⟨S_, .i1⟩
  | 104 => ⟨S65536x1, .i1⟩
  | 105 => ⟨S65536x1x2, .i32⟩
  | 106 => ⟨S65536x1x2, .i1⟩
  | 107 => ⟨S_, .i32⟩
  | 108 => ⟨S65536x1x2, .i32⟩
  | 109 => ⟨S65536x1x2, .i32⟩
  | 110 => ⟨S65536x2, .i32⟩
  | 111 => ⟨S65536x1, .i32⟩
  | 112 => ⟨S_, .i32⟩
  | 113 => ⟨S65536x1, .i32⟩
  | 114 => ⟨S65536x1, .i32⟩
  | 115 => ⟨S65536x2, .i32⟩
  | 116 => ⟨S65536x2, .i32⟩
  | 117 => ⟨S_, .f32⟩
  | 118 => ⟨S65536, .f32⟩
  | 119 => ⟨S65536x1, .f32⟩
  | 120 => ⟨S65536x2, .f32⟩
  | 121 => ⟨S65536x2, .f32⟩
  | 122 => ⟨S65536x1, .i32⟩
  | 123 => ⟨S65536x1, .i32⟩
  | 124 => ⟨S65536x1, .i1⟩
  | 125 => ⟨S65536x1, .f32⟩
  | 126 => ⟨S65536x1, .f32⟩
  | 127 => ⟨S65536x1, .f32⟩
  | _ => ⟨S65536x512, .bf16⟩

abbrev hbmTy0_2 (i : Nat) : BufTy := match i % 128 with
  | 0 => ⟨S65536x1, .f32⟩
  | 1 => ⟨S65536x1, .f32⟩
  | 2 => ⟨S65536x1, .f32⟩
  | 3 => ⟨S_, .f32⟩
  | 4 => ⟨S65536x126, .f32⟩
  | 5 => ⟨S65536x1152, .f32⟩
  | _ => ⟨S65536x512, .bf16⟩

abbrev hbmTy (i : Nat) : BufTy := match i / 128 with
  | 0 => hbmTy0_0 i
  | 1 => hbmTy0_1 i
  | 2 => hbmTy0_2 i
  | _ => ⟨S65536x512, .bf16⟩

abbrev bufTy : (tb : Table) → Fin (tcTables nBuf tb) → BufTy
  | .hbm, ⟨i, _⟩ => hbmTy i
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_call0_v0 : Ref sig .tc := ⟨.hbm, 24, rfl⟩
abbrev main_v8 : Ref sig .tc := ⟨.hbm, 25, rfl⟩
abbrev main_c_0 : Ref sig .tc := ⟨.hbm, 26, rfl⟩
abbrev main_call1_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_1 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_c_3 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_c_5 : Ref sig .tc := ⟨.hbm, 50, rfl⟩
abbrev main_v22 : Ref sig .tc := ⟨.hbm, 51, rfl⟩
abbrev main_v23 : Ref sig .tc := ⟨.hbm, 52, rfl⟩
abbrev main_c_6 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_7 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_8 : Ref sig .tc := ⟨.hbm, 69, rfl⟩
abbrev main_v38 : Ref sig .tc := ⟨.hbm, 70, rfl⟩
abbrev main_v39 : Ref sig .tc := ⟨.hbm, 71, rfl⟩
abbrev main_c_9 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_10 : Ref sig .tc := ⟨.hbm, 78, rfl⟩
abbrev main_v45 : Ref sig .tc := ⟨.hbm, 79, rfl⟩
abbrev main_v46 : Ref sig .tc := ⟨.hbm, 80, rfl⟩
abbrev main_c_11 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_12 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_13 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v61 : Ref sig .tc := ⟨.hbm, 102, rfl⟩
abbrev main_cst_14 : Ref sig .tc := ⟨.hbm, 103, rfl⟩
abbrev main_v62 : Ref sig .tc := ⟨.hbm, 104, rfl⟩
abbrev main_cst_15 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_16 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_17 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_18 : Ref sig .tc := ⟨.hbm, 136, rfl⟩
abbrev main_v91 : Ref sig .tc := ⟨.hbm, 137, rfl⟩
abbrev main_v92 : Ref sig .tc := ⟨.hbm, 138, rfl⟩
abbrev main_cst_19 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_20 : Ref sig .tc := ⟨.hbm, 145, rfl⟩
abbrev main_v98 : Ref sig .tc := ⟨.hbm, 146, rfl⟩
abbrev main_v99 : Ref sig .tc := ⟨.hbm, 147, rfl⟩
abbrev main_cst_21 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst_22 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_cst_23 : Ref sig .tc := ⟨.hbm, 169, rfl⟩
abbrev main_v119 : Ref sig .tc := ⟨.hbm, 170, rfl⟩
abbrev main_cst_24 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_cst_25 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_values : Ref sig .tc := ⟨.hbm, 184, rfl⟩
abbrev main_indices : Ref sig .tc := ⟨.hbm, 185, rfl⟩
abbrev main_cst_26 : Ref sig .tc := ⟨.hbm, 186, rfl⟩
abbrev main_v131 : Ref sig .tc := ⟨.hbm, 187, rfl⟩
abbrev main_values_27 : Ref sig .tc := ⟨.hbm, 188, rfl⟩
abbrev main_indices_28 : Ref sig .tc := ⟨.hbm, 189, rfl⟩
abbrev main_v132 : Ref sig .tc := ⟨.hbm, 190, rfl⟩
abbrev main_v133 : Ref sig .tc := ⟨.hbm, 191, rfl⟩
abbrev main_call4_c : Ref sig .tc := ⟨.hbm, 192, rfl⟩
abbrev main_call4_v0 : Ref sig .tc := ⟨.hbm, 193, rfl⟩
abbrev main_call4_v1 : Ref sig .tc := ⟨.hbm, 194, rfl⟩
abbrev main_call4_c_0 : Ref sig .tc := ⟨.hbm, 195, rfl⟩
abbrev main_call4_v2 : Ref sig .tc := ⟨.hbm, 196, rfl⟩
abbrev main_call4_v3 : Ref sig .tc := ⟨.hbm, 197, rfl⟩
abbrev main_call4_v4 : Ref sig .tc := ⟨.hbm, 198, rfl⟩
abbrev main_call4_c_1 : Ref sig .tc := ⟨.hbm, 199, rfl⟩
abbrev main_call4_c_2 : Ref sig .tc := ⟨.hbm, 200, rfl⟩
abbrev main_call4_v5 : Ref sig .tc := ⟨.hbm, 201, rfl⟩
abbrev main_call4_v6 : Ref sig .tc := ⟨.hbm, 202, rfl⟩
abbrev main_call4_v7 : Ref sig .tc := ⟨.hbm, 203, rfl⟩
abbrev main_call4_v8 : Ref sig .tc := ⟨.hbm, 204, rfl⟩
abbrev main_call4_v9 : Ref sig .tc := ⟨.hbm, 205, rfl⟩
abbrev main_call4_v10 : Ref sig .tc := ⟨.hbm, 206, rfl⟩
abbrev main_call4_c_3 : Ref sig .tc := ⟨.hbm, 207, rfl⟩
abbrev main_call4_v11 : Ref sig .tc := ⟨.hbm, 208, rfl⟩
abbrev main_call4_v12 : Ref sig .tc := ⟨.hbm, 209, rfl⟩
abbrev main_call4_v13 : Ref sig .tc := ⟨.hbm, 210, rfl⟩
abbrev main_call4_cst : Ref sig .tc := ⟨.hbm, 211, rfl⟩
abbrev main_call4_v14 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_call5_c : Ref sig .tc := ⟨.hbm, 216, rfl⟩
abbrev main_call5_v0 : Ref sig .tc := ⟨.hbm, 217, rfl⟩
abbrev main_call5_v1 : Ref sig .tc := ⟨.hbm, 218, rfl⟩
abbrev main_call5_c_0 : Ref sig .tc := ⟨.hbm, 219, rfl⟩
abbrev main_call5_v2 : Ref sig .tc := ⟨.hbm, 220, rfl⟩
abbrev main_call5_v3 : Ref sig .tc := ⟨.hbm, 221, rfl⟩
abbrev main_call5_v4 : Ref sig .tc := ⟨.hbm, 222, rfl⟩
abbrev main_call5_c_1 : Ref sig .tc := ⟨.hbm, 223, rfl⟩
abbrev main_call5_c_2 : Ref sig .tc := ⟨.hbm, 224, rfl⟩
abbrev main_call5_v5 : Ref sig .tc := ⟨.hbm, 225, rfl⟩
abbrev main_call5_v6 : Ref sig .tc := ⟨.hbm, 226, rfl⟩
abbrev main_call5_v7 : Ref sig .tc := ⟨.hbm, 227, rfl⟩
abbrev main_call5_v8 : Ref sig .tc := ⟨.hbm, 228, rfl⟩
abbrev main_call5_v9 : Ref sig .tc := ⟨.hbm, 229, rfl⟩
abbrev main_call5_v10 : Ref sig .tc := ⟨.hbm, 230, rfl⟩
abbrev main_call5_c_3 : Ref sig .tc := ⟨.hbm, 231, rfl⟩
abbrev main_call5_v11 : Ref sig .tc := ⟨.hbm, 232, rfl⟩
abbrev main_call5_v12 : Ref sig .tc := ⟨.hbm, 233, rfl⟩
abbrev main_call5_v13 : Ref sig .tc := ⟨.hbm, 234, rfl⟩
abbrev main_call5_c_4 : Ref sig .tc := ⟨.hbm, 235, rfl⟩
abbrev main_call5_v14 : Ref sig .tc := ⟨.hbm, 236, rfl⟩
abbrev main_v137 : Ref sig .tc := ⟨.hbm, 237, rfl⟩
abbrev main_v138 : Ref sig .tc := ⟨.hbm, 238, rfl⟩
abbrev main_v139 : Ref sig .tc := ⟨.hbm, 239, rfl⟩
abbrev main_c_29 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_v143 : Ref sig .tc := ⟨.hbm, 244, rfl⟩
abbrev main_cst_30 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_cst_31 : Ref sig .tc := ⟨.hbm, 259, rfl⟩
abbrev main_v157 : Ref sig .tc := ⟨.hbm, 260, rfl⟩
abbrev main_v158 : Ref sig .tc := ⟨.hbm, 261, rfl⟩

abbrev nD : Nat := 1
abbrev τ : Topo := Topo.v7x

variable {F : FTy → Type} [FloatOps F]
-- ==== Experts.lean ====
abbrev S280 : Shape := ⟨1, ![280]⟩
abbrev S71680x1152 : Shape := ⟨2, ![71680, 1152]⟩
abbrev S16x1024x1024 : Shape := ⟨3, ![16, 1024, 1024]⟩
abbrev S16x512x1024 : Shape := ⟨3, ![16, 512, 1024]⟩
abbrev S1024 : Shape := ⟨1, ![1024]⟩
abbrev S1x1024 : Shape := ⟨2, ![1, 1024]⟩
abbrev S280x1x1 : Shape := ⟨3, ![280, 1, 1]⟩
abbrev S71680x1024 : Shape := ⟨2, ![71680, 1024]⟩
abbrev S1x1x1 : Shape := ⟨3, ![1, 1, 1]⟩
abbrev S256x1152 : Shape := ⟨2, ![256, 1152]⟩
abbrev S1x1024x1024 : Shape := ⟨3, ![1, 1024, 1024]⟩
abbrev S1 : Shape := ⟨1, ![1]⟩
abbrev S1x512x1024 : Shape := ⟨3, ![1, 512, 1024]⟩
abbrev S256x1024 : Shape := ⟨2, ![256, 1024]⟩
abbrev S1024x1024 : Shape := ⟨2, ![1024, 1024]⟩
abbrev S256x512 : Shape := ⟨2, ![256, 512]⟩
abbrev S512x1024 : Shape := ⟨2, ![512, 1024]⟩
abbrev S256x1 : Shape := ⟨2, ![256, 1]⟩
abbrev S256 : Shape := ⟨1, ![256]⟩

abbrev nBuf : Space → Nat
  | .hbm => 12
  | .vmem => 14
  | .smem => 4
  | _ => 0

abbrev bufTy : (tb : Table) → Fin (tcTables nBuf tb) → BufTy
  | .hbm, ⟨0, _⟩ => ⟨S280, .i32⟩
  | .hbm, ⟨1, _⟩ => ⟨S71680x1152, .f32⟩
  | .hbm, ⟨2, _⟩ => ⟨S16x1024x1024, .f32⟩
  | .hbm, ⟨3, _⟩ => ⟨S16x512x1024, .f32⟩
  | .hbm, ⟨4, _⟩ => ⟨S1024, .f32⟩
  | .hbm, ⟨5, _⟩ => ⟨S1024, .f32⟩
  | .hbm, ⟨6, _⟩ => ⟨S16x1024x1024, .bf16⟩
  | .hbm, ⟨7, _⟩ => ⟨S16x512x1024, .bf16⟩
  | .hbm, ⟨8, _⟩ => ⟨S1x1024, .f32⟩
  | .hbm, ⟨9, _⟩ => ⟨S1x1024, .f32⟩
  | .hbm, ⟨10, _⟩ => ⟨S280x1x1, .i32⟩
  | .hbm, ⟨11, _⟩ => ⟨S71680x1024, .f32⟩
  | .local _ .vmem, ⟨0, _⟩ => ⟨S256x1152, .f32⟩
  | .local _ .vmem, ⟨1, _⟩ => ⟨S256x1152, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .smem, ⟨0, _⟩ => ⟨S280, .i32⟩
  | .local _ .smem, ⟨1, _⟩ => ⟨S280, .i32⟩
  | .local _ .smem, ⟨2, _⟩ => ⟨S1x1x1, .i32⟩
  | .local _ .smem, ⟨3, _⟩ => ⟨S1x1x1, .i32⟩
  | _, _ => ⟨S280, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_arg0 : Ref sig .tc := ⟨.smem, 0, rfl⟩
abbrev main_arg1 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg0_0 : Ref sig .tc := ⟨.smem, 2, rfl⟩
abbrev cc0_stg0_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![280], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ExpertsReferenceIdeal.lean ====
abbrev S280 : Shape := ⟨1, ![280]⟩
abbrev S71680x1152 : Shape := ⟨2, ![71680, 1152]⟩
abbrev S16x1024x1024 : Shape := ⟨3, ![16, 1024, 1024]⟩
abbrev S16x512x1024 : Shape := ⟨3, ![16, 512, 1024]⟩
abbrev S1024 : Shape := ⟨1, ![1024]⟩
abbrev S71680x1024 : Shape := ⟨2, ![71680, 1024]⟩
abbrev S71680x2 : Shape := ⟨2, ![71680, 2]⟩
abbrev S280x1 : Shape := ⟨2, ![280, 1]⟩
abbrev S280x256 : Shape := ⟨2, ![280, 256]⟩
abbrev S71680 : Shape := ⟨1, ![71680]⟩
abbrev S71680x1 : Shape := ⟨2, ![71680, 1]⟩
abbrev S71680x2x1 : Shape := ⟨3, ![71680, 2, 1]⟩
abbrev S1x1x16 : Shape := ⟨3, ![1, 1, 16]⟩
abbrev S71680x2x16 : Shape := ⟨3, ![71680, 2, 16]⟩
abbrev S71680x16 : Shape := ⟨2, ![71680, 16]⟩
abbrev S16x1024x71680 : Shape := ⟨3, ![16, 1024, 71680]⟩
abbrev S16x71680x1024 : Shape := ⟨3, ![16, 71680, 1024]⟩
abbrev S16x71680x512 : Shape := ⟨3, ![16, 71680, 512]⟩
abbrev S_ : Shape := ⟨0, ![]⟩
abbrev S1x1024 : Shape := ⟨2, ![1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S280, .i32⟩
  | .hbm, ⟨1, _⟩ => ⟨S280, .i32⟩
  | .hbm, ⟨2, _⟩ => ⟨S280, .i32⟩
  | .hbm, ⟨3, _⟩ => ⟨S71680x1152, .f32⟩
  | .hbm, ⟨4, _⟩ => ⟨S16x1024x1024, .f32⟩
  | .hbm, ⟨5, _⟩ => ⟨S16x512x1024, .f32⟩
  | .hbm, ⟨6, _⟩ => ⟨S1024, .f32⟩
  | .hbm, ⟨7, _⟩ => ⟨S1024, .f32⟩
  | .hbm, ⟨8, _⟩ => ⟨S71680x1024, .f32⟩
  | .hbm, ⟨9, _⟩ => ⟨S71680x2, .f32⟩
  | .hbm, ⟨10, _⟩ => ⟨S280x1, .i32⟩
  | .hbm, ⟨11, _⟩ => ⟨S280x256, .i32⟩
  | .hbm, ⟨12, _⟩ => ⟨S71680, .i32⟩
  | .hbm, ⟨13, _⟩ => ⟨S280x1, .i32⟩
  | .hbm, ⟨14, _⟩ => ⟨S280x256, .i32⟩
  | .hbm, ⟨15, _⟩ => ⟨S71680, .i32⟩
  | .hbm, ⟨16, _⟩ => ⟨S71680x1, .i32⟩
  | .hbm, ⟨17, _⟩ => ⟨S71680x1, .i32⟩
  | .hbm, ⟨18, _⟩ => ⟨S71680x2, .i32⟩
  | .hbm, ⟨19, _⟩ => ⟨S71680x2x1, .i32⟩
  | .hbm, ⟨20, _⟩ => ⟨S1x1x16, .i32⟩
  | .hbm, ⟨21, _⟩ => ⟨S71680x2x16, .i32⟩
  | .hbm, ⟨22, _⟩ => ⟨S71680x2x16, .i32⟩
  | .hbm, ⟨23, _⟩ => ⟨S71680x2x16, .i1⟩
  | .hbm, ⟨24, _⟩ => ⟨S71680x2x16, .f32⟩
  | .hbm, ⟨25, _⟩ => ⟨S71680x16, .f32⟩
  | .hbm, ⟨26, _⟩ => ⟨S16x1024x71680, .f32⟩
  | .hbm, ⟨27, _⟩ => ⟨S16x71680x1024, .f32⟩
  | .hbm, ⟨28, _⟩ => ⟨S16x71680x512, .f32⟩
  | .hbm, ⟨29, _⟩ => ⟨S16x71680x512, .f32⟩
  | .hbm, ⟨30, _⟩ => ⟨S16x71680x512, .f32⟩
  | .hbm, ⟨31, _⟩ => ⟨S16x71680x512, .f32⟩
  | .hbm, ⟨32, _⟩ => ⟨S_, .f32⟩
  | .hbm, ⟨33, _⟩ => ⟨S16x71680x512, .f32⟩
  | .hbm, ⟨34, _⟩ => ⟨S16x71680x512, .f32⟩
  | .hbm, ⟨35, _⟩ => ⟨S_, .f32⟩
  | .hbm, ⟨36, _⟩ => ⟨S16x71680x512, .f32⟩
  | .hbm, ⟨37, _⟩ => ⟨S16x71680x512, .f32⟩
  | .hbm, ⟨38, _⟩ => ⟨S16x71680x512, .f32⟩
  | .hbm, ⟨39, _⟩ => ⟨S16x71680x512, .f32⟩
  | .hbm, ⟨40, _⟩ => ⟨S16x71680x1024, .f32⟩
  | .hbm, ⟨41, _⟩ => ⟨S71680x1024, .f32⟩
  | .hbm, ⟨42, _⟩ => ⟨S_, .f32⟩
  | .hbm, ⟨43, _⟩ => ⟨S71680x1024, .f32⟩
  | .hbm, ⟨44, _⟩ => ⟨S71680x1024, .f32⟩
  | .hbm, ⟨45, _⟩ => ⟨S71680x1024, .f32⟩
  | .hbm, ⟨46, _⟩ => ⟨S_, .f32⟩
  | .hbm, ⟨47, _⟩ => ⟨S71680, .f32⟩
  | .hbm, ⟨48, _⟩ => ⟨S71680x1, .f32⟩
  | .hbm, ⟨49, _⟩ => ⟨S_, .f32⟩
  | .hbm, ⟨50, _⟩ => ⟨S71680x1, .f32⟩
  | .hbm, ⟨51, _⟩ => ⟨S71680x1, .f32⟩
  | .hbm, ⟨52, _⟩ => ⟨S71680x1024, .f32⟩
  | .hbm, ⟨53, _⟩ => ⟨S71680x1024, .f32⟩
  | .hbm, ⟨54, _⟩ => ⟨S71680x1024, .f32⟩
  | .hbm, ⟨55, _⟩ => ⟨S_, .f32⟩
  | .hbm, ⟨56, _⟩ => ⟨S71680, .f32⟩
  | .hbm, ⟨57, _⟩ => ⟨S71680x1, .f32⟩
  | .hbm, ⟨58, _⟩ => ⟨S_, .f32⟩
  | .hbm, ⟨59, _⟩ => ⟨S71680x1, .f32⟩
  | .hbm, ⟨60, _⟩ => ⟨S71680x1, .f32⟩
  | .hbm, ⟨61, _⟩ => ⟨S71680x1024, .f32⟩
  | .hbm, ⟨62, _⟩ => ⟨S71680x1024, .f32⟩
  | .hbm, ⟨63, _⟩ => ⟨S_, .f32⟩
  | .hbm, ⟨64, _⟩ => ⟨S71680x1, .f32⟩
  | .hbm, ⟨65, _⟩ => ⟨S71680x1, .f32⟩
  | .hbm, ⟨66, _⟩ => ⟨S71680x1, .f32⟩
  | .hbm, ⟨67, _⟩ => ⟨S71680x1024, .f32⟩
  | .hbm, ⟨68, _⟩ => ⟨S71680x1024, .f32⟩
  | .hbm, ⟨69, _⟩ => ⟨S1x1024, .f32⟩
  | .hbm, ⟨70, _⟩ => ⟨S71680x1024, .f32⟩
  | .hbm, ⟨71, _⟩ => ⟨S71680x1024, .f32⟩
  | .hbm, ⟨72, _⟩ => ⟨S1x1024, .f32⟩
  | .hbm, ⟨73, _⟩ => ⟨S71680x1024, .f32⟩
  | .hbm, ⟨74, _⟩ => ⟨S71680x1024, .f32⟩
  | .hbm, ⟨75, _⟩ => ⟨S280x1, .i32⟩
  | .hbm, ⟨76, _⟩ => ⟨S280x256, .i32⟩
  | .hbm, ⟨77, _⟩ => ⟨S71680, .i32⟩
  | .hbm, ⟨78, _⟩ => ⟨S71680x1, .i32⟩
  | .hbm, ⟨79, _⟩ => ⟨S_, .i32⟩
  | .hbm, ⟨80, _⟩ => ⟨S71680x1, .i32⟩
  | .hbm, ⟨81, _⟩ => ⟨S71680x1, .i1⟩
  | .hbm, ⟨82, _⟩ => ⟨S_, .f32⟩
  | .hbm, ⟨83, _⟩ => ⟨S_, .f32⟩
  | .hbm, ⟨84, _⟩ => ⟨S71680x1024, .i1⟩
  | .hbm, ⟨85, _⟩ => ⟨S71680x1024, .f32⟩
  | .hbm, ⟨86, _⟩ => ⟨S71680x1024, .f32⟩
  | _, _ => ⟨S280, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_0 : Ref sig .tc := ⟨.hbm, 46, rfl⟩
abbrev main_v24 : Ref sig .tc := ⟨.hbm, 47, rfl⟩
abbrev main_v25 : Ref sig .tc := ⟨.hbm, 48, rfl⟩
abbrev main_cst_1 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_2 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c : Ref sig .tc := ⟨.hbm, 79, rfl⟩
abbrev main_v52 : Ref sig .tc := ⟨.hbm, 80, rfl⟩
abbrev main_v53 : Ref sig .tc := ⟨.hbm, 81, rfl⟩
abbrev main_cst_5 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v54 : Ref sig .tc := ⟨.hbm, 86, rfl⟩

abbrev nD : Nat := 1
abbrev τ : Topo := Topo.v7x

variable {F : FTy → Type} [FloatOps F]
-- ==== Projection.lean ====
abbrev S65536x1024 : Shape := ⟨2, ![65536, 1024]⟩
abbrev S1024x4608 : Shape := ⟨2, ![1024, 4608]⟩
abbrev S4608 : Shape := ⟨1, ![4608]⟩
abbrev S31x512 : Shape := ⟨2, ![31, 512]⟩
abbrev S512 : Shape := ⟨1, ![512]⟩
abbrev S_ : Shape := ⟨0, ![]⟩
abbrev S32x512 : Shape := ⟨2, ![32, 512]⟩
abbrev S1 : Shape := ⟨1, ![1]⟩
abbrev S1x4608 : Shape := ⟨2, ![1, 4608]⟩
abbrev S1x512 : Shape := ⟨2, ![1, 512]⟩
abbrev S65536x512 : Shape := ⟨2, ![65536, 512]⟩
abbrev S65536x2048 : Shape := ⟨2, ![65536, 2048]⟩
abbrev S512x1024 : Shape := ⟨2, ![512, 1024]⟩
abbrev S512x512 : Shape := ⟨2, ![512, 512]⟩
abbrev S512x2048 : Shape := ⟨2, ![512, 2048]⟩
abbrev S544x512 : Shape := ⟨2, ![544, 512]⟩
abbrev S7x544x512 : Shape := ⟨3, ![7, 544, 512]⟩
abbrev S1024x512 : Shape := ⟨2, ![1024, 512]⟩
abbrev S536x512 : Shape := ⟨2, ![536, 512]⟩
abbrev S1x536x512 : Shape := ⟨3, ![1, 536, 512]⟩
abbrev S128x128 : Shape := ⟨2, ![128, 128]⟩
abbrev S1x128x128 : Shape := ⟨3, ![1, 128, 128]⟩
abbrev S1x128 : Shape := ⟨2, ![1, 128]⟩
abbrev S128x512 : Shape := ⟨2, ![128, 512]⟩
abbrev S128 : Shape := ⟨1, ![128]⟩
abbrev S128x1 : Shape := ⟨2, ![128, 1]⟩

abbrev nBuf : Space → Nat
  | .hbm => 22
  | .vmem => 20
  | .smem => 0
  | _ => 0

abbrev bufTy : (tb : Table) → Fin (tcTables nBuf tb) → BufTy
  | .hbm, ⟨0, _⟩ => ⟨S65536x1024, .f32⟩
  | .hbm, ⟨1, _⟩ => ⟨S1024x4608, .f32⟩
  | .hbm, ⟨2, _⟩ => ⟨S4608, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S_, .f32⟩
  | .hbm, ⟨8, _⟩ => ⟨S32x512, .f32⟩
  | .hbm, ⟨9, _⟩ => ⟨S_, .i32⟩
  | .hbm, ⟨10, _⟩ => ⟨S1, .i32⟩
  | .hbm, ⟨11, _⟩ => ⟨S32x512, .f32⟩
  | .hbm, ⟨12, _⟩ => ⟨S1024x4608, .bf16⟩
  | .hbm, ⟨13, _⟩ => ⟨S1x4608, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S65536x512, .bf16⟩
  | .hbm, ⟨18, _⟩ => ⟨S65536x512, .bf16⟩
  | .hbm, ⟨19, _⟩ => ⟨S65536x512, .bf16⟩
  | .hbm, ⟨20, _⟩ => ⟨S65536x512, .bf16⟩
  | .hbm, ⟨21, _⟩ => ⟨S65536x2048, .bf16⟩
  | .local _ .vmem, ⟨0, _⟩ => ⟨S512x1024, .f32⟩
  | .local _ .vmem, ⟨1, _⟩ => ⟨S512x1024, .f32⟩
  | .local _ .vmem, ⟨2, _⟩ => ⟨S1024x4608, .bf16⟩
  | .local _ .vmem, ⟨3, _⟩ => ⟨S1x4608, .f32⟩
  | .local _ .vmem, ⟨4, _⟩ => ⟨S32x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x2048, .bf16⟩
  | .local _ .vmem, ⟨17, _⟩ => ⟨S512x2048, .bf16⟩
  | .local _ .vmem, ⟨18, _⟩ => ⟨S544x512, .f32⟩
  | .local _ .vmem, ⟨19, _⟩ => ⟨S7x544x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjectionReferenceIdeal.lean ====
abbrev S65536x1024 : Shape := ⟨2, ![65536, 1024]⟩
abbrev S1024x4608 : Shape := ⟨2, ![1024, 4608]⟩
abbrev S4608 : Shape := ⟨1, ![4608]⟩
abbrev S31x512 : Shape := ⟨2, ![31, 512]⟩
abbrev S512 : Shape := ⟨1, ![512]⟩
abbrev S65536x4608 : Shape := ⟨2, ![65536, 4608]⟩
abbrev S1x4608 : Shape := ⟨2, ![1, 4608]⟩
abbrev S65536x512 : Shape := ⟨2, ![65536, 512]⟩
abbrev S65536x2048 : Shape := ⟨2, ![65536, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x4608, .f32⟩
  | .hbm, ⟨2, _⟩ => ⟨S4608, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S65536x4608, .f32⟩
  | .hbm, ⟨8, _⟩ => ⟨S1x4608, .f32⟩
  | .hbm, ⟨9, _⟩ => ⟨S65536x4608, .f32⟩
  | .hbm, ⟨10, _⟩ => ⟨S65536x4608, .f32⟩
  | .hbm, ⟨11, _⟩ => ⟨S65536x1024, .f32⟩
  | .hbm, ⟨12, _⟩ => ⟨S65536x512, .f32⟩
  | .hbm, ⟨13, _⟩ => ⟨S65536x512, .f32⟩
  | .hbm, ⟨14, _⟩ => ⟨S65536x512, .f32⟩
  | .hbm, ⟨15, _⟩ => ⟨S65536x2048, .f32⟩
  | .hbm, ⟨16, _⟩ => ⟨S_, .f32⟩
  | .hbm, ⟨17, _⟩ => ⟨S65536x512, .f32⟩
  | .hbm, ⟨18, _⟩ => ⟨S65536x512, .f32⟩
  | .hbm, ⟨19, _⟩ => ⟨S65536x2048, .f32⟩
  | .hbm, ⟨20, _⟩ => ⟨S65536x2048, .f32⟩
  | .hbm, ⟨21, _⟩ => ⟨S_, .f32⟩
  | .hbm, ⟨22, _⟩ => ⟨S65536x2048, .f32⟩
  | .hbm, ⟨23, _⟩ => ⟨S65536x2048, .f32⟩
  | .hbm, ⟨24, _⟩ => ⟨S_, .f32⟩
  | .hbm, ⟨25, _⟩ => ⟨S65536x2048, .f32⟩
  | .hbm, ⟨26, _⟩ => ⟨S65536x2048, .f32⟩
  | .hbm, ⟨27, _⟩ => ⟨S65536x512, .bf16⟩
  | .hbm, ⟨28, _⟩ => ⟨S65536x512, .bf16⟩
  | .hbm, ⟨29, _⟩ => ⟨S65536x512, .bf16⟩
  | .hbm, ⟨30, _⟩ => ⟨S65536x2048, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Proof.SoftmaxMath.lean ====
/- The arithmetic of one row of scores, on the extended reals: the kernel's softmax in base two over scores scaled by
   `1 / log 2` and divided once at the end, against the reference's softmax in base e divided entry by entry. -/
module

public import Idealize.ShloMosaic.PureOps.Ideal
public import Mathlib.Data.EReal.Inv
public import Mathlib.Analysis.SpecialFunctions.Pow.Real

@[expose] public section

noncomputable section

namespace Cert.SoftmaxMath

open Idealize.ShloMosaic

/-- `1 / log 2`, the factor between the exponents of base e and base two. -/
abbrev lb : ℝ := (Real.log 2)⁻¹

theorem lb_pos : 0 < lb := inv_pos.mpr (Real.log_pos (by norm_num))

/-- A finite sum of reals, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over a finite sum of extended reals. -/
theorem sum_mul_coe {ι : Type*} (s : Finset ι) (f : ι → EReal) (a : ℝ) (ha : 0 ≤ a) :
    (∑ i ∈ s, f i) * (a : EReal) = ∑ i ∈ s, f i * (a : EReal) := by
  classical
  induction s using Finset.induction_on with
  | empty => simp
  | insert b s hb ih =>
    rw [Finset.sum_insert hb, Finset.sum_insert hb,
      EReal.right_distrib_of_nonneg_of_ne_top (EReal.coe_nonneg.mpr ha) (EReal.coe_ne_top a), ih]

/-- Two to the power `x / log 2` is `e` to the power `x`. -/
theorem exp2_mul_lb (x : EReal) : Ideal.exp2 (x * (lb : EReal)) = Ideal.exp x := by
  induction x using EReal.rec with
  | bot => rw [EReal.bot_mul_coe_of_pos lb_pos]; rfl
  | top => rw [EReal.top_mul_coe_of_pos lb_pos]; rfl
  | coe r =>
    rw [← EReal.coe_mul, Ideal.exp2_coe, Ideal.exp_coe]
    congr 1
    show (2 : ℝ) ^ (r * lb) = _
    rw [Real.rpow_def_of_pos (by norm_num)]
    congr 1
    have : Real.log 2 ≠ 0 := (Real.log_pos (by norm_num)).ne'
    unfold lb
    field_simp

/-- A positive real factor comes out of a difference. -/
theorem sub_mul_coe (x y : EReal) (a : ℝ) (ha : 0 < a) : x * (a : EReal) - y * (a : EReal) = (x - y) * (a : EReal) := by
  rw [sub_eq_add_neg, sub_eq_add_neg, ← EReal.neg_mul,
    EReal.right_distrib_of_nonneg_of_ne_top (EReal.coe_nonneg.mpr ha.le) (EReal.coe_ne_top a)]

/-- A positive real factor comes out of a maximum. -/
theorem fold_max_mul {n : ℕ} (s : Fin n → EReal) (a : ℝ) (ha : 0 < a) :
    (Finset.univ.fold max (⊥ : EReal) fun j => s j * (a : EReal)) = Finset.univ.fold max ⊥ s * (a : EReal) := by
  have hm : Monotone fun x : EReal => x * (a : EReal) := fun x y h =>
    mul_le_mul_of_nonneg_right h (EReal.coe_nonneg.mpr ha.le)
  have h := Finset.fold_hom (s := (Finset.univ : Finset (Fin n))) (op := max) (op' := max) (b := (⊥ : EReal)) (f := s)
    (m := fun x : EReal => x * (a : EReal)) (fun x y => hm.map_max)
  simpa only [EReal.bot_mul_coe_of_pos ha] using h

/-- One row: over scores none of which is `⊤` and one of which is real, the kernel's quotient of sums in base two is the
    reference's sum of quotients; the values may differ where the score is `⊥`, their weight there being zero. -/
theorem row_eq {n : ℕ} (s v v' : Fin n → EReal) (hs : ∀ j, s j ≠ ⊤) (j0 : Fin n) (hj0 : s j0 ≠ ⊥)
    (hv : ∀ j, s j = ⊥ ∨ v j = v' j) :
    Ideal.div (∑ j, Ideal.exp2 (s j * (lb : EReal) - Finset.univ.fold max ⊥ fun j => s j * (lb : EReal)) * v j)
        (∑ j, Ideal.exp2 (s j * (lb : EReal) - Finset.univ.fold max ⊥ fun j => s j * (lb : EReal)))
      = ∑ j, Ideal.div (Ideal.exp (s j - Finset.univ.fold max ⊥ s)) (∑ j, Ideal.exp (s j - Finset.univ.fold max ⊥ s)) * v' j := by
  have e : ∀ j, Ideal.exp2 (s j * (lb : EReal) - Finset.univ.fold max ⊥ fun j => s j * (lb : EReal))
      = Ideal.exp (s j - Finset.univ.fold max ⊥ s) := fun j => by
    rw [fold_max_mul s lb lb_pos, sub_mul_coe _ _ _ lb_pos, exp2_mul_lb]
  simp only [e]
  obtain ⟨M, hM⟩ : ∃ M : ℝ, Finset.univ.fold max ⊥ s = (M : EReal) := by
    have h1 : Finset.univ.fold max ⊥ s < ⊤ :=
      (Finset.fold_max_lt _).mpr ⟨bot_lt_top, fun j _ => lt_top_iff_ne_top.mpr (hs j)⟩
    have h2 : s j0 ≤ Finset.univ.fold max ⊥ s := (Finset.le_fold_max _).mpr (Or.inr ⟨j0, Finset.mem_univ _, le_rfl⟩)
    have h3 : Finset.univ.fold max ⊥ s ≠ ⊥ := fun h => hj0 (le_bot_iff.mp (h ▸ h2))
    exact ⟨_, (EReal.coe_toReal h1.ne h3).symm⟩
  rw [hM]
  have hp : ∀ j, ∃ r : ℝ, 0 ≤ r ∧ Ideal.exp (s j - (M : EReal)) = (r : EReal) ∧ (s j ≠ ⊥ → 0 < r) ∧ (s j = ⊥ → r = 0) := by
    intro j
    rcases eq_or_ne (s j) ⊥ with hb | hb
    · exact ⟨0, le_rfl, by rw [hb]; simp, fun h => absurd hb h, fun _ => rfl⟩
    · have hx : s j = ((s j).toReal : EReal) := (EReal.coe_toReal (hs j) hb).symm
      refine ⟨Real.exp ((s j).toReal - M), (Real.exp_pos _).le, ?_, fun _ => Real.exp_pos _, fun h => absurd h hb⟩
      rw [hx, ← EReal.coe_sub, Ideal.exp_coe, EReal.toReal_coe]
  choose r hr0 hr hrp hrz using hp
  simp only [hr]
  rw [← coe_sum]
  have hd : 0 < ∑ j, r j := Finset.sum_pos' (fun j _ => hr0 j) ⟨j0, Finset.mem_univ _, hrp j0 hj0⟩
  simp only [Ideal.div_coe hd.ne']
  rw [sum_mul_coe _ _ _ (one_div_nonneg.mpr hd.le)]
  refine Finset.sum_congr rfl fun j _ => ?_
  rcases hv j with h | h
  · rw [hrz j h]; simp
  · rw [h, mul_assoc, mul_assoc, mul_comm (v' j)]

/-- One score: the query's scale and the bias's scale come out together. -/
theorem score_eq (q k : Fin 64 → EReal) (b : EReal) (hq : ∀ d, ∃ r : ℝ, q d = r) (hk : ∀ d, ∃ r : ℝ, k d = r)
    (hb : ∃ r : ℝ, b = r) :
    (∑ d, q d * ((8⁻¹ * lb : ℝ) : EReal) * k d) + b * (lb : EReal)
        = ((∑ d, q d * k d) * ((8⁻¹ : ℝ) : EReal) + b) * (lb : EReal)
      ∧ ∃ r : ℝ, (∑ d, q d * k d) * ((8⁻¹ : ℝ) : EReal) + b = r := by
  choose q' hq' using hq
  choose k' hk' using hk
  obtain ⟨b', rfl⟩ := hb
  simp only [hq', hk', ← EReal.coe_mul, ← coe_sum, ← EReal.coe_add, EReal.coe_eq_coe_iff]
  refine ⟨?_, _, rfl⟩
  rw [add_mul, Finset.sum_mul, Finset.sum_mul]
  congr 1
  exact Finset.sum_congr rfl fun d _ => by ring

end Cert.SoftmaxMath

end
-- ==== Proof.Chunk.lean ====
/- One chunk of 64 queries and one pair of heads of the attention: the kernel's vector expression, and its value at an index. -/
module

public import proofs.«01_k».proof.Proof.Gen.KernelIdeal.Skeleton
public import proofs.«01_k».proof.Proof.SoftmaxMath
public import Idealize.ShloMosaic.Lib.Pointwise
public import Idealize.ShloMosaic.Lib.WordCmp

@[expose] public section

noncomputable section

namespace Cert.Chunk

open Cert.KernelIdeal Cert.KernelIdeal.Gen Idealize.ShloMosaic Idealize.ShloMosaic.TcCoe Cert.SoftmaxMath

/-- The scores of a chunk with the bias, in base two. -/
def biased (q : Vec Ideal S64x128 .f32) (k : Vec Ideal S576x128 .bf16) (b : Vec Ideal S1x128x576 .f32) : FVec Ideal S128x576 .f32 :=
  addf (shapeCast S128x576 (k0_pay3 q k) shapeCasts_S1x1x128x576_S128x576)
    (mulf (shapeCast S128x576 b shapeCasts_S1x128x576_S128x576)
      (broadcast S128x576 (Named.named κ "log2e" 0x3FB8AA3B#32)))

/-- The scores of a chunk of the first tile: the columns before `n` are masked. -/
def masked (n : BitVec 32) (s : FVec Ideal S128x576 .f32) : FVec Ideal S128x576 .f32 :=
  select (cmpi .sge (iota .tc S128x576 32 [1] iota_S128x576_d1_w32) (broadcast S128x576 n)) s
    (broadcast S128x576 (Named.named κ "mask" 0xF149F2CA#32))

/-- Two to the power of the scores less the largest of their row. -/
def powers (s : FVec Ideal S128x576 .f32) : FVec Ideal S128x576 .f32 :=
  exp2 (subf s (broadcastTo S128x576 (shapeCast S128x1 (multiReduction .maximumf [1] S128 s 0xFF800000#32
    reduces_S128x576_S128 (.inl rfl) rfl) shapeCasts_S128_S128x1) broadcasts_S128x1_S128x576))

/-- The output of a chunk from its powers. -/
def out (p : FVec Ideal S128x576 .f32) (v : Vec Ideal S576x128 .bf16) : FVec Ideal S64x128 .bf16 :=
  k0_pay50 k0_pay2 v (k0_pay16 p) (k0_pay15 (shapeCast S128x1 (multiReduction .add [1] S128 p 0x00000000#32
    reduces_S128x576_S128 (.inl rfl) rfl) shapeCasts_S128_S128x1))

/-- A chunk of the first tile, its columns before `n` masked. -/
def firstChunk (n : BitVec 32) (q : Vec Ideal S64x128 .f32) (k v : Vec Ideal S576x128 .bf16) (b : Vec Ideal S1x128x576 .f32) :
    FVec Ideal S64x128 .bf16 := out (powers (masked n (biased q k b))) v

/-- A chunk of a later tile. -/
def laterChunk (q : Vec Ideal S64x128 .f32) (k v : Vec Ideal S576x128 .bf16) (b : Vec Ideal S1x128x576 .f32) :
    FVec Ideal S64x128 .bf16 := out (powers (biased q k b)) v

/-- The row of the stacked pair of heads that holds lane `l` of query `i`. -/
def stacked (i : Fin 64) (l : Fin 128) : Fin 128 := ⟨if (l : ℕ) < 64 then i else 64 + i, by split <;> omega⟩

/-- Lane `d` of the head that holds lane `l`. -/
def headLane (l : Fin 128) (d : Fin 64) : Fin 128 := ⟨if (l : ℕ) < 64 then d else 64 + d, by split <;> omega⟩

theorem ofBool_eq_one (b : Bool) : (BitVec.ofBool b = 1#1) ↔ b = true := by cases b <;> decide

theorem select_slt {α : Type} (a b : ℕ) (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb]
  by_cases h : a < b <;> simp [Scalar.select, h]

theorem select_sge {α : Type} (a b : ℕ) (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat ha hb]
  by_cases h : b ≤ a <;> simp [Scalar.select, h]

theorem out_at (p : FVec Ideal S128x576 .f32) (v : Vec Ideal S576x128 .bf16) (i : Fin 64) (l : Fin 128) :
    out p v (ix2 i l) = Ideal.div (∑ j, p (ix2 (stacked i l) j) * v (ix2 j l)) (∑ j, p (ix2 (stacked i l) j)) := by
  pointwise [out, k0_pay50, k0_pay2, k0_pay16, k0_pay15]
  rw [show (64#32 : BitVec 32) = BitVec.ofNat 32 64 from rfl, select_slt _ _ (by omega) (by norm_num)]
  by_cases h : (l : ℕ) < 64 <;> simp only [stacked, h, if_true, if_false]

theorem neg_inf : Ideal.ofBits FTy.f32 0xFF800000#32 = ⊥ := by
  simp [Ideal.ofBits, Ideal.ieee]

theorem powers_at (s : FVec Ideal S128x576 .f32) (i : Fin 128) (j : Fin 576) :
    powers s (ix2 i j) = Ideal.exp2 (s (ix2 i j) - Finset.univ.fold max ⊥ fun j => s (ix2 i j)) := by
  pointwise [powers]
  rw [show (4286578688#32 : BitVec 32) = 0xFF800000#32 from rfl, neg_inf]
  rfl

theorem qscale_eq : Named.named (F := Ideal) κ "qscale" (φ := .f32) 0x3E38AA3B#32 = ((8⁻¹ * lb : ℝ) : EReal) :=
  IdealRules.named_const.ideal_named_scalar _ _ _ _ rfl

theorem log2e_eq : Named.named (F := Ideal) κ "log2e" (φ := .f32) 0x3FB8AA3B#32 = (lb : EReal) :=
  IdealRules.named_const.ideal_named_scalar _ _ _ _ rfl

theorem mask_eq : Named.named (F := Ideal) κ "mask" (φ := .f32) 0xF149F2CA#32 = (⊥ : EReal) :=
  IdealRules.named_const.ideal_named_scalar _ _ _ _ rfl

theorem biased_at (q : Vec Ideal S64x128 .f32) (k : Vec Ideal S576x128 .bf16) (b : Vec Ideal S1x128x576 .f32)
    (i : Fin 64) (l : Fin 128) (j : Fin 576) :
    biased q k b (ix2 (stacked i l) j)
      = (∑ d, q (ix2 i (headLane l d)) * ((8⁻¹ * lb : ℝ) : EReal) * k (ix2 j (headLane l d))) + b (ix3 0 (stacked i l) j) * (lb : EReal) := by
  pointwise [biased, k0_pay3, k0_pay2]
  rw [show (1043900987#32 : BitVec 32) = 0x3E38AA3B#32 from rfl, show (1069066811#32 : BitVec 32) = 0x3FB8AA3B#32 from rfl,
    qscale_eq, log2e_eq, show (64#32 : BitVec 32) = BitVec.ofNat 32 64 from rfl]
  congr 1
  have hx : ∀ x : Fin 128, (x : ℕ) < 2 ^ 31 := fun x => by omega
  simp only [select_slt _ _ (hx _) (show 64 < 2 ^ 31 by norm_num)]
  refine (Fin.sum_univ_add (a := 64) (b := 64) _).trans ?_
  by_cases h : (l : ℕ) < 64
  · have hs : (stacked i l : ℕ) = i := by simp [stacked, h]
    have e : ∀ d : Fin 64, headLane l d = Fin.castAdd 64 d := fun d => Fin.ext (by simp [headLane, h])
    simp [hs, e]
  · have hs : (stacked i l : ℕ) = 64 + i := by simp [stacked, h]
    have e : ∀ d : Fin 64, headLane l d = Fin.natAdd 64 d := fun d => Fin.ext (by simp [headLane, h]; omega)
    simp [hs, e, Nat.add_comm]

theorem masked_at (n : ℕ) (s : FVec Ideal S128x576 .f32) (i : Fin 128) (j : Fin 576) (hn : n ≤ 512) :
    masked (BitVec.ofNat 32 n) s (ix2 i j) = if n ≤ j then s (ix2 i j) else ⊥ := by
  pointwise [masked]
  rw [show (4048155338#32 : BitVec 32) = 0xF149F2CA#32 from rfl, mask_eq, select_sge _ _ (by omega) (by omega)]

end Cert.Chunk
-- ==== Proof.RefScores.lean ====
/- The reference's attention, read at an index: the looked-up biases, the padded keys and values, the scores and the
   weighted sum. -/
module

public import proofs.«01_k».proof.Proof.Gen.ReferenceIdeal.Run
public import Idealize.ShloMosaic.Lib.Pipeline.ValueKit.Point
public import Idealize.ShloMosaic.Lib.Tactic.CleanTypes
public import Idealize.ShloMosaic.Lib.StableHlo.Predicate
public import proofs.«01_k».proof.Proof.Chunk

@[expose] public section

set_option maxRecDepth 100000
set_option maxHeartbeats 4000000

noncomputable section

namespace Cert.Ref

open Cert.ReferenceIdeal Cert.ReferenceIdeal.Gen Cert.ReferenceIdeal.Value Idealize.ShloMosaic Idealize.ShloMosaic.TcCoe Idealize.SL.Sem Idealize.ShloMosaic.StableHlo

/-- A gather read at an index whose coordinates are the start, batch and offset coordinates. -/
theorem gather_at {α : Type} {s si t : Shape} {w : ℕ} (d : GatherDims s si t) (x : s.Idx → α) (idx : IVec si w) (j : t.Idx)
    (b : s.Idx) (h : ∀ a, d.start j idx a + d.batchCoord j a + d.offCoord j a = (b a : ℕ)) : Host.gather d x idx j = x b :=
  congrArg x (funext fun a => Fin.ext (h a))

/-- The table's columns looked up. -/
theorem look_at (x : Vec Ideal S8x513 .f32) (idx : IVec S64x576x1 32) (h : Fin 8) (i : Fin 64) (j : Fin 576) (b : Fin 513)
    (hb : (idx (ix3 i j (0 : Fin 1))).toInt.toNat = b) :
    Host.gather gather_S8x513_S64x576x1_S8x64x576_0_1_n_n_1_2_81 x idx (ix3 h i j) = x (ix2 h b) := by
  refine gather_at _ x idx _ _ fun a => ?_
  match a with
  | ⟨0, _⟩ =>
    show 0 + 0 + (h : ℕ) = h
    omega
  | ⟨1, _⟩ =>
    have e : gather_S8x513_S64x576x1_S8x64x576_0_1_n_n_1_2_81.siIdx (ix3 h i j) ⟨0, Nat.one_pos⟩ = ix3 i j (0 : Fin 1) := by
      funext a
      match a with
      | ⟨0, _⟩ => rfl
      | ⟨1, _⟩ => rfl
      | ⟨2, _⟩ => rfl
    show min (idx (gather_S8x513_S64x576x1_S8x64x576_0_1_n_n_1_2_81.siIdx (ix3 h i j) ⟨0, Nat.one_pos⟩)).toInt.toNat 512 + 0 + 0 = (b : ℕ)
    rw [e, hb]
    have := b.2
    omega

/-- The padded rows of a sequence taken by place. -/
theorem take_at (x : Vec Ideal S8x8704x8x64 .f32) (idx : IVec S128x576x1 32) (b : Fin 8) (c : Fin 128) (j : Fin 576) (h : Fin 8) (d : Fin 64) (s : Fin 8704)
    (hs : (idx (ix3 c j (0 : Fin 1))).toInt.toNat = s) :
    Host.gather gather_S8x8704x8x64_S128x576x1_S8x128x576x8x64_034_1_n_n_1_2_81864 x idx (ix5 b c j h d) = x (ix4 b s h d) := by
  refine gather_at _ x idx _ _ fun a => ?_
  match a with
  | ⟨0, _⟩ =>
    show 0 + 0 + (b : ℕ) = b
    omega
  | ⟨1, _⟩ =>
    have e : gather_S8x8704x8x64_S128x576x1_S8x128x576x8x64_034_1_n_n_1_2_81864.siIdx (ix5 b c j h d) ⟨0, Nat.one_pos⟩ = ix3 c j (0 : Fin 1) := by
      funext a
      match a with
      | ⟨0, _⟩ => rfl
      | ⟨1, _⟩ => rfl
      | ⟨2, _⟩ => rfl
    show min (idx (gather_S8x8704x8x64_S128x576x1_S8x128x576x8x64_034_1_n_n_1_2_81864.siIdx (ix5 b c j h d) ⟨0, Nat.one_pos⟩)).toInt.toNat 8703 + 0 + 0 = (s : ℕ)
    rw [e, hs]
    have := s.2
    omega
  | ⟨2, _⟩ =>
    show 0 + 0 + (h : ℕ) = h
    omega
  | ⟨3, _⟩ =>
    show 0 + 0 + (d : ℕ) = d
    omega

variable (V0 : Valuation τ sig (Elt Ideal))

theorem slot_at (c : Fin 128) (j : Fin 576) : res_main_v37 V0 (ix2 c j) = BitVec.ofNat 32 (c * 64 + j) := by
  unfold res_main_v37
  clean_types
  pointwise
  rw [show (64#32 : BitVec 32) = BitVec.ofNat 32 64 from rfl]
  simp only [IntOp.addi, IntOp.muli, ← BitVec.ofNat_mul, ← BitVec.ofNat_add]

theorem column : ∀ (i : Fin 64) (j : Fin 576),
    (Scalar.select (IntOp.cmpi .slt (IntOp.addi (IntOp.minsi 256#32 (IntOp.maxsi 4294967040#32 (IntOp.addi (IntOp.subi (BitVec.ofNat 32 i) (BitVec.ofNat 32 j)) 512#32))) 256#32) 0#32)
      (IntOp.addi (IntOp.addi (IntOp.minsi 256#32 (IntOp.maxsi 4294967040#32 (IntOp.addi (IntOp.subi (BitVec.ofNat 32 i) (BitVec.ofNat 32 j)) 512#32))) 256#32) 513#32)
      (IntOp.addi (IntOp.minsi 256#32 (IntOp.maxsi 4294967040#32 (IntOp.addi (IntOp.subi (BitVec.ofNat 32 i) (BitVec.ofNat 32 j)) 512#32))) 256#32)).toInt.toNat
    = if 63 - (i : ℕ) + j ≤ 319 then 512 else 831 - (63 - (i : ℕ) + j) := by
  decide +kernel

/-- The bias of head `h`, query `i` of its chunk and band column `j`. -/
theorem bias_at (T : Vec Ideal S8x513 .f32) (h : Fin 8) (i : Fin 64) (j : Fin 576) (b : Fin 513) (hb : (if 63 - (i : ℕ) + j ≤ 319 then 512 else 831 - (63 - (i : ℕ) + j)) = (b : ℕ)) :
    Host.gather gather_S8x513_S64x576x1_S8x64x576_0_1_n_n_1_2_81 T
          (broadcastInDim S64x576x1 ![0, 1] bcast_S64x576_S64x576x1_0_1
            (select
              (cmpi CmpIPredicate.slt (res_main_v21 V0)
                (broadcastInDim S64x576 ![] bcast_S_S64x576 (constantI S_ 32 0#32)))
              (addi (res_main_v21 V0) (broadcastInDim S64x576 ![] bcast_S_S64x576 (constantI S_ 32 513#32)))
              (res_main_v21 V0)))
          (ix3 h i j) = T (ix2 h b) := by
  refine look_at _ _ h i j b ?_
  rw [← hb]
  unfold res_main_v21
  pointwise
  exact column i j

theorem zero_word : FloatOps.sitofp (F := Ideal) FTy.f32 0#32 = (0 : EReal) := by
  show (((0#32 : BitVec 32).toInt : ℝ) : EReal) = 0
  simp

/-- The keys, or the values, of head `h` that chunk `c` of sequence `b` sees at place `j`. -/
def seen (A : Vec Ideal S65536x512 .bf16) (b : Fin 8) (c : Fin 128) (j : Fin 576) (h : Fin 8) (d : Fin 64) : EReal :=
  if hs : 512 ≤ (c * 64 + j : ℕ) then A (ix2 ⟨b * 8192 + (c * 64 + j - 512), by omega⟩ ⟨h * 64 + d, by omega⟩) else 0

theorem seen_at (A : Vec Ideal S65536x512 .bf16) (b : Fin 8) (c : Fin 128) (j : Fin 576) (h : Fin 8) (d : Fin 64) :
    Host.gather gather_S8x8704x8x64_S128x576x1_S8x128x576x8x64_034_1_n_n_1_2_81864
                (pad S8x8704x8x64 ![0, 512, 0, 0] ![0, 0, 0, 0] ![0, 0, 0, 0]
                  (shapeCast S8x8192x8x64 (extf FTy.f32 A bitsLt_bf16_f32)
                    shapeCasts_S65536x512_S8x8192x8x64)
                  (sitofp (F := Ideal) FTy.f32 (constantI S_ 32 0#32)) pads_S8x8192x8x64_S8x8704x8x64_000_51200_000_000 h_S_)
                (broadcastInDim S128x576x1 ![0, 1] bcast_S128x576_S128x576x1_0_1
                  (select
                    (cmpi CmpIPredicate.slt (res_main_v37 V0)
                      (broadcastInDim S128x576 ![] bcast_S_S128x576 (constantI S_ 32 0#32)))
                    (addi (res_main_v37 V0) (broadcastInDim S128x576 ![] bcast_S_S128x576 (constantI S_ 32 8704#32)))
                    (res_main_v37 V0)))
                (ix5 b c j h d) = seen A b c j h d := by
  refine (take_at _ _ b c j h d (⟨c * 64 + j, by omega⟩ : Fin 8704) ?_).trans ?_
  · pointwise
    rw [slot_at, show (0#32 : BitVec 32) = BitVec.ofNat 32 0 from rfl, Chunk.select_slt _ _ (by omega) (by norm_num),
      if_neg (Nat.not_lt_zero _), StableHlo.Predicate.toInt_ofNat_small _ (by omega)]
    rfl
  · pointwise
    unfold seen
    by_cases h' : 512 ≤ (c * 64 + j : ℕ)
    · rw [dif_pos ⟨h', by omega⟩, dif_pos h']
    · rw [dif_neg fun k => h' k.1, dif_neg h']
      exact zero_word

end Cert.Ref
-- ==== Proof.Tile.lean ====
/- The attention of one tile of 512 queries, chunk by chunk and pair of heads by pair of heads. -/
module

public import proofs.«01_k».proof.Proof.Chunk
public import Idealize.ShloMosaic.Lib.Pipeline.ReadBack
public import Idealize.ShloMosaic.Lib.Pipeline.ValueKit.Tiles

@[expose] public section

noncomputable section

namespace Cert.Tile

open Cert.KernelIdeal Cert.KernelIdeal.Gen Idealize.ShloMosaic Idealize.ShloMosaic.TcCoe Cert.Chunk

/-- The tile before and the tile itself, one above the other. -/
def stack (prev cur : S512x512.Idx → Ideal .bf16) : S1024x512.Idx → Ideal .bf16 := fun y =>
  if h : (y 0 : ℕ) < 512 then prev (ix2 ⟨y 0, h⟩ (y 1)) else cur (ix2 ⟨y 0 - 512, by have := (y 0).isLt; change _ < 1024 at this; omega⟩ (y 1))

/-- A load from the buffer that the two tiles were stored in. -/
theorem stack_readCov {sig : RefSig} {κ : Kind} {sp : Space} (v : View sig κ sp S1024x512 .bf16)
    (prev cur : S512x512.Idx → Ideal .bf16) (i1 i2) (r : Rect S1024x512) :
    v.readCov (Val := Elt Ideal) [⟨Rect.unit ![512, 0] S512x512.size i1, cur⟩, ⟨Rect.unit ![0, 0] S512x512.size i2, prev⟩] r.toLoadRect
      = View.ld (Val := Elt Ideal) (e' := .bf16) (stack prev cur) r := by
  rw [View.readCov_eq_canon']
  refine congrArg (fun X => View.ld X r) (funext fun y => ?_)
  have l0 : (y 0 : ℕ) < 1024 := (y 0).isLt
  have l1 : (y 1 : ℕ) < 512 := (y 1).isLt
  refine View.canon_eq_of_allAt _ y _ ?_ ?_
  · by_cases h : (y 0 : ℕ) < 512
    · have hm : y ∈ (Rect.unit (s := S1024x512) ![0, 0] S512x512.size i2).set := Rect.mem_set_unit.mpr fun a => by
        fin_cases a <;> simp <;> omega
      exact ⟨_, List.mem_cons_of_mem _ List.mem_cons_self, hm⟩
    · have hm : y ∈ (Rect.unit (s := S1024x512) ![512, 0] S512x512.size i1).set := Rect.mem_set_unit.mpr fun a => by
        fin_cases a <;> simp <;> omega
      exact ⟨_, List.mem_cons_self, hm⟩
  refine View.allAt_cons_unit _ _ _ _ _ ?_ (View.allAt_cons_unit _ _ _ _ _ ?_ (View.allAt_nil _ _))
  · intro x h
    have h0 : (y 0 : ℕ) = 512 + x 0 := h 0
    have h1 : (y 1 : ℕ) = 0 + x 1 := h 1
    rw [stack, dif_neg (by omega)]
    exact congrArg cur (funext fun a => by fin_cases a <;> exact Fin.ext (by simp [h0, h1]))
  · intro x h
    have h0 : (y 0 : ℕ) = 0 + x 0 := h 0
    have h1 : (y 1 : ℕ) = 0 + x 1 := h 1
    have := (x 0).isLt
    change _ < 512 at this
    rw [stack, dif_pos (by omega)]
    exact congrArg prev (funext fun a => by fin_cases a <;> exact Fin.ext (by simp [h0, h1]))

/-- Chunk `c`'s rows and pair `hp`'s lanes of a buffer of `n` lanes. -/
def cut {α : Type} {n m : ℕ} (X : (⟨2, ![n, 512]⟩ : Shape).Idx → α) (c : Fin 8) (hp : Fin 4) (h : 448 + m ≤ n) : (⟨2, ![m, 128]⟩ : Shape).Idx → α :=
  fun z => X (ix2 ⟨c * 64 + z 0, by have := (z 0).isLt; change _ < m at this; omega⟩ ⟨hp * 128 + z 1, by have := (z 1).isLt; change _ < 128 at this; omega⟩)

/-- Pair `hp`'s bias. -/
def pairBias (X : S4x128x576.Idx → Ideal .f32) (hp : Fin 4) : S1x128x576.Idx → Ideal .f32 := fun z => X (ix3 hp (z 1) (z 2))

/-- The chunk of a row of a tile. -/
def chunkOf (y : S512x512.Idx) : Fin 8 := ⟨(y 0 : ℕ) / 64, by have := (y 0).isLt; change _ < 512 at this; omega⟩
/-- The pair of heads of a lane. -/
def pairOf (y : S512x512.Idx) : Fin 4 := ⟨(y 1 : ℕ) / 128, by have := (y 1).isLt; change _ < 512 at this; omega⟩
/-- The place of an index in its chunk and pair. -/
def within (y : S512x512.Idx) : S64x128.Idx := ix2 ⟨(y 0 : ℕ) % 64, Nat.mod_lt _ (by norm_num)⟩ ⟨(y 1 : ℕ) % 128, Nat.mod_lt _ (by norm_num)⟩

/-- The attention of a later tile. -/
def later (q : S512x512.Idx → Ideal .f32) (kb vb : S1024x512.Idx → Ideal .bf16) (b : S4x128x576.Idx → Ideal .f32) :
    S512x512.Idx → Ideal .bf16 := fun y =>
  laterChunk (cut (m := 64) q (chunkOf y) (pairOf y) (by norm_num)) (cut (m := 576) kb (chunkOf y) (pairOf y) (by norm_num))
    (cut (m := 576) vb (chunkOf y) (pairOf y) (by norm_num)) (pairBias b (pairOf y)) (within y)

/-- The attention of a first tile. -/
def first (q : S512x512.Idx → Ideal .f32) (kb vb : S1024x512.Idx → Ideal .bf16) (b : S4x128x576.Idx → Ideal .f32) :
    S512x512.Idx → Ideal .bf16 := fun y =>
  firstChunk (BitVec.ofNat 32 (512 - 64 * chunkOf y)) (cut (m := 64) q (chunkOf y) (pairOf y) (by norm_num)) (cut (m := 576) kb (chunkOf y) (pairOf y) (by norm_num))
    (cut (m := 576) vb (chunkOf y) (pairOf y) (by norm_num)) (pairBias b (pairOf y)) (within y)

theorem ld_cut {n m : ℕ} {e : EltTy} (X : (⟨2, ![n, 512]⟩ : Shape).Idx → Elt Ideal e) (c : Fin 8) (hp : Fin 4) (o0 o1 : ℕ) (h0 : o0 = c * 64)
    (h1 : o1 = hp * 128) (h : 448 + m ≤ n) (inb : ∀ a, (![o0, o1] : Fin 2 → ℕ) a + (![m, 128] : Fin 2 → ℕ) a ≤ (⟨2, ![n, 512]⟩ : Shape).size a) :
    View.ld (Val := Elt Ideal) (S := ⟨2, ![n, 512]⟩) X (Rect.unit (s := ⟨2, ![n, 512]⟩) ![o0, o1] ![m, 128] inb) = cut X c hp h := by
  subst h0 h1
  funext x
  exact View.ld_unit_apply_of (S := ⟨2, ![n, 512]⟩) X _ _ _ _ _ fun a => by fin_cases a <;> rfl

theorem ld_pair (X : S4x128x576.Idx → Ideal .f32) (hp : Fin 4) (o : ℕ) (h0 : o = hp)
    (inb : ∀ a, (![o, 0, 0] : Fin 3 → ℕ) a + (![1, 128, 576] : Fin 3 → ℕ) a ≤ S4x128x576.size a) :
    View.ld (Val := Elt Ideal) (S := S4x128x576) (e' := .f32) X (Rect.unit (s := S4x128x576) ![o, 0, 0] ![1, 128, 576] inb) = pairBias X hp := by
  subst h0
  funext x
  refine View.ld_unit_apply_of (Val := Elt Ideal) (e := .f32) (S := S4x128x576) X _ _ _ _ _ fun a => ?_
  have : (x 0 : ℕ) = 0 := by have := (x 0).isLt; change _ < 1 at this; omega
  fin_cases a <;> simp [this]

theorem place {o0 o1 : ℕ} (c : Fin 8) (hp : Fin 4) (h0 : o0 = c * 64) (h1 : o1 = hp * 128)
    (inb : ∀ a, (![o0, o1] : Fin 2 → ℕ) a + (![64, 128] : Fin 2 → ℕ) a ≤ S512x512.size a)
    (x : (Rect.unit (s := S512x512) ![o0, o1] ![64, 128] inb).shape.Idx) :
    chunkOf ((Rect.unit (s := S512x512) ![o0, o1] ![64, 128] inb).emb x) = c ∧
    pairOf ((Rect.unit (s := S512x512) ![o0, o1] ![64, 128] inb).emb x) = hp ∧
    within ((Rect.unit (s := S512x512) ![o0, o1] ![64, 128] inb).emb x) = x := by
  subst h0 h1
  have l0 : (x 0 : ℕ) < 64 := (x 0).isLt
  have l1 : (x 1 : ℕ) < 128 := (x 1).isLt
  have e0 : (((Rect.unit (s := S512x512) ![(c : ℕ) * 64, (hp : ℕ) * 128] ![64, 128] inb).emb x 0 : Fin 512) : ℕ) = c * 64 + x 0 := by
    rw [Rect.emb_apply]; exact Rect.idx_unit_val _ _ _ _ _
  have e1 : (((Rect.unit (s := S512x512) ![(c : ℕ) * 64, (hp : ℕ) * 128] ![64, 128] inb).emb x 1 : Fin 512) : ℕ) = hp * 128 + x 1 := by
    rw [Rect.emb_apply]; exact Rect.idx_unit_val _ _ _ _ _
  refine ⟨Fin.ext ?_, Fin.ext ?_, funext fun a => ?_⟩
  · show (_ : ℕ) / 64 = c
    rw [e0]; omega
  · show (_ : ℕ) / 128 = hp
    rw [e1]; omega
  · fin_cases a
    · exact Fin.ext (by show (_ : ℕ) % 64 = x 0; rw [e0]; omega)
    · exact Fin.ext (by show (_ : ℕ) % 128 = x 1; rw [e1]; omega)

theorem later_at (q : S512x512.Idx → Ideal .f32) (kb vb : S1024x512.Idx → Ideal .bf16) (b : S4x128x576.Idx → Ideal .f32)
    {o0 o1 o2 : ℕ} (c : Fin 8) (hp : Fin 4) (h0 : o0 = c * 64) (h1 : o1 = hp * 128) (h2 : o2 = hp) (i0 i1 i2 i3 inb)
    (x : (Rect.unit (s := S512x512) ![o0, o1] ![64, 128] inb).shape.Idx) :
    laterChunk (View.ld (Val := Elt Ideal) (S := S512x512) (e' := .f32) q (Rect.unit ![o0, o1] ![64, 128] i0)) (View.ld (Val := Elt Ideal) (S := S1024x512) (e' := .bf16) kb (Rect.unit ![o0, o1] ![576, 128] i1))
      (View.ld (Val := Elt Ideal) (S := S1024x512) (e' := .bf16) vb (Rect.unit ![o0, o1] ![576, 128] i2)) (View.ld (Val := Elt Ideal) (S := S4x128x576) (e' := .f32) b (Rect.unit ![o2, 0, 0] ![1, 128, 576] i3)) x
    = later q kb vb b ((Rect.unit (s := S512x512) ![o0, o1] ![64, 128] inb).emb x) := by
  obtain ⟨e0, e1, e2⟩ := place c hp h0 h1 inb x
  rw [later, e0, e1, e2, ← ld_cut (e := .f32) q c hp o0 o1 h0 h1 _ i0, ← ld_cut (e := .bf16) kb c hp o0 o1 h0 h1 _ i1, ← ld_cut (e := .bf16) vb c hp o0 o1 h0 h1 _ i2, ← ld_pair b hp o2 h2 i3]

theorem first_at (q : S512x512.Idx → Ideal .f32) (kb vb : S1024x512.Idx → Ideal .bf16) (b : S4x128x576.Idx → Ideal .f32)
    {o0 o1 o2 : ℕ} (c : Fin 8) (hp : Fin 4) (h0 : o0 = c * 64) (h1 : o1 = hp * 128) (h2 : o2 = hp) (n : BitVec 32)
    (hn : n = BitVec.ofNat 32 (512 - 64 * c)) (i0 i1 i2 i3 inb)
    (x : (Rect.unit (s := S512x512) ![o0, o1] ![64, 128] inb).shape.Idx) :
    firstChunk n (View.ld (Val := Elt Ideal) (S := S512x512) (e' := .f32) q (Rect.unit ![o0, o1] ![64, 128] i0)) (View.ld (Val := Elt Ideal) (S := S1024x512) (e' := .bf16) kb (Rect.unit ![o0, o1] ![576, 128] i1))
      (View.ld (Val := Elt Ideal) (S := S1024x512) (e' := .bf16) vb (Rect.unit ![o0, o1] ![576, 128] i2)) (View.ld (Val := Elt Ideal) (S := S4x128x576) (e' := .f32) b (Rect.unit ![o2, 0, 0] ![1, 128, 576] i3)) x
    = first q kb vb b ((Rect.unit (s := S512x512) ![o0, o1] ![64, 128] inb).emb x) := by
  obtain ⟨e0, e1, e2⟩ := place c hp h0 h1 inb x
  rw [first, e0, e1, e2, hn, ← ld_cut (e := .f32) q c hp o0 o1 h0 h1 _ i0, ← ld_cut (e := .bf16) kb c hp o0 o1 h0 h1 _ i1, ← ld_cut (e := .bf16) vb c hp o0 o1 h0 h1 _ i2, ← ld_pair b hp o2 h2 i3]

/-- The buffer the chunks were stored in, loaded whole. -/
theorem whole_readCov {sig : RefSig} {κ : Kind} {sp : Space} (v : View sig κ sp S512x512 .bf16) (G : S512x512.Idx → Ideal .bf16)
    (L : List (View.Piece (Elt Ideal) S512x512 .bf16)) (off : Fin 2 → ℕ) (h : ∀ a, off a = 0) (inb)
    (hc : ∀ y, ∃ p ∈ L, y ∈ p.1.set) (hp : View.PiecesOf (Val := Elt Ideal) (e := .bf16) G L) :
    v.readCov L (Rect.unit (s := S512x512) off ![512, 512] inb).toLoadRect = G := by
  rw [View.readCov_eq_canon']
  have e : View.canon L = G := funext fun y => View.canon_eq_of_allAt L y _ (hc y) fun p hm x hx => by
    rw [← hx]; exact hp.mem p hm x
  rw [e]
  exact funext fun x => congrArg G (funext fun a => Fin.ext ((Rect.idx_unit_val off ![512, 512] inb x a).trans (by rw [h a, Nat.zero_add])))

theorem stack_load {sig : RefSig} {κ : Kind} {sp : Space} (v : View sig κ sp S1024x512 .bf16)
    (prev cur : S512x512.Idx → Ideal .bf16) (i1 i2) (r : Rect S1024x512) :
    v.readCov (Val := Elt Ideal) [⟨Rect.unit ![512, 0] ![512, 512] i1, cur⟩, ⟨Rect.unit ![0, 0] ![512, 512] i2, prev⟩] r.toLoadRect
      = View.ld (Val := Elt Ideal) (e' := .bf16) (stack prev cur) r := stack_readCov v prev cur i1 i2 r

theorem pay418 (x : Vec Ideal S512x512 .bf16) : k0_pay418 x = x := by funext y; pointwise [k0_pay418]
theorem pay419 (x : Vec Ideal S512x512 .bf16) : k0_pay419 x = x := by funext y; pointwise [k0_pay419]
theorem pay420 (x : Vec Ideal S512x512 .bf16) : k0_pay420 x = x := by funext y; pointwise [k0_pay420]
theorem pay421 (x : Vec Ideal S512x512 .bf16) : k0_pay421 x = x := by funext y; pointwise [k0_pay421]

/-- The rectangle one chunk of one pair of heads is stored in. -/
def spot (c : Fin 8) (hp : Fin 4) : Rect S512x512 :=
  Rect.unit (s := S512x512) ![c * 64, hp * 128] ![64, 128] fun a => by
    have := c.2
    have := hp.2
    fin_cases a <;> simp [S512x512] <;> omega

/-- All those rectangles, the last one stored first. -/
def spots : List (Rect S512x512) :=
  [spot 7 3, spot 7 2, spot 7 1, spot 7 0, spot 6 3, spot 6 2, spot 6 1, spot 6 0, spot 5 3, spot 5 2, spot 5 1, spot 5 0, spot 4 3, spot 4 2, spot 4 1, spot 4 0, spot 3 3, spot 3 2, spot 3 1, spot 3 0, spot 2 3, spot 2 2, spot 2 1, spot 2 0, spot 1 3, spot 1 2, spot 1 1, spot 1 0, spot 0 3, spot 0 2, spot 0 1, spot 0 0]

theorem mem_spots (c : Fin 8) (hp : Fin 4) : spot c hp ∈ spots := by
  fin_cases c <;> fin_cases hp <;> simp [spots]

theorem covered (L : List (View.Piece (Elt Ideal) S512x512 .bf16)) (h : L.map (fun p => p.1) = spots) (y : S512x512.Idx) :
    ∃ p ∈ L, y ∈ p.1.set := by
  have h0 : (y 0 : ℕ) < 512 := (y 0).2
  have h1 : (y 1 : ℕ) < 512 := (y 1).2
  have hm := mem_spots ⟨(y 0 : ℕ) / 64, by omega⟩ ⟨(y 1 : ℕ) / 128, by omega⟩
  rw [← h] at hm
  obtain ⟨p, hp, e⟩ := List.mem_map.mp hm
  refine ⟨p, hp, ?_⟩
  rw [e]
  refine Rect.mem_set_unit.mpr fun a => ?_
  fin_cases a <;> simp <;> omega

end Cert.Tile
-- ==== Proof.Routing.lean ====
/- The choice among sixteen experts in four groups of four, two ways, over the extended reals: a stable
   descending sort of each group and of the groups' sums of two, and the selection by running maxima (the
   greatest of four, its first position, the greatest of the others with −1 in its place, the first group
   whose sum is not exceeded). They agree when no entry is negative, and when every entry is `⊥` the
   weights they give agree. -/
module

public import Idealize.ShloMosaic.PureOps.Ideal
public import Idealize.ShloMosaic.PureOps.ShapeOps
public import Mathlib.Data.EReal.Inv
public import Mathlib.Tactic.Linarith
public import Mathlib.Tactic.FinCases
public import Mathlib.Tactic.IntervalCases

@[expose] public section

noncomputable section

namespace Cert.Routing

open Idealize.ShloMosaic

/-- The greatest of four. -/
def best (r : Fin 4 → EReal) : EReal := max (max (r 0) (r 1)) (max (r 2) (r 3))

/-- The first position holding `v`, the last one when none of the first three does. -/
def first (r : Fin 4 → EReal) (v : EReal) : BitVec 32 :=
  if r 0 = v then 0#32 else if r 1 = v then 1#32 else if r 2 = v then 2#32 else 3#32

/-- The four with `−1` at position `i`. -/
def rest (r : Fin 4 → EReal) (i : BitVec 32) : Fin 4 → EReal :=
  fun j => if i = BitVec.ofNat 32 j.val then (-1 : EReal) else r j

/-- The running choice among four: a later one is taken when its key is strictly greater. -/
def scan {α : Type} (s : Fin 4 → EReal) (f : Fin 4 → α) : α :=
  if s 3 > (if s 2 > (if s 1 > s 0 then s 1 else s 0) then s 2 else (if s 1 > s 0 then s 1 else s 0)) then f 3
  else if s 2 > (if s 1 > s 0 then s 1 else s 0) then f 2 else if s 1 > s 0 then f 1 else f 0

/-- The order of a stable descending sort. -/
def desc (r : Fin 4 → EReal) : Fin 4 → Fin 4 → Bool := fun k k' => decide (r k > r k')

theorem sort_unfold (r : Fin 4 → EReal) :
    sortPositions 4 (desc r) = insertBefore (desc r) 0 (insertBefore (desc r) 1 (insertBefore (desc r) 2 [3])) := by
  have h : List.finRange 4 = [0, 1, 2, 3] := by decide
  rw [sortPositions, h]; rfl

/-- The head of the sort: no entry is greater, and every earlier one is less. -/
theorem sort_head (r : Fin 4 → EReal) : ∃ a b l, sortPositions 4 (desc r) = a :: b :: l ∧ (∀ j, r j ≤ r a) ∧
    (∀ j, j < a → r j < r a) ∧ b ≠ a ∧ (∀ j, j ≠ a → r j ≤ r b) ∧ (∀ j, j ≠ a → j < b → r j < r b) := by
  rw [sort_unfold]
  simp only [insertBefore, desc, decide_eq_true_eq]
  (repeat' split) <;> (try simp only [insertBefore, decide_eq_true_eq]) <;> (repeat' split) <;>
    (try simp only [insertBefore, decide_eq_true_eq]) <;> (repeat' split) <;>
    (try simp only [insertBefore, decide_eq_true_eq]) <;> (repeat' split) <;>
    refine ⟨_, _, _, rfl, ?_, ?_, by decide, ?_, ?_⟩ <;>
    (try simp only [desc, decide_eq_true_eq, not_lt, gt_iff_lt] at *) <;> intro j <;> fin_cases j <;> simp <;> order

/-- The place the sort puts first, and the one it puts second. -/
theorem sorted_spec (r : Fin 4 → EReal) : (∀ j, r j ≤ r (sortedFrom (desc r) 0)) ∧
    (∀ j, j < sortedFrom (desc r) 0 → r j < r (sortedFrom (desc r) 0)) ∧ sortedFrom (desc r) 1 ≠ sortedFrom (desc r) 0 ∧
    (∀ j, j ≠ sortedFrom (desc r) 0 → r j ≤ r (sortedFrom (desc r) 1)) ∧
    (∀ j, j ≠ sortedFrom (desc r) 0 → j < sortedFrom (desc r) 1 → r j < r (sortedFrom (desc r) 1)) := by
  obtain ⟨a, b, l, h, p⟩ := sort_head r
  have h0 : sortedFrom (desc r) 0 = a := by simp [sortedFrom, h]
  have h1 : sortedFrom (desc r) 1 = b := by simp [sortedFrom, h]
  rw [h0, h1]; exact p

/-- A position no entry exceeds holds the greatest of the four. -/
theorem best_of (r : Fin 4 → EReal) (a : Fin 4) (h : ∀ j, r j ≤ r a) : best r = r a := by
  refine le_antisymm ?_ ?_
  · exact max_le (max_le (h 0) (h 1)) (max_le (h 2) (h 3))
  · fin_cases a <;> simp [best]

/-- The first position holding the value at `a`, when every earlier entry is less. -/
theorem first_of (r : Fin 4 → EReal) (a : Fin 4) (h : ∀ j, j < a → r j < r a) :
    first r (r a) = BitVec.ofNat 32 a.val := by
  fin_cases a
  · simp [first]
  · have h0 := (h 0 (by decide)).ne
    simp only [Fin.mk_one, Fin.reduceFinMk] at h0 ⊢
    simp [first, h0]
  · have h0 := (h 0 (by decide)).ne
    have h1 := (h 1 (by decide)).ne
    simp only [Fin.reduceFinMk] at h0 h1 ⊢
    simp [first, h0, h1]
  · have h0 := (h 0 (by decide)).ne
    have h1 := (h 1 (by decide)).ne
    have h2 := (h 2 (by decide)).ne
    simp only [Fin.reduceFinMk] at h0 h1 h2 ⊢
    simp [first, h0, h1, h2]

theorem best_eq (r : Fin 4 → EReal) : best r = r (sortedFrom (desc r) 0) := best_of r _ (sorted_spec r).1

theorem first_eq (r : Fin 4 → EReal) : first r (best r) = BitVec.ofNat 32 (sortedFrom (desc r) 0).val := by
  rw [best_eq]; exact first_of r _ (sorted_spec r).2.1

theorem ofNat_inj (i j : Fin 4) : (BitVec.ofNat 32 i.val = BitVec.ofNat 32 j.val) ↔ i = j := by
  revert i j; decide

/-- The four with `−1` in the greatest one's place: its greatest is the sort's second. -/
theorem rest_at (r : Fin 4 → EReal) (j : Fin 4) : rest r (first r (best r)) j =
    if sortedFrom (desc r) 0 = j then -1 else r j := by
  rw [first_eq, rest]; simp only [ofNat_inj]

theorem second (r : Fin 4 → EReal) (h0 : ∀ j, 0 ≤ r j) :
    best (rest r (first r (best r))) = r (sortedFrom (desc r) 1) ∧
    first (rest r (first r (best r))) (best (rest r (first r (best r)))) = BitVec.ofNat 32 (sortedFrom (desc r) 1).val := by
  obtain ⟨_, _, hne, hle, hlt⟩ := sorted_spec r
  have hb : rest r (first r (best r)) (sortedFrom (desc r) 1) = r (sortedFrom (desc r) 1) := by
    rw [rest_at, if_neg hne.symm]
  have hneg : ∀ j, (-1 : EReal) < r j := fun j => lt_of_lt_of_le (by
    rw [show (-1 : EReal) = ((-1 : ℝ) : EReal) by simp, show (0 : EReal) = ((0 : ℝ) : EReal) by simp]
    exact EReal.coe_lt_coe_iff.mpr (by norm_num)) (h0 j)
  have e : best (rest r (first r (best r))) = rest r (first r (best r)) (sortedFrom (desc r) 1) := by
    refine best_of _ _ fun j => ?_
    rw [hb, rest_at]; split_ifs with hj
    · exact (hneg _).le
    · exact hle j (Ne.symm hj)
  refine ⟨e.trans hb, ?_⟩
  rw [e]
  refine first_of _ _ fun j hj => ?_
  rw [hb, rest_at]; split_ifs with hj'
  · exact hneg _
  · exact hlt j (Ne.symm hj') hj

/-- The running choice takes the sort's first. -/
theorem scan_eq {α : Type} (s : Fin 4 → EReal) (f : Fin 4 → α) : scan s f = f (sortedFrom (desc s) 0) := by
  obtain ⟨hle, hlt, _⟩ := sorted_spec s
  generalize sortedFrom (desc s) 0 = a at hle hlt
  have h0 := hle 0; have h1 := hle 1; have h2 := hle 2; have h3 := hle 3
  unfold scan
  fin_cases a
  · simp only [Fin.zero_eta, Fin.isValue] at *
    simp [not_lt.mpr h1, not_lt.mpr h2, not_lt.mpr h3]
  · have l0 := hlt 0 (by decide)
    simp only [Fin.mk_one, Fin.isValue] at *
    simp [l0, not_lt.mpr h2, not_lt.mpr h3]
  · have l0 := hlt 0 (by decide); have l1 := hlt 1 (by decide)
    simp only [Fin.reduceFinMk, Fin.isValue] at *
    have : (if s 0 < s 1 then s 1 else s 0) < s 2 := by split_ifs <;> assumption
    simp [this, not_lt.mpr h3]
  · have l0 := hlt 0 (by decide); have l1 := hlt 1 (by decide); have l2 := hlt 2 (by decide)
    simp only [Fin.reduceFinMk, Fin.isValue] at *
    have : (if (if s 0 < s 1 then s 1 else s 0) < s 2 then s 2 else if s 0 < s 1 then s 1 else s 0) < s 3 := by
      split_ifs <;> assumption
    simp [this]

end Cert.Routing

end
-- ==== Proof.Block.lean ====
/- What the kernel writes for one tile: the normalised rows and the two routing weights of each. -/
module

public import proofs.«01_k».proof.Proof.Tile
public import proofs.«01_k».proof.Proof.Routing

@[expose] public section

noncomputable section

namespace Cert.Block

open Cert.KernelIdeal Cert.KernelIdeal.Gen Idealize.ShloMosaic Idealize.ShloMosaic.TcCoe

/-- A row of numbers, one per token of the tile. -/
abbrev Row := FVec Ideal S1x512 .f32
/-- A row of places, one per token of the tile. -/
abbrev Places := IVec S1x512 32

/-- The greatest of four rows. -/
def top (r : Fin 4 → Row) : Row := maximumf (maximumf (r 0) (r 1)) (maximumf (r 2) (r 3))

/-- The first of four rows that holds `v`. -/
def place (r : Fin 4 → Row) (v : Row) : Places :=
  select (cmpf .oeq (r 0) v) (broadcast S1x512 0#32) (select (cmpf .oeq (r 1) v) (broadcast S1x512 1#32)
    (select (cmpf .oeq (r 2) v) (broadcast S1x512 2#32) (broadcast S1x512 3#32)))

/-- The four rows with `−1` at the place `i`. -/
def without (r : Fin 4 → Row) (i : Places) (j : Fin 4) : Row :=
  select (cmpi .eq i (broadcast S1x512 (BitVec.ofNat 32 j.val))) (broadcast S1x512 (Scalar.ofBits .f32 0xBF800000#32)) (r j)

def first (r : Fin 4 → Row) : Places := place r (top r)
def others (r : Fin 4 → Row) : Fin 4 → Row := without r (first r)
def second (r : Fin 4 → Row) : Places := first (others r)
/-- The sum of the two greatest of four rows. -/
def total (r : Fin 4 → Row) : Row := addf (top r) (top (others r))

/-- The running greatest of the four groups' sums, after the group `n`. -/
def lead1 (s : Fin 4 → Row) : Row := select (cmpf .ogt (s 1) (s 0)) (s 1) (s 0)
def lead2 (s : Fin 4 → Row) : Row := select (cmpf .ogt (s 2) (lead1 s)) (s 2) (lead1 s)

/-- The choice among four groups by the running greatest sum. -/
def chosen {α : Type} (s : Fin 4 → Row) (f : Fin 4 → S1x512.Idx → α) : S1x512.Idx → α :=
  select (cmpf .ogt (s 3) (lead2 s)) (f 3) (select (cmpf .ogt (s 2) (lead1 s)) (f 2) (select (cmpf .ogt (s 1) (s 0)) (f 1) (f 0)))

/-- The routing weight of the chosen expert that comes first in order (`lo`), or last. -/
def weight (p : Fin 4 → Fin 4 → Row) (lo : Bool) : Row :=
  have s : Fin 4 → Row := fun g => total (p g)
  have v1 : Row := chosen s fun g => top (p g)
  have v2 : Row := chosen s fun g => top (others (p g))
  have i1 : Places := chosen s fun g => first (p g)
  have i2 : Places := chosen s fun g => second (p g)
  if lo then select (cmpi .slt i1 i2) (divf v1 (addf v1 v2)) (divf v2 (addf v1 v2))
  else select (cmpi .slt i1 i2) (divf v2 (addf v1 v2)) (divf v1 (addf v1 v2))

theorem slices (g j : Fin 4) : S16x512.Slices ![(4 * g + j : ℕ), 0] S1x512 := by
  revert g j; decide

/-- The rows of the router's sixteen probabilities, in four groups. -/
def grouped (p : FVec Ideal S16x512 .f32) (g j : Fin 4) : Row := extractStridedSlice S1x512 ![(4 * g + j : ℕ), 0] p (slices g j)

/-- The tile before its layer norm. -/
def mixed (att : Vec Ideal S512x512 .bf16) (c : Vec Ideal S512x512 .bf16) (glo ghi : Vec Ideal S512x1024 .bf16)
    (x : Vec Ideal S512x1024 .f32) (wco wao : Vec Ideal S512x1024 .bf16) (wo : Vec Ideal S1024x1024 .bf16) (bo : Vec Ideal S1x1024 .f32) :
    FVec Ideal S512x1024 .f32 := k0_pay426 c wco att wao glo ghi wo bo x

section payloads

variable (v56 : FVec Ideal S512x1024 .f32) (v58 : FVec Ideal S1x1024 .f32) (v59 : Vec Ideal S1x1024 .f32)
    (v81 : Vec Ideal S16x1024 .bf16) (v85 : Vec Ideal S16x1 .f32) (P : FVec Ideal S16x512 .f32) (r : Fin 4 → Row) (s : Fin 4 → Row)

theorem e430 : k0_pay430 v56 v58 v59 v81 v85 = grouped (k0_pay429 v56 v58 v59 v81 v85) 0 0 := rfl
theorem e431 : k0_pay431 v56 v58 v59 v81 v85 = grouped (k0_pay429 v56 v58 v59 v81 v85) 0 1 := rfl
theorem e432 : k0_pay432 v56 v58 v59 v81 v85 = grouped (k0_pay429 v56 v58 v59 v81 v85) 0 2 := rfl
theorem e433 : k0_pay433 v56 v58 v59 v81 v85 = grouped (k0_pay429 v56 v58 v59 v81 v85) 0 3 := rfl
theorem e434 : k0_pay434 v56 v58 v59 v81 v85 = top (grouped (k0_pay429 v56 v58 v59 v81 v85) 0) := rfl
theorem e435 : k0_pay435 v56 v58 v59 v81 v85 = cmpf .oeq (grouped (k0_pay429 v56 v58 v59 v81 v85) 0 0) (top (grouped (k0_pay429 v56 v58 v59 v81 v85) 0)) := rfl
theorem e436 : k0_pay436 (r 1) (r 2) (top r) (cmpf .oeq (r 0) (top r)) = first r := rfl
theorem e437 : k0_pay437 (r 0) (r 1) (r 2) (top r) (cmpf .oeq (r 0) (top r)) = others r 0 := rfl
theorem e438 : k0_pay438 (r 1) (r 2) (top r) (cmpf .oeq (r 0) (top r)) = others r 1 := rfl
theorem e439 : k0_pay439 (r 1) (r 2) (top r) (cmpf .oeq (r 0) (top r)) = others r 2 := rfl
theorem e440 : k0_pay440 (r 0) (r 1) (r 2) (r 3) (top r) (cmpf .oeq (r 0) (top r)) = top (others r) := rfl
theorem e441 : k0_pay441 (r 0) (r 1) (r 2) (r 3) (top r) (cmpf .oeq (r 0) (top r)) = second r := rfl
theorem e442 : k0_pay442 (r 0) (r 1) (r 2) (r 3) (top r) (cmpf .oeq (r 0) (top r)) = total r := rfl
theorem e444 : k0_pay444 P = grouped P 1 0 := rfl
theorem e445 : k0_pay445 P = grouped P 1 1 := rfl
theorem e446 : k0_pay446 P = grouped P 1 2 := rfl
theorem e447 : k0_pay447 P = grouped P 1 3 := rfl
theorem e448 : k0_pay448 P (grouped P 1 0) (grouped P 1 1) (grouped P 1 2) = top (grouped P 1) := rfl
theorem e449 : k0_pay449 P (grouped P 1 0) (grouped P 1 1) (grouped P 1 2) = first (grouped P 1) := rfl
theorem e453 : k0_pay453 P (grouped P 1 0) (grouped P 1 1) (grouped P 1 2) = top (others (grouped P 1)) := rfl
theorem e454 : k0_pay454 P (grouped P 1 0) (grouped P 1 1) (grouped P 1 2) = second (grouped P 1) := rfl
theorem e455 : k0_pay455 P (grouped P 1 0) (grouped P 1 1) (grouped P 1 2) = total (grouped P 1) := rfl
theorem e463 : k0_pay463 P = grouped P 2 0 := rfl
theorem e464 : k0_pay464 P = grouped P 2 1 := rfl
theorem e465 : k0_pay465 P = grouped P 2 2 := rfl
theorem e466 : k0_pay466 P = grouped P 2 3 := rfl
theorem e467 : k0_pay467 P = top (grouped P 2) := rfl
theorem e468 : k0_pay468 P = first (grouped P 2) := rfl
theorem e472 : k0_pay472 P = top (others (grouped P 2)) := rfl
theorem e473 : k0_pay473 P = cmpf .oeq (others (grouped P 2) 0) (top (others (grouped P 2))) := rfl
theorem e474 : k0_pay474 P = cmpf .oeq (others (grouped P 2) 1) (top (others (grouped P 2))) := rfl
theorem e475 : k0_pay475 P = cmpf .oeq (others (grouped P 2) 2) (top (others (grouped P 2))) := rfl
theorem e484 : k0_pay484 P = grouped P 3 0 := rfl
theorem e485 : k0_pay485 P = grouped P 3 1 := rfl
theorem e486 : k0_pay486 P = grouped P 3 2 := rfl
theorem e487 : k0_pay487 P = grouped P 3 3 := rfl
theorem e488 : k0_pay488 P = top (grouped P 3) := rfl
theorem e489 : k0_pay489 P = first (grouped P 3) := rfl
theorem e490 : k0_pay490 P = others (grouped P 3) 0 := rfl
theorem e491 : k0_pay491 P = others (grouped P 3) 1 := rfl
theorem e492 : k0_pay492 P = others (grouped P 3) 2 := rfl

/-- The choice between the first two groups. -/
def pick1 {α : Type} (s : Fin 4 → Row) (f : Fin 4 → S1x512.Idx → α) : S1x512.Idx → α := select (cmpf .ogt (s 1) (s 0)) (f 1) (f 0)
/-- The choice among the first three groups. -/
def pick2 {α : Type} (s : Fin 4 → Row) (f : Fin 4 → S1x512.Idx → α) : S1x512.Idx → α := select (cmpf .ogt (s 2) (lead1 s)) (f 2) (pick1 s f)

variable (q : Fin 4 → Fin 4 → Row)

theorem e457 : k0_pay457 (total (q 0)) (total (q 1)) = lead1 fun g => total (q g) := rfl
theorem e458 : k0_pay458 (top (q 0)) (total (q 0)) (top (q 1)) (total (q 1)) = pick1 (fun g => total (q g)) fun g => top (q g) := rfl
theorem e459 : k0_pay459 (top (others (q 0))) (total (q 0)) (top (others (q 1))) (total (q 1)) = pick1 (fun g => total (q g)) fun g => top (others (q g)) := rfl
theorem e460 : k0_pay460 (first (q 0)) (total (q 0)) (first (q 1)) (total (q 1)) = pick1 (fun g => total (q g)) fun g => first (q g) := rfl
theorem e461 : k0_pay461 (second (q 0)) (total (q 0)) (second (q 1)) (total (q 1)) = pick1 (fun g => total (q g)) fun g => second (q g) := rfl
theorem e478 : k0_pay478 (lead1 fun g => total (q g)) (top (q 2)) (top (others (q 2))) = lead2 fun g => total (q g) := rfl
theorem e479 : k0_pay479 (lead1 fun g => total (q g)) (pick1 (fun g => total (q g)) fun g => top (q g)) (top (q 2)) (top (others (q 2)))
    = pick2 (fun g => total (q g)) fun g => top (q g) := rfl
theorem e480 : k0_pay480 (lead1 fun g => total (q g)) (pick1 (fun g => total (q g)) fun g => top (others (q g))) (top (q 2)) (top (others (q 2)))
    = pick2 (fun g => total (q g)) fun g => top (others (q g)) := rfl
theorem e481 : k0_pay481 (lead1 fun g => total (q g)) (pick1 (fun g => total (q g)) fun g => first (q g)) (top (q 2)) (first (q 2)) (top (others (q 2)))
    = pick2 (fun g => total (q g)) fun g => first (q g) := rfl
theorem e482 : k0_pay482 (lead1 fun g => total (q g)) (pick1 (fun g => total (q g)) fun g => second (q g)) (top (q 2)) (top (others (q 2)))
      (cmpf .oeq (others (q 2) 0) (top (others (q 2)))) (cmpf .oeq (others (q 2) 1) (top (others (q 2)))) (cmpf .oeq (others (q 2) 2) (top (others (q 2))))
    = pick2 (fun g => total (q g)) fun g => second (q g) := rfl

theorem e493 : k0_pay493 (q 3 3) (first (q 3)) (others (q 3) 0) (others (q 3) 1) (others (q 3) 2) = top (others (q 3)) := rfl

/-- The last group's part of the arguments of the payloads that choose. -/
theorem e494 : k0_pay494 (lead2 fun g => total (q g)) (q 3 3) (top (q 3)) (first (q 3)) (others (q 3) 0) (others (q 3) 1) (others (q 3) 2)
    = cmpf .ogt (total (q 3)) (lead2 fun g => total (q g)) := by rw [k0_pay494, e493]; rfl
theorem e495 : k0_pay495 (lead2 fun g => total (q g)) (pick2 (fun g => total (q g)) fun g => top (q g)) (q 3 3) (top (q 3)) (first (q 3))
      (others (q 3) 0) (others (q 3) 1) (others (q 3) 2) = chosen (fun g => total (q g)) fun g => top (q g) := by rw [k0_pay495, e494]; rfl
theorem e496 : k0_pay496 (lead2 fun g => total (q g)) (pick2 (fun g => total (q g)) fun g => top (others (q g))) (q 3 3) (top (q 3)) (first (q 3))
      (others (q 3) 0) (others (q 3) 1) (others (q 3) 2) = chosen (fun g => total (q g)) fun g => top (others (q g)) := by rw [k0_pay496, e494, e493]; rfl
theorem e497 : k0_pay497 (lead2 fun g => total (q g)) (pick2 (fun g => total (q g)) fun g => first (q g)) (q 3 3) (top (q 3)) (first (q 3))
      (others (q 3) 0) (others (q 3) 1) (others (q 3) 2) = chosen (fun g => total (q g)) fun g => first (q g) := by rw [k0_pay497, e494]; rfl
theorem e498 : k0_pay498 (lead2 fun g => total (q g)) (pick2 (fun g => total (q g)) fun g => second (q g)) (q 3 3) (top (q 3)) (first (q 3))
      (others (q 3) 0) (others (q 3) 1) (others (q 3) 2) = chosen (fun g => total (q g)) fun g => second (q g) := by rw [k0_pay498, e494, e493]; rfl

theorem e504 : k0_pay504 (lead2 fun g => total (q g)) (pick2 (fun g => total (q g)) fun g => top (q g)) (pick2 (fun g => total (q g)) fun g => top (others (q g)))
      (pick2 (fun g => total (q g)) fun g => first (q g)) (pick2 (fun g => total (q g)) fun g => second (q g)) (q 3 3) (top (q 3)) (first (q 3)) (others (q 3) 0) (others (q 3) 1) (others (q 3) 2) = weight q true := by
  rw [k0_pay504, k0_pay502, k0_pay500, k0_pay501, k0_pay499, e495, e496, e497, e498]; rfl
theorem e505 : k0_pay505 (lead2 fun g => total (q g)) (pick2 (fun g => total (q g)) fun g => top (q g)) (pick2 (fun g => total (q g)) fun g => top (others (q g)))
      (pick2 (fun g => total (q g)) fun g => first (q g)) (pick2 (fun g => total (q g)) fun g => second (q g)) (q 3 3) (top (q 3)) (first (q 3)) (others (q 3) 0) (others (q 3) 1) (others (q 3) 2) = weight q false := by
  rw [k0_pay505, k0_pay502, k0_pay500, k0_pay501, k0_pay499, e495, e496, e497, e498]; rfl

end payloads

/-- The block the kernel writes for a tile whose attention is `att`. -/
def written (att : Vec Ideal S512x512 .bf16) (c : Vec Ideal S512x512 .bf16) (g : Vec Ideal S512x2048 .bf16)
    (x : Vec Ideal S512x1024 .f32) (wco wao : Vec Ideal S512x1024 .bf16) (wo : Vec Ideal S1024x1024 .bf16)
    (bo lg lb : Vec Ideal S1x1024 .f32) (wr : Vec Ideal S16x1024 .bf16) (br : Vec Ideal S16x1 .f32) : Vec Ideal S512x1152 .f32 :=
  have v : FVec Ideal S512x1024 .f32 := mixed att c
    (View.ld (Val := Elt Ideal) (e' := .bf16) g (Rect.unit (s := S512x2048) ![0, 0] ![512, 1024] inb_S512x2048_S512x1024_0_0))
    (View.ld (Val := Elt Ideal) (e' := .bf16) g (Rect.unit (s := S512x2048) ![0, 1024] ![512, 1024] inb_S512x2048_S512x1024_0_1024)) x wco wao wo bo
  have p : Fin 4 → Fin 4 → Row := grouped (k0_pay429 v (k0_pay427 lg) lb wr br)
  View.canon (Val := Elt Ideal) (e := .f32)
    [⟨Rect.unit (s := S512x1152) ![0, 1024] ![512, 128] inb_S512x1152_S512x128_0_1024, k0_pay1 (weight p true) (weight p false) (Scalar.ofBits .f32 0x00000000#32)⟩,
     ⟨Rect.unit (s := S512x1152) ![0, 0] ![512, 1024] inb_S512x1152_S512x1024_0_0, k0_pay428 v (k0_pay427 lg) lb⟩]

end Cert.Block
-- ==== Proof.Layer.lean ====
/- One token's layer over the extended reals, as functions of that token's row: the gated mixture, the layer norm, the
   router's probabilities and the two routing weights; and what the kernel writes for a tile in terms of them. -/
module

public import proofs.«01_k».proof.Proof.Block
public import Idealize.ShloMosaic.Lib.Pipeline.ValueKit.Point
public import Idealize.ShloMosaic.Lib.Pipeline.ValueKit.Tiles

@[expose] public section

set_option maxRecDepth 100000
set_option maxHeartbeats 1000000

noncomputable section

namespace Cert.Layer

open Idealize.ShloMosaic Cert.Routing

/-- The gated sum of the convolution's and the attention's outputs, through the output projection, beside the scaled input. -/
def mix (c a : Fin 512 → EReal) (g h x : Fin 1024 → EReal) (wc wa : Fin 512 → Fin 1024 → EReal) (wo : Fin 1024 → Fin 1024 → EReal)
    (bo : Fin 1024 → EReal) (j : Fin 1024) : EReal :=
  Ideal.ofBits FTy.f32 1071072509#32 * x j +
    (∑ e, (g e * ∑ d, c d * wc d e + h e * ∑ d, a d * wa d e) * wo e j + bo j)

/-- The layer norm of a row. -/
def norm (v lg lb : Fin 1024 → EReal) (j : Fin 1024) : EReal :=
  (v j - Ideal.div (∑ x, v x) (Ideal.ofBits FTy.f32 1149239296#32)) *
      Ideal.rsqrt (Ideal.div (∑ x, (v x - Ideal.div (∑ x, v x) (Ideal.ofBits FTy.f32 1149239296#32)) *
          (v x - Ideal.div (∑ x, v x) (Ideal.ofBits FTy.f32 1149239296#32))) (Ideal.ofBits FTy.f32 1149239296#32)
        + Ideal.ofBits FTy.f32 925353388#32) * lg j + lb j

/-- The router's logits of a row. -/
def logits (y : Fin 1024 → EReal) (w : Fin 1024 → Fin 16 → EReal) (b : Fin 16 → EReal) (e : Fin 16) : EReal := ∑ x, y x * w x e + b e

/-- The softmax of the logits. -/
def probs (s : Fin 16 → EReal) (e : Fin 16) : EReal :=
  Ideal.div (Ideal.exp (s e - Finset.univ.fold max ⊥ s)) (∑ x, Ideal.exp (s x - Finset.univ.fold max ⊥ s))

/-- The expert `j` of the group `g`. -/
def expert (g j : Fin 4) : Fin 16 := ⟨4 * g + j, by omega⟩

/-- The group without its greatest. -/
def others (p : Fin 4 → EReal) : Fin 4 → EReal := rest p (first p (best p))

/-- The sum of a group's two greatest. -/
def total (p : Fin 4 → Fin 4 → EReal) (g : Fin 4) : EReal := best (p g) + best (others (p g))

/-- The routing weight of the chosen group's expert that comes first in order (`lo`), or of the other. -/
def weight (p : Fin 4 → Fin 4 → EReal) (lo : Bool) : EReal :=
  have v1 : EReal := scan (total p) fun g => best (p g)
  have v2 : EReal := scan (total p) fun g => best (others (p g))
  have i1 : BitVec 32 := scan (total p) fun g => first (p g) (best (p g))
  have i2 : BitVec 32 := scan (total p) fun g => first (others (p g)) (best (others (p g)))
  if lo then Scalar.select (IntOp.cmpi .slt i1 i2) (Ideal.div v1 (v1 + v2)) (Ideal.div v2 (v1 + v2))
  else Scalar.select (IntOp.cmpi .slt i1 i2) (Ideal.div v2 (v1 + v2)) (Ideal.div v1 (v1 + v2))

/-- The row of the result: the normalised row, the two weights, and zeros. -/
def out (y : Fin 1024 → EReal) (p : Fin 4 → Fin 4 → EReal) (l : Fin 1152) : EReal :=
  if h : (l : ℕ) < 1024 then y ⟨l, h⟩ else if (l : ℕ) = 1024 then weight p true else if (l : ℕ) = 1025 then weight p false
  else Ideal.ofBits FTy.f32 0#32

/-- The router's probabilities in four groups. -/
def grouped (s : Fin 16 → EReal) (g j : Fin 4) : EReal := probs s (expert g j)

end Cert.Layer

namespace Cert.Block

open Cert.KernelIdeal Cert.KernelIdeal.Gen Idealize.ShloMosaic Idealize.ShloMosaic.TcCoe

variable (i : Fin 512) (r s : Fin 4 → Row) (p : Fin 4 → Fin 4 → Row)

theorem top_at : top r (ix2 0 i) = Routing.best fun j => r j (ix2 0 i) := by
  pointwise [top]; rfl

theorem place_at (v : Row) : place r v (ix2 0 i) = Routing.first (fun j => r j (ix2 0 i)) (v (ix2 0 i)) := by
  pointwise [place]; rfl

theorem minus_one : Ideal.ofBits FTy.f32 3212836864#32 = -1 := by
  simp [Ideal.ofBits, Ideal.ieee]
  rw [← EReal.coe_mul]
  norm_num

theorem without_at (x : Places) (j : Fin 4) : without r x j (ix2 0 i) = Routing.rest (fun j => r j (ix2 0 i)) (x (ix2 0 i)) j := by
  pointwise [without]
  rw [minus_one, Routing.rest]
  by_cases h : x (ix2 0 i) = BitVec.ofNat 32 j
  · simp [IntOp.cmpi, Scalar.select, h]
  · have hb : (x (ix2 0 i) == BitVec.ofNat 32 j) = false := by simpa using h
    simp [IntOp.cmpi, Scalar.select, h, hb]

theorem chosen_at {α : Type} (f : Fin 4 → S1x512.Idx → α) :
    chosen s f (ix2 0 i) = Routing.scan (fun g => s g (ix2 0 i)) fun g => f g (ix2 0 i) := by
  pointwise [chosen, lead1, lead2]; rfl

theorem others_at (j : Fin 4) : others r j (ix2 0 i) = Layer.others (fun j => r j (ix2 0 i)) j := by
  rw [others, without_at, first, place_at, top_at]; rfl

theorem total_at : total r (ix2 0 i) = Routing.best (fun j => r j (ix2 0 i)) + Routing.best (Layer.others fun j => r j (ix2 0 i)) := by
  pointwise [total]
  rw [top_at, top_at]
  simp only [others_at]

theorem first_at : first r (ix2 0 i) = Routing.first (fun j => r j (ix2 0 i)) (Routing.best fun j => r j (ix2 0 i)) := by
  rw [first, place_at, top_at]

theorem second_at : second r (ix2 0 i) = Routing.first (Layer.others fun j => r j (ix2 0 i)) (Routing.best (Layer.others fun j => r j (ix2 0 i))) := by
  rw [second, first_at]
  simp only [others_at]

theorem weight_at (lo : Bool) : weight p lo (ix2 0 i) = Layer.weight (fun g j => p g j (ix2 0 i)) lo := by
  rw [weight]
  cases lo
  · rw [if_neg Bool.false_ne_true]
    pointwise
    simp only [chosen_at, total_at, first_at, second_at, top_at, others_at]
    rfl
  · rw [if_pos rfl]
    pointwise
    simp only [chosen_at, total_at, first_at, second_at, top_at, others_at]
    rfl

variable (att : Vec Ideal S512x512 .bf16) (c : Vec Ideal S512x512 .bf16) (g : Vec Ideal S512x2048 .bf16)
    (x : Vec Ideal S512x1024 .f32) (wco wao : Vec Ideal S512x1024 .bf16) (wo : Vec Ideal S1024x1024 .bf16)
    (bo lg lb : Vec Ideal S1x1024 .f32) (wr : Vec Ideal S16x1024 .bf16) (br : Vec Ideal S16x1 .f32)

/-- The tile's row `i` before its layer norm. -/
abbrev mixedRow : Fin 1024 → EReal :=
  Layer.mix (fun d => c (ix2 i d)) (fun d => att (ix2 i d)) (fun e => g (ix2 i ⟨e, by omega⟩)) (fun e => g (ix2 i ⟨1024 + e, by omega⟩))
    (fun e => x (ix2 i e)) (fun d e => wco (ix2 d e)) (fun d e => wao (ix2 d e)) (fun d e => wo (ix2 d e)) (fun e => bo (ix2 0 e))

/-- The tile's row `i` after its layer norm. -/
abbrev normRow : Fin 1024 → EReal := Layer.norm (mixedRow i att c g x wco wao wo bo) (fun e => lg (ix2 0 e)) (fun e => lb (ix2 0 e))

abbrev gated : FVec Ideal S512x1024 .f32 := mixed att c
    (View.ld (Val := Elt Ideal) (e' := .bf16) g (Rect.unit (s := S512x2048) ![0, 0] ![512, 1024] inb_S512x2048_S512x1024_0_0))
    (View.ld (Val := Elt Ideal) (e' := .bf16) g (Rect.unit (s := S512x2048) ![0, 1024] ![512, 1024] inb_S512x2048_S512x1024_0_1024)) x wco wao wo bo

theorem gate_lo (e : Fin 1024) : View.ld (Val := Elt Ideal) (S := S512x2048) (e' := .bf16) g (Rect.unit (s := S512x2048) ![0, 0] ![512, 1024] inb_S512x2048_S512x1024_0_0) (ix2 i e)
    = g (ix2 i ⟨e, by omega⟩) :=
  View.ld_unit_apply_of (Val := Elt Ideal) (e := .bf16) (S := S512x2048) g _ _ _ _ _ fun a => by fin_cases a <;> simp

theorem gate_hi (e : Fin 1024) : View.ld (Val := Elt Ideal) (S := S512x2048) (e' := .bf16) g (Rect.unit (s := S512x2048) ![0, 1024] ![512, 1024] inb_S512x2048_S512x1024_0_1024) (ix2 i e)
    = g (ix2 i ⟨1024 + e, by omega⟩) :=
  View.ld_unit_apply_of (Val := Elt Ideal) (e := .bf16) (S := S512x2048) g _ _ _ _ _ fun a => by fin_cases a <;> simp

theorem mixed_apply (glo ghi : Vec Ideal S512x1024 .bf16) (j : Fin 1024) : mixed att c glo ghi x wco wao wo bo (ix2 i j)
    = Layer.mix (fun d => c (ix2 i d)) (fun d => att (ix2 i d)) (fun e => glo (ix2 i e)) (fun e => ghi (ix2 i e))
    (fun e => x (ix2 i e)) (fun d e => wco (ix2 d e)) (fun d e => wao (ix2 d e)) (fun d e => wo (ix2 d e)) (fun e => bo (ix2 0 e)) j := by
  pointwise [mixed, k0_pay426]
  rfl

theorem mixed_at (j : Fin 1024) : gated att c g x wco wao wo bo (ix2 i j) = mixedRow i att c g x wco wao wo bo j := by
  refine (mixed_apply i att c x wco wao wo bo _ _ j).trans ?_
  rw [show (fun e => View.ld (Val := Elt Ideal) (S := S512x2048) (e' := .bf16) g (Rect.unit (s := S512x2048) ![0, 0] ![512, 1024] inb_S512x2048_S512x1024_0_0) (ix2 i e))
      = fun e : Fin 1024 => g (ix2 i ⟨e, by omega⟩) from funext (gate_lo i g),
    show (fun e => View.ld (Val := Elt Ideal) (S := S512x2048) (e' := .bf16) g (Rect.unit (s := S512x2048) ![0, 1024] ![512, 1024] inb_S512x2048_S512x1024_0_1024) (ix2 i e))
      = fun e : Fin 1024 => g (ix2 i ⟨1024 + e, by omega⟩) from funext (gate_hi i g)]

theorem norm_apply (v : FVec Ideal S512x1024 .f32) (j : Fin 1024) : k0_pay428 v (k0_pay427 lg) lb (ix2 i j)
    = Layer.norm (fun j => v (ix2 i j)) (fun e => lg (ix2 0 e)) (fun e => lb (ix2 0 e)) j := by
  pointwise [k0_pay428, k0_pay427]
  rfl

theorem norm_at (j : Fin 1024) : k0_pay428 (gated att c g x wco wao wo bo) (k0_pay427 lg) lb (ix2 i j) = normRow i att c g x wco wao wo bo lg lb j := by
  rw [norm_apply, show (fun j => gated att c g x wco wao wo bo (ix2 i j)) = mixedRow i att c g x wco wao wo bo from funext (mixed_at i att c g x wco wao wo bo)]

theorem probs_at (e : Fin 16) : k0_pay429 (gated att c g x wco wao wo bo) (k0_pay427 lg) lb wr br (ix2 e i)
    = Layer.probs (Layer.logits (normRow i att c g x wco wao wo bo lg lb) (fun d e => wr (ix2 e d)) fun e => br (ix2 e 0)) e := by
  pointwise [k0_pay429]
  simp only [norm_at]
  rw [show Ideal.ofBits FTy.f32 4286578688#32 = ⊥ from Chunk.neg_inf]
  simp only [mul_comm (wr _)]
  rfl

theorem grouped_at (P : FVec Ideal S16x512 .f32) (a b : Fin 4) : grouped P a b (ix2 0 i) = P (ix2 (Layer.expert a b) i) := by
  pointwise [grouped]
  exact congrArg P (funext fun k => by fin_cases k <;> rfl)

/-- What is written for a tile, at row `i` and lane `l`. -/
theorem written_at (l : Fin 1152) : written att c g x wco wao wo bo lg lb wr br (ix2 i l)
    = Layer.out (normRow i att c g x wco wao wo bo lg lb) (Layer.grouped (Layer.logits (normRow i att c g x wco wao wo bo lg lb) (fun d e => wr (ix2 e d)) fun e => br (ix2 e 0))) l := by
  have hl := l.2
  have hi := i.2
  refine View.canon_eq_of_allAt _ _ _ ?_ (View.allAt_cons_unit _ _ _ _ _ ?_ (View.allAt_cons_unit _ _ _ _ _ ?_ (View.allAt_nil _ _)))
  · by_cases h : (l : ℕ) < 1024
    · have hm : (ix2 i l : S512x1152.Idx) ∈ (Rect.unit (s := S512x1152) ![0, 0] ![512, 1024] inb_S512x1152_S512x1024_0_0).set := Rect.mem_set_unit.mpr fun a => by
        fin_cases a <;> simp <;> omega
      exact ⟨_, List.mem_cons_of_mem _ List.mem_cons_self, hm⟩
    · have hm : (ix2 i l : S512x1152.Idx) ∈ (Rect.unit (s := S512x1152) ![0, 1024] ![512, 128] inb_S512x1152_S512x128_0_1024).set := Rect.mem_set_unit.mpr fun a => by
        fin_cases a <;> simp <;> omega
      exact ⟨_, List.mem_cons_self, hm⟩
  · intro y h
    have h0 : (i : ℕ) = 0 + y 0 := h 0
    have h1 : (l : ℕ) = 1024 + y 1 := h 1
    have hy : y = ix2 i (⟨l - 1024, by omega⟩ : Fin 128) := funext fun a => by
      fin_cases a <;> exact Fin.ext (by simp <;> omega)
    rw [hy, Layer.out, dif_neg (by omega)]
    pointwise [k0_pay1]
    by_cases e0 : (l : ℕ) = 1024
    · rw [dif_pos (by omega), if_pos e0, show (ix2 (⟨(l : ℕ) - 1024, _⟩ : Fin 1) i : S1x512.Idx) = ix2 0 i from funext fun a => by fin_cases a <;> exact Fin.ext (by simp [e0]), weight_at]
      simp only [grouped_at, probs_at]
      rfl
    · rw [dif_neg (by omega), if_neg e0]
      by_cases e1 : (l : ℕ) = 1025
      · rw [dif_pos (by omega), if_pos e1, show (ix2 (⟨(l : ℕ) - 1024 - 1, _⟩ : Fin 1) i : S1x512.Idx) = ix2 0 i from funext fun a => by fin_cases a <;> exact Fin.ext (by simp [e1]), weight_at]
        simp only [grouped_at, probs_at]
        rfl
      · rw [dif_neg (by omega), if_neg e1]
  · intro y h
    have h0 : (i : ℕ) = 0 + y 0 := h 0
    have h1 : (l : ℕ) = 0 + y 1 := h 1
    have l1 : (y 1 : ℕ) < 1024 := (y 1).isLt
    have hy : y = ix2 i (⟨l, by omega⟩ : Fin 1024) := funext fun a => by
      fin_cases a <;> exact Fin.ext (by simp <;> omega)
    rw [hy, Layer.out, dif_pos (by omega)]
    exact norm_at i att c g x wco wao wo bo lg lb _

end Cert.Block
-- ==== Proof.RefAttend.lean ====
/- The reference read a row at a time: the attention, the mixture, the layer norm and the router's probabilities. -/
module

public import proofs.«01_k».proof.Proof.Gen.ReferenceIdeal.Run
public import Idealize.ShloMosaic.Lib.Pipeline.ValueKit.Point
public import Idealize.ShloMosaic.Lib.Tactic.CleanTypes
public import Idealize.ShloMosaic.Lib.StableHlo.Predicate
public import proofs.«01_k».proof.Proof.RefScores
public import proofs.«01_k».proof.Proof.Layer

@[expose] public section

set_option maxRecDepth 100000
set_option maxHeartbeats 4000000

noncomputable section

namespace Cert.Ref

open Cert.ReferenceIdeal Cert.ReferenceIdeal.Gen Cert.ReferenceIdeal.Value Idealize.ShloMosaic Idealize.ShloMosaic.TcCoe Idealize.SL.Sem Idealize.ShloMosaic.StableHlo

/-- A maximum along the last of five axes. -/
theorem max_at (X : FVec Ideal S8x128x8x64x576 .f32) (b : Fin 8) (c : Fin 128) (h : Fin 8) (i : Fin 64) :
    Host.reduce FloatOps.maximumf X (constant S_ .f32 0xFF800000#32) reducesTo_S8x128x8x64x576_S8x128x8x64_d4 h_S_ (ix4 b c h i)
      = Finset.univ.fold max (Ideal.ofBits FTy.f32 4286578688#32) fun x => X (ix5 b c h i x) := by
  pointwise

theorem exp_max (X : FVec Ideal S8x128x8x64x576 .f32) (R : FVec Ideal S8x128x8x64 .f32) (b : Fin 8) (c : Fin 128) (h : Fin 8) (i : Fin 64) (x : Fin 576) : Host.exp (subf X (broadcastInDim S8x128x8x64x576 ![0, 1, 2, 3, 4] bcast_S8x128x8x64x1_S8x128x8x64x576_0_1_2_3_4 (broadcastInDim S8x128x8x64x1 ![0, 1, 2, 3] bcast_S8x128x8x64_S8x128x8x64x1_0_1_2_3 (maximumf (broadcastInDim S8x128x8x64 ![] bcast_S_S8x128x8x64 (constant S_ .f32 0xFF800000#32)) R)))) (ix5 b c h i x)
      = Ideal.exp (X (ix5 b c h i x) - max (Ideal.ofBits FTy.f32 4286578688#32) (R (ix4 b c h i))) := by
    pointwise

variable (V0 : Valuation τ sig (Elt Ideal))

/-- The scores. -/
def scores : FVec Ideal S8x128x8x64x576 .f32 := res_main_v61 V0
/-- The exponentials of the scores less the largest of their row. -/
def powers : FVec Ideal S8x128x8x64x576 .f32 := res_main_v68 V0

theorem powers_at (b : Fin 8) (c : Fin 128) (h : Fin 8) (i : Fin 64) (x : Fin 576) : powers V0 (ix5 b c h i x)
    = Ideal.exp (scores V0 (ix5 b c h i x) - Finset.univ.fold max ⊥ fun x => scores V0 (ix5 b c h i x)) := by
  have e : powers V0 = Host.exp (subf (scores V0) (broadcastInDim S8x128x8x64x576 ![0, 1, 2, 3, 4] bcast_S8x128x8x64x1_S8x128x8x64x576_0_1_2_3_4 (broadcastInDim S8x128x8x64x1 ![0, 1, 2, 3] bcast_S8x128x8x64_S8x128x8x64x1_0_1_2_3 (maximumf (broadcastInDim S8x128x8x64 ![] bcast_S_S8x128x8x64 (constant S_ .f32 0xFF800000#32)) (Host.reduce FloatOps.maximumf (scores V0) (constant S_ .f32 0xFF800000#32) reducesTo_S8x128x8x64x576_S8x128x8x64_d4 h_S_))))) := by
    unfold powers res_main_v68 scores
    rfl
  rw [e]
  refine (exp_max _ _ b c h i x).trans ?_
  rw [max_at, show Ideal.ofBits FTy.f32 4286578688#32 = ⊥ from Chunk.neg_inf, max_eq_right bot_le]

theorem score_of (A1 : FVec Ideal S65536x512 .f32) (A2 : FVec Ideal S65536x512 .bf16) (A7 : FVec Ideal S8x513 .f32) (b : Fin 8) (c : Fin 128) (h : Fin 8) (i : Fin 64) (x : Fin 576) (k : Fin 513) (hk : (if 63 - (i : ℕ) + x ≤ 319 then 512 else 831 - (63 - (i : ℕ) + x)) = (k : ℕ)) :
    (select (broadcastInDim S8x128x8x64x576 ![0, 1, 2, 3, 4] bcast_S1x128x1x1x576_S8x128x8x64x576_0_1_2_3_4 (broadcastInDim S1x128x1x1x576 ![1, 4] bcast_S128x576_S1x128x1x1x576_1_4 (cmpi .sge (res_main_v37 V0) (broadcastInDim S128x576 ![] bcast_S_S128x576 (constantI S_ 32 512#32))))) (addf (mulf (Host.dotGeneral dot_S8x128x64x8x64_S8x128x576x8x64_S8x128x8x64x576_4_4_2_2_013_013 none (shapeCast _ (shapeCast _ A1 shapeCasts_S65536x512_S8x8192x8x64) shapeCasts_S8x8192x8x64_S8x128x64x8x64) (Host.gather gather_S8x8704x8x64_S128x576x1_S8x128x576x8x64_034_1_n_n_1_2_81864 (pad S8x8704x8x64 ![0, 512, 0, 0] ![0, 0, 0, 0] ![0, 0, 0, 0] (shapeCast _ (extf .f32 A2 bitsLt_bf16_f32) shapeCasts_S65536x512_S8x8192x8x64) (sitofp .f32 (constantI S_ 32 0#32)) pads_S8x8192x8x64_S8x8704x8x64_000_51200_000_000 h_S_) (broadcastInDim S128x576x1 ![0, 1] bcast_S128x576_S128x576x1_0_1 (select (cmpi .slt (res_main_v37 V0) (broadcastInDim S128x576 ![] bcast_S_S128x576 (constantI S_ 32 0#32))) (addi (res_main_v37 V0) (broadcastInDim S128x576 ![] bcast_S_S128x576 (constantI S_ 32 8704#32))) (res_main_v37 V0))))) (broadcastInDim S8x128x8x64x576 ![] bcast_S_S8x128x8x64x576 (constant S_ .f32 0x3E000000#32))) (broadcastInDim S8x128x8x64x576 ![0, 1, 2, 3, 4] bcast_S1x1x8x64x576_S8x128x8x64x576_0_1_2_3_4 (broadcastInDim S1x1x8x64x576 ![2, 3, 4] bcast_S8x64x576_S1x1x8x64x576_2_3_4 (Host.gather gather_S8x513_S64x576x1_S8x64x576_0_1_n_n_1_2_81 A7 (broadcastInDim S64x576x1 ![0, 1] bcast_S64x576_S64x576x1_0_1 (select (cmpi .slt (res_main_v21 V0) (broadcastInDim S64x576 ![] bcast_S_S64x576 (constantI S_ 32 0#32))) (addi (res_main_v21 V0) (broadcastInDim S64x576 ![] bcast_S_S64x576 (constantI S_ 32 513#32))) (res_main_v21 V0))))))) (broadcastInDim S8x128x8x64x576 ![] bcast_S_S8x128x8x64x576 (id (constant S_ .f32 0xFF800000#32))) : FVec Ideal S8x128x8x64x576 .f32) (ix5 b c h i x)
    = if 512 ≤ (c * 64 + x : ℕ) then (∑ d : Fin 64, A1 (ix2 ⟨b * 8192 + c * 64 + i, by omega⟩ ⟨h * 64 + d, by omega⟩) * seen A2 b c x h d)
          * Ideal.ofBits FTy.f32 1040187392#32 + A7 (ix2 h k) else ⊥ := by
  have eb := bias_at V0 A7 h i x k hk
  have es := fun d => seen_at V0 A2 b c x h d
  generalize Host.gather gather_S8x513_S64x576x1_S8x64x576_0_1_n_n_1_2_81 A7 _ = B at eb ⊢
  generalize Host.gather gather_S8x8704x8x64_S128x576x1_S8x128x576x8x64_034_1_n_n_1_2_81864 _ _ = K at es ⊢
  pointwise
  rw [slot_at, show (512#32 : BitVec 32) = BitVec.ofNat 32 512 from rfl, Chunk.select_sge _ _ (by omega) (by norm_num)]
  simp only [es, eb]
  exact if_congr Iff.rfl rfl Chunk.neg_inf

/-- The queries. -/
def queries : FVec Ideal S65536x512 .f32 := V0 (Proc.devRef .tc main_arg1)
/-- The relative biases. -/
def biases : FVec Ideal S8x513 .f32 := V0 (Proc.devRef .tc main_arg7)

/-- The score of head `h`, query `i` of chunk `c` of sequence `b`, at place `x`. -/
theorem score_at (b : Fin 8) (c : Fin 128) (h : Fin 8) (i : Fin 64) (x : Fin 576) (k : Fin 513) (hk : (if 63 - (i : ℕ) + x ≤ 319 then 512 else 831 - (63 - (i : ℕ) + x)) = (k : ℕ)) :
    scores V0 (ix5 b c h i x)
    = if 512 ≤ (c * 64 + x : ℕ) then (∑ d : Fin 64, queries V0 (ix2 ⟨b * 8192 + c * 64 + i, by omega⟩ ⟨h * 64 + d, by omega⟩)
          * seen (V0 (Proc.devRef .tc main_arg2)) b c x h d)
          * Ideal.ofBits FTy.f32 1040187392#32 + biases V0 (ix2 h k) else ⊥ := by
  unfold scores res_main_v61
  exact score_of V0 (queries V0) _ (biases V0) b c h i x k hk

/-- The attention of row `r`, lane `l`. -/
def attended (r : Fin 65536) (l : Fin 512) : EReal :=
  ∑ x : Fin 576, seen (V0 (Proc.devRef .tc main_arg3)) ⟨r / 8192, by omega⟩ ⟨r / 64 % 128, by omega⟩ x ⟨l / 64, by omega⟩ ⟨l % 64, by omega⟩
    * Ideal.div (powers V0 (ix5 (⟨r / 8192, by omega⟩ : Fin 8) (⟨r / 64 % 128, by omega⟩ : Fin 128) (⟨l / 64, by omega⟩ : Fin 8) (⟨r % 64, by omega⟩ : Fin 64) x))
      (∑ y, powers V0 (ix5 (⟨r / 8192, by omega⟩ : Fin 8) (⟨r / 64 % 128, by omega⟩ : Fin 128) (⟨l / 64, by omega⟩ : Fin 8) (⟨r % 64, by omega⟩ : Fin 64) y))

/-- The heads side by side. -/
def heads : FVec Ideal S65536x512 .f32 :=
  (shapeCast _ (shapeCast _ (transpose S8x128x64x8x64 [0, 1, 4, 2, 3] (Host.dotGeneral dot_S8x128x576x8x64_S8x128x8x64x576_S8x128x8x64x64_2_4_4_3_013_012 none (Host.gather gather_S8x8704x8x64_S128x576x1_S8x128x576x8x64_034_1_n_n_1_2_81864 (pad S8x8704x8x64 ![0, 512, 0, 0] ![0, 0, 0, 0] ![0, 0, 0, 0] (shapeCast _ (extf .f32 (V0 (Proc.devRef .tc main_arg3)) bitsLt_bf16_f32) shapeCasts_S65536x512_S8x8192x8x64) (sitofp .f32 (constantI S_ 32 0#32)) pads_S8x8192x8x64_S8x8704x8x64_000_51200_000_000 h_S_) (broadcastInDim S128x576x1 ![0, 1] bcast_S128x576_S128x576x1_0_1 (select (cmpi .slt (res_main_v37 V0) (broadcastInDim S128x576 ![] bcast_S_S128x576 (constantI S_ 32 0#32))) (addi (res_main_v37 V0) (broadcastInDim S128x576 ![] bcast_S_S128x576 (constantI S_ 32 8704#32))) (res_main_v37 V0)))) (Host.divf (powers V0) (broadcastInDim S8x128x8x64x576 ![0, 1, 2, 3, 4] bcast_S8x128x8x64x1_S8x128x8x64x576_0_1_2_3_4 (broadcastInDim S8x128x8x64x1 ![0, 1, 2, 3] bcast_S8x128x8x64_S8x128x8x64x1_0_1_2_3 (Host.reduceAdd (powers V0) (constant S_ .f32 0x00000000#32) reducesTo_S8x128x8x64x576_S8x128x8x64_d4 h_S_))))) transposes_S8x128x8x64x64_S8x128x64x8x64_0_1_4_2_3) shapeCasts_S8x128x64x8x64_S8x8192x512) shapeCasts_S8x8192x512_S65536x512)

theorem heads_of (A3 : FVec Ideal S65536x512 .bf16) (v68 : FVec Ideal S8x128x8x64x576 .f32) (r : Fin 65536) (l : Fin 512) :
    ((shapeCast _ (shapeCast _ (transpose S8x128x64x8x64 [0, 1, 4, 2, 3] (Host.dotGeneral dot_S8x128x576x8x64_S8x128x8x64x576_S8x128x8x64x64_2_4_4_3_013_012 none (Host.gather gather_S8x8704x8x64_S128x576x1_S8x128x576x8x64_034_1_n_n_1_2_81864 (pad S8x8704x8x64 ![0, 512, 0, 0] ![0, 0, 0, 0] ![0, 0, 0, 0] (shapeCast _ (extf .f32 A3 bitsLt_bf16_f32) shapeCasts_S65536x512_S8x8192x8x64) (sitofp .f32 (constantI S_ 32 0#32)) pads_S8x8192x8x64_S8x8704x8x64_000_51200_000_000 h_S_) (broadcastInDim S128x576x1 ![0, 1] bcast_S128x576_S128x576x1_0_1 (select (cmpi .slt (res_main_v37 V0) (broadcastInDim S128x576 ![] bcast_S_S128x576 (constantI S_ 32 0#32))) (addi (res_main_v37 V0) (broadcastInDim S128x576 ![] bcast_S_S128x576 (constantI S_ 32 8704#32))) (res_main_v37 V0)))) (Host.divf v68 (broadcastInDim S8x128x8x64x576 ![0, 1, 2, 3, 4] bcast_S8x128x8x64x1_S8x128x8x64x576_0_1_2_3_4 (broadcastInDim S8x128x8x64x1 ![0, 1, 2, 3] bcast_S8x128x8x64_S8x128x8x64x1_0_1_2_3 (Host.reduceAdd v68 (constant S_ .f32 0x00000000#32) reducesTo_S8x128x8x64x576_S8x128x8x64_d4 h_S_))))) transposes_S8x128x8x64x64_S8x128x64x8x64_0_1_4_2_3) shapeCasts_S8x128x64x8x64_S8x8192x512) shapeCasts_S8x8192x512_S65536x512) : FVec Ideal S65536x512 .f32) (ix2 r l) = ∑ x : Fin 576, seen A3 ⟨r / 8192, by omega⟩ ⟨r / 64 % 128, by omega⟩ x ⟨l / 64, by omega⟩ ⟨l % 64, by omega⟩
    * Ideal.div (v68 (ix5 (⟨r / 8192, by omega⟩ : Fin 8) (⟨r / 64 % 128, by omega⟩ : Fin 128) (⟨l / 64, by omega⟩ : Fin 8) (⟨r % 64, by omega⟩ : Fin 64) x))
      (∑ y, v68 (ix5 (⟨r / 8192, by omega⟩ : Fin 8) (⟨r / 64 % 128, by omega⟩ : Fin 128) (⟨l / 64, by omega⟩ : Fin 8) (⟨r % 64, by omega⟩ : Fin 64) y)) := by
  have es := fun x => seen_at V0 A3 (⟨r / 8192, by omega⟩ : Fin 8) (⟨r / 64 % 128, by omega⟩ : Fin 128) x (⟨l / 64, by omega⟩ : Fin 8) (⟨l % 64, by omega⟩ : Fin 64)
  generalize Host.gather gather_S8x8704x8x64_S128x576x1_S8x128x576x8x64_034_1_n_n_1_2_81864 _ _ = K at es ⊢
  pointwise
  simp only [es]

theorem heads_at (r : Fin 65536) (l : Fin 512) : heads V0 (ix2 r l) = attended V0 r l := by
  unfold heads
  exact heads_of V0 _ _ r l

end Cert.Ref
-- ==== Proof.RefRow.lean ====
/- The reference read a row at a time: the attention, the mixture, the layer norm and the router's probabilities. -/
module

public import proofs.«01_k».proof.Proof.Gen.ReferenceIdeal.Run
public import Idealize.ShloMosaic.Lib.Pipeline.ValueKit.Point
public import Idealize.ShloMosaic.Lib.Tactic.CleanTypes
public import Idealize.ShloMosaic.Lib.StableHlo.Predicate
public import proofs.«01_k».proof.Proof.RefAttend
public import proofs.«01_k».proof.Proof.Layer

@[expose] public section

set_option maxRecDepth 100000
set_option maxHeartbeats 4000000

noncomputable section

namespace Cert.Ref

open Cert.ReferenceIdeal Cert.ReferenceIdeal.Gen Cert.ReferenceIdeal.Value Idealize.ShloMosaic Idealize.ShloMosaic.TcCoe Idealize.SL.Sem Idealize.ShloMosaic.StableHlo

variable (V0 : Valuation τ sig (Elt Ideal))

theorem mixed_of (A0 : FVec Ideal S65536x512 .bf16) (A5 : FVec Ideal S65536x1024 .f32) (A6 : FVec Ideal S512x1024 .f32) (A8 : FVec Ideal S512x1024 .f32) (A9 : FVec Ideal S1024x1024 .f32) (A10 : FVec Ideal S1024 .f32) (heads : FVec Ideal S65536x512 .f32) (v78 : FVec Ideal S65536x2048 .f32) (r : Fin 65536) (j : Fin 1024) :
    (addf (mulf (broadcastInDim S65536x1024 ![] bcast_S_S65536x1024 (constant S_ .f32 0x3FD744FD#32)) A5) (addf (Host.dotGeneral dot_S65536x1024_S1024x1024_S65536x1024_1_0_0_1_n_n none (addf (mulf (extractStridedSlice S65536x1024 ![0, 0] v78 slices_S65536x2048_S65536x1024_0_0) (Host.dotGeneral dot_S65536x512_S512x1024_S65536x1024_1_0_0_1_n_n none (extf .f32 A0 bitsLt_bf16_f32) A6)) (mulf (extractStridedSlice S65536x1024 ![0, 1024] v78 slices_S65536x2048_S65536x1024_0_1024) (Host.dotGeneral dot_S65536x512_S512x1024_S65536x1024_1_0_0_1_n_n none heads A8))) A9) (broadcastInDim S65536x1024 ![0, 1] bcast_S1x1024_S65536x1024_0_1 (broadcastInDim S1x1024 ![1] bcast_S1024_S1x1024_1 A10))) : FVec Ideal S65536x1024 .f32) (ix2 r j) = Layer.mix (fun d => A0 (ix2 r d)) (fun d => heads (ix2 r d))
      (fun e => v78 (ix2 r ⟨e, by omega⟩)) (fun e => v78 (ix2 r ⟨1024 + e, by omega⟩)) (fun e => A5 (ix2 r e))
      (fun d e => A6 (ix2 d e)) (fun d e => A8 (ix2 d e)) (fun d e => A9 (ix2 d e)) (fun e => A10 (ix1 e)) j := by
  pointwise
  rfl

/-- The rows before the layer norm. -/
def mixed : FVec Ideal S65536x1024 .f32 := res_main_v90 V0

theorem mixed_at (r : Fin 65536) (j : Fin 1024) : mixed V0 (ix2 r j)
    = Layer.mix (fun d => (V0 (Proc.devRef .tc main_arg0) : Vec Ideal S65536x512 .bf16) (ix2 r d)) (attended V0 r)
      (fun e => (V0 (Proc.devRef .tc main_arg4) : Vec Ideal S65536x2048 .bf16) (ix2 r ⟨e, by omega⟩)) (fun e => (V0 (Proc.devRef .tc main_arg4) : Vec Ideal S65536x2048 .bf16) (ix2 r ⟨1024 + e, by omega⟩))
      (fun e => (V0 (Proc.devRef .tc main_arg5) : Vec Ideal S65536x1024 .f32) (ix2 r e))
      (fun d e => (V0 (Proc.devRef .tc main_arg6) : Vec Ideal S512x1024 .f32) (ix2 d e)) (fun d e => (V0 (Proc.devRef .tc main_arg8) : Vec Ideal S512x1024 .f32) (ix2 d e))
      (fun d e => (V0 (Proc.devRef .tc main_arg9) : Vec Ideal S1024x1024 .f32) (ix2 d e)) (fun e => (V0 (Proc.devRef .tc main_arg10) : Vec Ideal S1024 .f32) (ix1 e)) j := by
  rw [← show (fun d => heads V0 (ix2 r d)) = attended V0 r from funext (heads_at V0 r)]
  unfold mixed res_main_v90 res_main_v78
  exact mixed_of _ _ _ _ _ _ (heads V0) (extf .f32 (V0 (Proc.devRef .tc main_arg4)) bitsLt_bf16_f32) r j

theorem mean_of (v90 : FVec Ideal S65536x1024 .f32) (r : Fin 65536) : (Host.divf (broadcastInDim S65536x1 ![0] bcast_S65536_S65536x1_0 (Host.reduceAdd v90 (constant S_ .f32 0x00000000#32) reducesTo_S65536x1024_S65536_d1 h_S_)) (broadcastInDim S65536x1 ![] bcast_S_S65536x1 (constant S_ .f32 0x44800000#32)) : FVec Ideal S65536x1 .f32) (ix2 r 0) = Ideal.div (∑ x, v90 (ix2 r x)) (Ideal.ofBits FTy.f32 1149239296#32) := by
  pointwise

theorem norm_of (v90 : FVec Ideal S65536x1024 .f32) (v94 : FVec Ideal S65536x1 .f32) (A11 : FVec Ideal S1024 .f32) (A12 : FVec Ideal S1024 .f32) (r : Fin 65536) (j : Fin 1024)
    (h : v94 (ix2 r 0) = Ideal.div (∑ x, v90 (ix2 r x)) (Ideal.ofBits FTy.f32 1149239296#32)) :
    (addf (mulf (mulf (subf v90 (broadcastInDim S65536x1024 ![0, 1] bcast_S65536x1_S65536x1024_0_1 v94)) (broadcastInDim S65536x1024 ![0, 1] bcast_S65536x1_S65536x1024_0_1 (Host.rsqrt (addf (Host.divf (broadcastInDim S65536x1 ![0] bcast_S65536_S65536x1_0 (Host.reduceAdd (mulf (subf v90 (broadcastInDim S65536x1024 ![0, 1] bcast_S65536x1_S65536x1024_0_1 v94)) (subf v90 (broadcastInDim S65536x1024 ![0, 1] bcast_S65536x1_S65536x1024_0_1 v94))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x3727C5AC#32)))))) (broadcastInDim S65536x1024 ![0, 1] bcast_S1x1024_S65536x1024_0_1 (broadcastInDim S1x1024 ![1] bcast_S1024_S1x1024_1 A11))) (broadcastInDim S65536x1024 ![0, 1] bcast_S1x1024_S65536x1024_0_1 (broadcastInDim S1x1024 ![1] bcast_S1024_S1x1024_1 A12)) : FVec Ideal S65536x1024 .f32) (ix2 r j) = Layer.norm (fun j => v90 (ix2 r j)) (fun e => A11 (ix1 e)) (fun e => A12 (ix1 e)) j := by
  pointwise
  rw [h]
  rfl

/-- The normalised rows. -/
def normed : FVec Ideal S65536x1024 .f32 := res_main_v114 V0

theorem norm_at (r : Fin 65536) (j : Fin 1024) : normed V0 (ix2 r j)
    = Layer.norm (fun j => mixed V0 (ix2 r j)) (fun e => (V0 (Proc.devRef .tc main_arg11) : Vec Ideal S1024 .f32) (ix1 e))
      (fun e => (V0 (Proc.devRef .tc main_arg12) : Vec Ideal S1024 .f32) (ix1 e)) j := by
  unfold normed res_main_v114 res_main_v96 res_main_v94
  exact norm_of (mixed V0) _ _ _ r j (mean_of (mixed V0) r)

theorem logits_of (v114 : FVec Ideal S65536x1024 .f32) (A13 : FVec Ideal S1024x16 .f32) (A14 : FVec Ideal S16 .f32) (r : Fin 65536) (e : Fin 16) : (addf (Host.dotGeneral dot_S65536x1024_S1024x16_S65536x16_1_0_0_1_n_n none v114 A13) (broadcastInDim S65536x16 ![0, 1] bcast_S1x16_S65536x16_0_1 (broadcastInDim S1x16 ![1] bcast_S16_S1x16_1 A14)) : FVec Ideal S65536x16 .f32) (ix2 r e)
    = Layer.logits (fun j => v114 (ix2 r j)) (fun d e => A13 (ix2 d e)) (fun e => A14 (ix1 e)) e := by
  pointwise
  rfl

/-- The router's logits. -/
def logits : FVec Ideal S65536x16 .f32 := res_main_v118 V0

theorem logits_at (r : Fin 65536) (e : Fin 16) : logits V0 (ix2 r e)
    = Layer.logits (fun j => normed V0 (ix2 r j)) (fun d e => (V0 (Proc.devRef .tc main_arg13) : Vec Ideal S1024x16 .f32) (ix2 d e))
      (fun e => (V0 (Proc.devRef .tc main_arg14) : Vec Ideal S16 .f32) (ix1 e)) e := by
  unfold logits res_main_v118
  exact logits_of (normed V0) _ _ r e

theorem exps_of (v118 : FVec Ideal S65536x16 .f32) (r : Fin 65536) (e : Fin 16) : (Host.exp (subf v118 (broadcastInDim S65536x16 ![0, 1] bcast_S65536x1_S65536x16_0_1 (broadcastInDim S65536x1 ![0] bcast_S65536_S65536x1_0 (maximumf (broadcastInDim S65536 ![] bcast_S_S65536 (constant S_ .f32 0xFF800000#32)) (Host.reduce FloatOps.maximumf v118 (constant S_ .f32 0xFF800000#32) reducesTo_S65536x16_S65536_d1 h_S_))))) : FVec Ideal S65536x16 .f32) (ix2 r e)
    = Ideal.exp (v118 (ix2 r e) - Finset.univ.fold max ⊥ fun e => v118 (ix2 r e)) := by
  pointwise
  rw [show Ideal.ofBits FTy.f32 4286578688#32 = ⊥ from Chunk.neg_inf, max_eq_right bot_le]

theorem probs_of (v125 : FVec Ideal S65536x16 .f32) (r : Fin 65536) (g j : Fin 4) : (shapeCast _ (Host.divf v125 (broadcastInDim S65536x16 ![0, 1] bcast_S65536x1_S65536x16_0_1 (broadcastInDim S65536x1 ![0] bcast_S65536_S65536x1_0 (Host.reduceAdd v125 (constant S_ .f32 0x00000000#32) reducesTo_S65536x16_S65536_d1 h_S_)))) shapeCasts_S65536x16_S65536x4x4 : FVec Ideal S65536x4x4 .f32) (ix3 r g j)
    = Ideal.div (v125 (ix2 r (Layer.expert g j))) (∑ x, v125 (ix2 r x)) := by
  pointwise
  rw [show (⟨(g : ℕ) * 4 + j, by omega⟩ : Fin 16) = Layer.expert g j from Fin.ext (by simp [Layer.expert]; omega)]

/-- The router's probabilities. -/
def probs : FVec Ideal S65536x4x4 .f32 := res_main_v130 V0

theorem probs_at (r : Fin 65536) (g j : Fin 4) : probs V0 (ix3 r g j) = Layer.grouped (fun e => logits V0 (ix2 r e)) g j := by
  have key : ∀ v125 : FVec Ideal S65536x16 .f32, (∀ e, v125 (ix2 r e) = Ideal.exp (logits V0 (ix2 r e) - Finset.univ.fold max ⊥ fun e => logits V0 (ix2 r e))) →
      (shapeCast _ (Host.divf v125 (broadcastInDim S65536x16 ![0, 1] bcast_S65536x1_S65536x16_0_1 (broadcastInDim S65536x1 ![0] bcast_S65536_S65536x1_0 (Host.reduceAdd v125 (constant S_ .f32 0x00000000#32) reducesTo_S65536x16_S65536_d1 h_S_)))) shapeCasts_S65536x16_S65536x4x4 : FVec Ideal S65536x4x4 .f32) (ix3 r g j) = Layer.grouped (fun e => logits V0 (ix2 r e)) g j := fun v125 h => by
    rw [probs_of, Layer.grouped, Layer.probs]
    simp only [h]
  unfold probs res_main_v130 res_main_v125
  exact key _ (exps_of (logits V0) r)

end Cert.Ref
-- ==== Proof.RefRoute.lean ====
/- The reference's routing at a row: the two greatest of each group, the greatest group, and the two weights. -/
module

public import proofs.«01_k».proof.Proof.RefRow
public import proofs.«01_k».proof.Proof.Routing

@[expose] public section

set_option maxRecDepth 100000
set_option maxHeartbeats 4000000

noncomputable section

namespace Cert.Ref

open Cert.ReferenceIdeal Cert.ReferenceIdeal.Gen Cert.ReferenceIdeal.Value Idealize.ShloMosaic Idealize.ShloMosaic.TcCoe Idealize.SL.Sem Idealize.ShloMosaic.StableHlo Cert.Routing

theorem before_gt (x y : EReal) : ((Ideal.cmpTotal .gt x y) == 1#1) = decide (x > y) := by
  show (BitVec.ofBool (decide (y < x)) == 1#1) = decide (x > y)
  by_cases h : y < x <;> simp [h]

/-- The place a sort of row `r`'s group `g` puts at `k`. -/
def place (X : FVec Ideal S65536x4x4 .f32) (r : Fin 65536) (g : Fin 4) (k : Fin 2) : Fin 4 := sortedFrom (desc fun j => X (ix3 r g j)) ⟨k, by omega⟩

theorem along3 (r : Fin 65536) (g k k' : Fin 4) : Shape.Idx.along (s := S65536x4x4) (ix3 r g k) (2 : Fin 3) k' = ix3 r g k' := by
  funext a
  fin_cases a <;> rfl

theorem along2 (r : Fin 65536) (g k' : Fin 4) : Shape.Idx.along (s := S65536x4) (ix2 r g) (1 : Fin 2) k' = ix2 r k' := by
  funext a
  fin_cases a <;> rfl

theorem source3 (X : FVec Ideal S65536x4x4 .f32) (r : Fin 65536) (g k : Fin 4) (J : S65536x4x4.Idx) (hJ : J = ix3 r g k) :
    J.along (2 : Fin 3) (sortedFrom (fun k k' => FloatOps.cmpfTotal .gt (X (J.along (2 : Fin 3) k)) (X (J.along (2 : Fin 3) k')) == 1#1) (J (2 : Fin 3)))
      = ix3 r g (sortedFrom (desc fun j => X (ix3 r g j)) k) := by
  subst hJ
  refine (along3 r g k _).trans ?_
  have e : (fun k_1 k' : Fin 4 => FloatOps.cmpfTotal .gt (X (Shape.Idx.along (s := S65536x4x4) (ix3 r g k) (2 : Fin 3) k_1)) (X (Shape.Idx.along (s := S65536x4x4) (ix3 r g k) (2 : Fin 3) k')) == 1#1)
      = desc fun j => X (ix3 r g j) := by
    funext k1 k2
    refine (before_gt _ _).trans ?_
    exact congrArg₂ (fun u v => decide (X u > X v)) (along3 r g k k1) (along3 r g k k2)
  exact congrArg (fun f => ix3 r g (sortedFrom f k)) e

theorem source2 (X : FVec Ideal S65536x4 .f32) (r : Fin 65536) (k : Fin 4) (J : S65536x4.Idx) (hJ : J = ix2 r k) :
    J.along (1 : Fin 2) (sortedFrom (fun k k' => FloatOps.cmpfTotal .gt (X (J.along (1 : Fin 2) k)) (X (J.along (1 : Fin 2) k')) == 1#1) (J (1 : Fin 2)))
      = ix2 r (sortedFrom (desc fun j => X (ix2 r j)) k) := by
  subst hJ
  refine (along2 r k _).trans ?_
  have e : (fun k_1 k' : Fin 4 => FloatOps.cmpfTotal .gt (X (Shape.Idx.along (s := S65536x4) (ix2 r k) (1 : Fin 2) k_1)) (X (Shape.Idx.along (s := S65536x4) (ix2 r k) (1 : Fin 2) k')) == 1#1)
      = desc fun j => X (ix2 r j) := by
    funext k1 k2
    refine (before_gt _ _).trans ?_
    exact congrArg₂ (fun u v => decide (X u > X v)) (along2 r k k1) (along2 r k k2)
  exact congrArg (fun f => ix2 r (sortedFrom f k)) e

theorem pick_values (X : FVec Ideal S65536x4x4 .f32) (r : Fin 65536) (g : Fin 4) (k : Fin 2) :
    (Host.topK S65536x4x2 2 (FloatOps.cmpfTotal .gt) X sliceFits_S65536x4x4_S65536x4x2).1 (ix3 r g k) = X (ix3 r g (place X r g k)) := by
  unfold Host.topK Host.sort2 extractStridedSlice place
  simp only [show 2 < S65536x4x4.rank from by decide, dite_true]
  refine congrArg X (source3 X r g ⟨k, by omega⟩ _ (funext fun a => ?_))
  fin_cases a <;> exact Fin.ext (Nat.zero_add _)

theorem pick_places (X : FVec Ideal S65536x4x4 .f32) (r : Fin 65536) (g : Fin 4) (k : Fin 2) :
    (Host.topK S65536x4x2 2 (FloatOps.cmpfTotal .gt) X sliceFits_S65536x4x4_S65536x4x2).2 (ix3 r g k) = BitVec.ofNat 32 (place X r g k) := by
  unfold Host.topK Host.sort2 extractStridedSlice place
  simp only [show 2 < S65536x4x4.rank from by decide, dite_true]
  refine congrArg (fun J : S65536x4x4.Idx => BitVec.ofNat 32 (J 2 : ℕ)) (source3 X r g ⟨k, by omega⟩ _ (funext fun a => ?_))
  fin_cases a <;> exact Fin.ext (Nat.zero_add _)

/-- The group whose sum is greatest. -/
def chosen (X : FVec Ideal S65536x4 .f32) (r : Fin 65536) : Fin 4 := sortedFrom (desc fun g => X (ix2 r g)) 0

theorem pick_group (X : FVec Ideal S65536x4 .f32) (r : Fin 65536) :
    (Host.topK S65536x1 1 (FloatOps.cmpfTotal .gt) X sliceFits_S65536x4_S65536x1).2 (ix2 r (0 : Fin 1)) = BitVec.ofNat 32 (chosen X r) := by
  unfold Host.topK Host.sort2 extractStridedSlice chosen
  simp only [show 1 < S65536x4.rank from by decide, dite_true]
  refine congrArg (fun J : S65536x4.Idx => BitVec.ofNat 32 (J 1 : ℕ)) (source2 X r 0 _ (funext fun a => ?_))
  fin_cases a <;> exact Fin.ext (Nat.zero_add _)

theorem sums_of (X : FVec Ideal S65536x4x2 .f32) (r : Fin 65536) (g : Fin 4) : (Host.reduceAdd X (constant S_ .f32 0x00000000#32) reducesTo_S65536x4x2_S65536x4_d2 h_S_ : FVec Ideal S65536x4 .f32) (ix2 r g) = X (ix3 r g 0) + X (ix3 r g 1) := by
  refine Eq.trans (b := ∑ x : Fin 2, X (ix3 r g x)) ?_ (Fin.sum_univ_two _)
  pointwise

theorem group_of (X : FVec Ideal S65536x4 .f32) (r : Fin 65536) : (shapeCast _ ((Host.topK S65536x1 1 (FloatOps.cmpfTotal .gt) X sliceFits_S65536x4_S65536x1).2) shapeCasts_S65536x1_S65536 : IVec S65536 32) (ix1 r) = BitVec.ofNat 32 (chosen X r) := by
  rw [← pick_group]
  generalize (Host.topK S65536x1 1 (FloatOps.cmpfTotal .gt) X sliceFits_S65536x4_S65536x1).2 = Y
  pointwise

theorem wide_of (X : IVec S65536 32) (r : Fin 65536) : (broadcastInDim S65536x1x1 ![0] bcast_S65536_S65536x1x1_0 X : IVec S65536x1x1 32) (ix3 r 0 0) = X (ix1 r) := by
  pointwise

theorem index_of (X : IVec S65536x1x1 32) (r : Fin 65536) (a : Fin 4) (h : X (ix3 r 0 0) = BitVec.ofNat 32 a) :
    (select (cmpi .slt X (broadcastInDim S65536x1x1 ![] bcast_S_S65536x1x1 (constantI S_ 32 0#32))) (addi X (broadcastInDim S65536x1x1 ![] bcast_S_S65536x1x1 (constantI S_ 32 4#32))) X : IVec S65536x1x1 32) (ix3 r 0 0) = BitVec.ofNat 32 a := by
  pointwise
  rw [h]
  clear h
  revert a
  decide

theorem taken {α : Type} (X : S65536x4x2.Idx → α) (I : IVec S65536x1x1 32) (r : Fin 65536) (k : Fin 2) (a : Fin 4) (h : I (ix3 r 0 0) = BitVec.ofNat 32 a) :
    Host.gather gather_S65536x4x2_S65536x1x1_S65536x1x2_2_1_0_0_1_2_112 X I (ix3 r (0 : Fin 1) k) = X (ix3 r a k) := by
  refine gather_at _ X I _ _ fun x => ?_
  match x with
  | ⟨0, _⟩ =>
    show 0 + (r : ℕ) + 0 = r
    omega
  | ⟨1, _⟩ =>
    have e : gather_S65536x4x2_S65536x1x1_S65536x1x2_2_1_0_0_1_2_112.siIdx (ix3 r (0 : Fin 1) k) ⟨0, Nat.one_pos⟩ = ix3 r (0 : Fin 1) (0 : Fin 1) := by
      funext a
      match a with
      | ⟨0, _⟩ => rfl
      | ⟨1, _⟩ => rfl
      | ⟨2, _⟩ => rfl
    show min (I (gather_S65536x4x2_S65536x1x1_S65536x1x2_2_1_0_0_1_2_112.siIdx (ix3 r (0 : Fin 1) k) ⟨0, Nat.one_pos⟩)).toInt.toNat 3 + 0 + 0 = (a : ℕ)
    rw [e, h]
    clear h
    revert a
    decide
  | ⟨2, _⟩ =>
    show 0 + 0 + (k : ℕ) = k
    omega

theorem inside (I : IVec S65536x1x1 32) (r : Fin 65536) (a : Fin 4) (h : I (ix3 r 0 0) = BitVec.ofNat 32 a) :
    Host.reduce IntOp.andi (andi (cmpi .sge I (broadcastInDim S65536x1x1 ![] bcast_S_S65536x1x1 (constantI S_ 32 0#32))) (cmpi .sle I (broadcastInDim S65536x1x1 ![0, 1, 2] bcast_S1x1x1_S65536x1x1_0_1_2 (broadcastInDim S1x1x1 ![2] bcast_S1_S1x1x1_2 (constantI S1 32 3#32))))) (constantI S_ 1 1#1) reducesTo_S65536x1x1_S65536x1_d2 h_S_ (ix2 r (0 : Fin 1)) = 1#1 := by
  pointwise
  rw [Finset.univ_unique, Finset.fold_singleton]
  show IntOp.andi (IntOp.andi (IntOp.cmpi .sge (I (ix3 r 0 0)) 0#32) (IntOp.cmpi .sle (I (ix3 r 0 0)) 3#32)) 1#1 = 1#1
  rw [h]
  clear h
  revert a
  decide

theorem chosen_of (X : FVec Ideal S65536x4x2 .f32) (I : IVec S65536x1x1 32) (r : Fin 65536) (k : Fin 2) (a : Fin 4) (h : I (ix3 r 0 0) = BitVec.ofNat 32 a) :
    (shapeCast _ (select (broadcastInDim S65536x1x2 ![0, 1] bcast_S65536x1_S65536x1x2_0_1 (Host.reduce IntOp.andi (andi (cmpi .sge I (broadcastInDim S65536x1x1 ![] bcast_S_S65536x1x1 (constantI S_ 32 0#32))) (cmpi .sle I (broadcastInDim S65536x1x1 ![0, 1, 2] bcast_S1x1x1_S65536x1x1_0_1_2 (broadcastInDim S1x1x1 ![2] bcast_S1_S1x1x1_2 (constantI S1 32 3#32))))) (constantI S_ 1 1#1) reducesTo_S65536x1x1_S65536x1_d2 h_S_)) (Host.gather gather_S65536x4x2_S65536x1x1_S65536x1x2_2_1_0_0_1_2_112 X I) (broadcastInDim S65536x1x2 ![] bcast_S_S65536x1x2 (constant S_ .f32 0x7FC00000#32))) shapeCasts_S65536x1x2_S65536x2 : FVec Ideal S65536x2 .f32) (ix2 r k) = X (ix3 r a k) := by
  have e1 := inside I r a h
  have e2 := taken X I r k a h
  generalize Host.gather gather_S65536x4x2_S65536x1x1_S65536x1x2_2_1_0_0_1_2_112 X I = Y at e2 ⊢
  generalize Host.reduce IntOp.andi _ _ reducesTo_S65536x1x1_S65536x1_d2 h_S_ = Z at e1 ⊢
  pointwise
  rw [e1, ← e2]
  rfl

theorem number_of (X : IVec S65536x4x2 32) (I : IVec S65536x1x1 32) (G : IVec S65536 32) (r : Fin 65536) (k : Fin 2) (a : Fin 4) (h : I (ix3 r 0 0) = BitVec.ofNat 32 a)
    (hG : G (ix1 r) = BitVec.ofNat 32 a) :
    (addi (shapeCast _ (select (broadcastInDim S65536x1x2 ![0, 1] bcast_S65536x1_S65536x1x2_0_1 (Host.reduce IntOp.andi (andi (cmpi .sge I (broadcastInDim S65536x1x1 ![] bcast_S_S65536x1x1 (constantI S_ 32 0#32))) (cmpi .sle I (broadcastInDim S65536x1x1 ![0, 1, 2] bcast_S1x1x1_S65536x1x1_0_1_2 (broadcastInDim S1x1x1 ![2] bcast_S1_S1x1x1_2 (constantI S1 32 3#32))))) (constantI S_ 1 1#1) reducesTo_S65536x1x1_S65536x1_d2 h_S_)) (Host.gather gather_S65536x4x2_S65536x1x1_S65536x1x2_2_1_0_0_1_2_112 X I) (broadcastInDim S65536x1x2 ![] bcast_S_S65536x1x2 (constantI S_ 32 2147483648#32))) shapeCasts_S65536x1x2_S65536x2) (broadcastInDim S65536x2 ![0, 1] bcast_S65536x1_S65536x2_0_1 (muli (broadcastInDim S65536x1 ![0] bcast_S65536_S65536x1_0 G) (broadcastInDim S65536x1 ![] bcast_S_S65536x1 (constantI S_ 32 4#32)))) : IVec S65536x2 32) (ix2 r k) = X (ix3 r a k) + BitVec.ofNat 32 a * 4#32 := by
  have e1 := inside I r a h
  have e2 := taken X I r k a h
  generalize Host.gather gather_S65536x4x2_S65536x1x1_S65536x1x2_2_1_0_0_1_2_112 X I = Y at e2 ⊢
  generalize Host.reduce IntOp.andi _ _ reducesTo_S65536x1x1_S65536x1_d2 h_S_ = Z at e1 ⊢
  pointwise
  rw [e1, ← e2, hG]
  rfl

theorem share_of (X : FVec Ideal S65536x2 .f32) (r : Fin 65536) (k : Fin 2) :
    (Host.divf X (broadcastInDim S65536x2 ![0, 1] bcast_S65536x1_S65536x2_0_1 (broadcastInDim S65536x1 ![0] bcast_S65536_S65536x1_0 (Host.reduceAdd X (constant S_ .f32 0x00000000#32) reducesTo_S65536x2_S65536_d1 h_S_))) : FVec Ideal S65536x2 .f32) (ix2 r k) = Ideal.div (X (ix2 r k)) (X (ix2 r 0) + X (ix2 r 1)) := by
  refine Eq.trans (b := Ideal.div (X (ix2 r k)) (∑ x : Fin 2, X (ix2 r x))) ?_ (congrArg _ (Fin.sum_univ_two _))
  pointwise

theorem order_of (X : IVec S65536x2 32) (r : Fin 65536) :
    (cmpi .slt (extractStridedSlice S65536x1 ![0, 0] X slices_S65536x2_S65536x1_0_0) (extractStridedSlice S65536x1 ![0, 1] X slices_S65536x2_S65536x1_0_1) : IVec S65536x1 1) (ix2 r 0) = IntOp.cmpi .slt (X (ix2 r 0)) (X (ix2 r 1)) := by
  pointwise

variable (V0 : Valuation τ sig (Elt Ideal))

/-- The two greatest of each group. -/
def values2 : FVec Ideal S65536x4x2 .f32 := res_main_values V0
/-- The sums of the two greatest of the groups. -/
def sums : FVec Ideal S65536x4 .f32 := res_main_v131 V0
/-- The greatest group's word. -/
def group : IVec S65536 32 := res_main_v132 V0
/-- The two greatest of the greatest group. -/
def tops : FVec Ideal S65536x2 .f32 := res_main_v135 V0
/-- The numbers of those two experts. -/
def numbers : IVec S65536x2 32 := res_main_v143 V0
/-- Their shares. -/
def shares : FVec Ideal S65536x2 .f32 := res_main_v147 V0
/-- Whether the greater one comes first in order. -/
def order : IVec S65536x1 1 := res_main_v150 V0

theorem values2_at (r : Fin 65536) (g : Fin 4) (k : Fin 2) : values2 V0 (ix3 r g k) = probs V0 (ix3 r g (place (probs V0) r g k)) := by
  unfold values2 res_main_values
  exact pick_values (probs V0) r g k

theorem sums_at (r : Fin 65536) (g : Fin 4) : sums V0 (ix2 r g) = values2 V0 (ix3 r g 0) + values2 V0 (ix3 r g 1) := by
  unfold sums res_main_v131
  exact sums_of (values2 V0) r g

theorem group_at (r : Fin 65536) : group V0 (ix1 r) = BitVec.ofNat 32 (chosen (sums V0) r) := by
  unfold group res_main_v132
  exact group_of (sums V0) r

theorem tops_at (r : Fin 65536) (k : Fin 2) : tops V0 (ix2 r k) = values2 V0 (ix3 r (chosen (sums V0) r) k) := by
  unfold tops res_main_v135 res_main_call4_v4 res_main_v133
  exact chosen_of (values2 V0) _ r k _ (index_of _ r _ ((wide_of (group V0) r).trans (group_at V0 r)))

theorem numbers_at (r : Fin 65536) (k : Fin 2) : numbers V0 (ix2 r k)
    = BitVec.ofNat 32 (place (probs V0) r (chosen (sums V0) r) k) + BitVec.ofNat 32 (chosen (sums V0) r) * 4#32 := by
  unfold numbers res_main_v143 res_main_call5_v4 res_main_v136
  refine (number_of _ _ (group V0) r k _ (index_of _ r _ ((wide_of (group V0) r).trans (group_at V0 r))) (group_at V0 r)).trans ?_
  exact congrArg (· + _) (pick_places (probs V0) r _ k)

theorem shares_at (r : Fin 65536) (k : Fin 2) : shares V0 (ix2 r k) = Ideal.div (tops V0 (ix2 r k)) (tops V0 (ix2 r 0) + tops V0 (ix2 r 1)) := by
  unfold shares res_main_v147
  exact share_of (tops V0) r k

theorem order_at (r : Fin 65536) : order V0 (ix2 r 0) = IntOp.cmpi .slt (numbers V0 (ix2 r 0)) (numbers V0 (ix2 r 1)) := by
  unfold order res_main_v150
  exact order_of (numbers V0) r

end Cert.Ref
-- ==== Proof.Weights.lean ====
/- The reference's two routing weights at a row are the weights the kernel writes. -/
module

public import proofs.«01_k».proof.Proof.RefRoute

@[expose] public section

noncomputable section

namespace Cert.Layer

open Idealize.ShloMosaic Cert.Routing

theorem exp_nonneg (x : EReal) : 0 ≤ Ideal.exp x := by
  induction x with
  | bot => exact le_refl _
  | top => exact le_top
  | coe x => exact EReal.coe_nonneg.mpr (Real.exp_pos x).le

theorem div_nonneg {x y : EReal} (hx : 0 ≤ x) (hy : 0 ≤ y) (h : y ≠ 0) : 0 ≤ Ideal.div x y := by
  rw [Ideal.div, if_neg h]
  exact mul_nonneg hx (EReal.inv_nonneg_of_nonneg hy)

/-- The probabilities are all nonnegative, or all `⊥`: the second when every exponential is zero. -/
theorem probs_cases (s : Fin 16 → EReal) : (∀ e, 0 ≤ probs s e) ∨ ∀ e, probs s e = ⊥ := by
  have hn : 0 ≤ ∑ x, Ideal.exp (s x - Finset.univ.fold max ⊥ s) := Finset.sum_nonneg fun x _ => exp_nonneg _
  by_cases h : ∑ x, Ideal.exp (s x - Finset.univ.fold max ⊥ s) = 0
  · right
    intro e
    have e0 : Ideal.exp (s e - Finset.univ.fold max ⊥ s) = 0 :=
      le_antisymm (h ▸ Finset.single_le_sum (f := fun x => Ideal.exp (s x - Finset.univ.fold max ⊥ s)) (fun x _ => exp_nonneg _) (Finset.mem_univ e)) (exp_nonneg _)
    rw [probs, h, e0, Ideal.div, if_pos rfl, if_neg (lt_irrefl _)]
  · left
    exact fun e => div_nonneg (exp_nonneg _) hn h

/-- The place a sort of group `g` puts at `k`. -/
def rank (p : Fin 4 → Fin 4 → EReal) (g : Fin 4) (k : Fin 2) : Fin 4 := sortedFrom (desc (p g)) ⟨k, by omega⟩

/-- The group whose two greatest have the greatest sum. -/
def top (p : Fin 4 → Fin 4 → EReal) : Fin 4 := sortedFrom (desc fun g => p g (rank p g 0) + p g (rank p g 1)) 0

/-- The share of the chosen group's expert at `k`. -/
def share (p : Fin 4 → Fin 4 → EReal) (k : Fin 2) : EReal :=
  Ideal.div (p (top p) (rank p (top p) k)) (p (top p) (rank p (top p) 0) + p (top p) (rank p (top p) 1))

theorem slt_shift : ∀ a i j : Fin 4, IntOp.cmpi .slt (BitVec.ofNat 32 i + BitVec.ofNat 32 a * 4#32) (BitVec.ofNat 32 j + BitVec.ofNat 32 a * 4#32)
    = IntOp.cmpi .slt (BitVec.ofNat 32 i) (BitVec.ofNat 32 j) := by
  decide

theorem div_bot (x : EReal) : Ideal.div x ⊥ = 0 := by
  rw [Ideal.div, if_neg EReal.bot_lt_zero.ne, EReal.inv_bot, mul_zero]

/-- The weight found by running maxima is the one found by sorting. -/
theorem weight_sorted (p : Fin 4 → Fin 4 → EReal) (h : (∀ g j, 0 ≤ p g j) ∨ ∀ g j, p g j = ⊥) (lo : Bool) :
    weight p lo = Scalar.select (IntOp.cmpi .slt (BitVec.ofNat 32 (rank p (top p) 0) + BitVec.ofNat 32 (top p) * 4#32)
        (BitVec.ofNat 32 (rank p (top p) 1) + BitVec.ofNat 32 (top p) * 4#32))
      (share p (if lo then 0 else 1)) (share p (if lo then 1 else 0)) := by
  rcases h with h | h
  · have b0 : ∀ g, best (p g) = p g (rank p g 0) := fun g => best_eq (p g)
    have b1 : ∀ g, best (others (p g)) = p g (rank p g 1) := fun g => (second (p g) (h g)).1
    have f0 : ∀ g, first (p g) (best (p g)) = BitVec.ofNat 32 (rank p g 0) := fun g => first_eq (p g)
    have f1 : ∀ g, first (others (p g)) (best (others (p g))) = BitVec.ofNat 32 (rank p g 1) := fun g => (second (p g) (h g)).2
    have ht : total p = fun g => p g (rank p g 0) + p g (rank p g 1) := funext fun g => by rw [total, b0, b1]
    have hs : sortedFrom (desc (total p)) 0 = top p := by rw [ht]; rfl
    unfold weight
    simp only [scan_eq, hs, f0, f1]
    rw [slt_shift]
    simp only [b0, b1]
    cases lo <;> rfl
  · have z : ∀ k, share p k = 0 := fun k => by
      rw [share, h, h, h, EReal.bot_add, div_bot]
    have v1 : scan (total p) (fun g => best (p g)) = ⊥ := by
      rw [scan_eq, best_eq, h]
    rw [z, z]
    unfold weight
    simp only [v1, EReal.bot_add, div_bot]
    cases lo <;> simp [Scalar.select]

end Cert.Layer

namespace Cert.Ref

open Cert.ReferenceIdeal Cert.ReferenceIdeal.Gen Cert.ReferenceIdeal.Value Idealize.ShloMosaic Idealize.ShloMosaic.TcCoe Idealize.SL.Sem Idealize.ShloMosaic.StableHlo Cert.Routing

variable (V0 : Valuation τ sig (Elt Ideal))

/-- The probabilities of a row, in four groups. -/
def row (r : Fin 65536) : Fin 4 → Fin 4 → EReal := Layer.grouped fun e => logits V0 (ix2 r e)

theorem row_at (r : Fin 65536) (g : Fin 4) : (fun j => probs V0 (ix3 r g j)) = row V0 r g := funext fun j => probs_at V0 r g j

theorem place_at (r : Fin 65536) (g : Fin 4) (k : Fin 2) : place (probs V0) r g k = Layer.rank (row V0 r) g k := by
  rw [place, row_at]
  rfl

theorem values_row (r : Fin 65536) (g : Fin 4) (k : Fin 2) : values2 V0 (ix3 r g k) = row V0 r g (Layer.rank (row V0 r) g k) := by
  rw [values2_at, place_at, probs_at]
  rfl

theorem chosen_at (r : Fin 65536) : chosen (sums V0) r = Layer.top (row V0 r) := by
  unfold chosen Layer.top
  have e : (fun g => sums V0 (ix2 r g)) = fun g => row V0 r g (Layer.rank (row V0 r) g 0) + row V0 r g (Layer.rank (row V0 r) g 1) :=
    funext fun g => by rw [sums_at, values_row, values_row]
  rw [e]

theorem shares_row (r : Fin 65536) (k : Fin 2) : shares V0 (ix2 r k) = Layer.share (row V0 r) k := by
  rw [shares_at, tops_at, tops_at, tops_at, chosen_at, values_row, values_row, values_row]
  rfl

/-- The weight of the expert that comes first in order (`lo`), or of the other. -/
theorem weights_row (r : Fin 65536) (lo : Bool) :
    Scalar.select (order V0 (ix2 r 0)) (shares V0 (ix2 r (if lo then 0 else 1))) (shares V0 (ix2 r (if lo then 1 else 0))) = Layer.weight (row V0 r) lo := by
  rw [Layer.weight_sorted _ ?_ lo, order_at, numbers_at, numbers_at, chosen_at, place_at, place_at, shares_row, shares_row]
  rcases Layer.probs_cases fun e => logits V0 (ix2 r e) with h | h
  · exact .inl fun g j => h _
  · exact .inr fun g j => h _

end Cert.Ref
-- ==== Proof.CaseA.lean ====
module

public import proofs.«01_k».proof.Proof.Gen.KernelIdeal.Frame
public import proofs.«01_k».proof.Proof.Tile
public import proofs.«01_k».proof.Proof.Block
public import Idealize.ShloMosaic.Lib.Pipeline.ReadBack
public import Idealize.ShloMosaic.Lib.Pipeline.ValueKit.Tiles

@[expose] public section

set_option maxRecDepth 16384
set_option maxHeartbeats 8000000

noncomputable section

namespace Cert.Cases

open Cert.KernelIdeal Cert.KernelIdeal.Gen Idealize.ShloMosaic Idealize.ShloMosaic.TcCoe Idealize.SL.Sem Cert.Chunk Cert.Tile Cert.Block

/-- On the first tile of a device's block, the result is the block over the attention with the keys before the sequence masked. -/
theorem written_A (c : Dev nD) (i : grid0.Coords) (arg2 : Memref sig .tc .vmem S512x512 .bf16) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x2048 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S4x128x576 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S16x1024 .bf16) (harg17 : arg17.IsWhole) (arg18 : Memref sig .tc .vmem S16x1 .f32) (harg18 : arg18.IsWhole) (arg19 : Memref sig .tc .vmem S512x1152 .f32) (harg19 : arg19.IsWhole) (arg20 : Memref sig .tc .vmem S1x1x512 .i32) (harg20 : arg20.IsWhole) (arg21 : Memref sig .tc .vmem S1x1x512 .i32) (harg21 : arg21.IsWhole) (arg22 : Memref sig .tc .vmem S32x128 .f32) (harg22 : arg22.IsWhole) (arg23 : Memref sig .tc .vmem S1024x512 .bf16) (harg23 : arg23.IsWhole) (arg24 : Memref sig .tc .vmem S1024x512 .bf16) (harg24 : arg24.IsWhole) (arg25 : Memref sig .tc .vmem S512x512 .bf16) (harg25 : arg25.IsWhole) (arg26 : Memref sig .tc .vmem S2x4x128x576 .f32) (harg26 : arg26.IsWhole) (arg27 : Memref sig .tc .vmem S2x4x128x576 .bf16) (harg27 : arg27.IsWhole) (arg28 : Memref sig .tc .vmem S2x4x128x1 .f32) (harg28 : arg28.IsWhole) (arg29 : Memref sig .tc .vmem S512x512 .bf16) (harg29 : arg29.IsWhole) (arg30 : Memref sig .tc .vmem S32x128 .f32) (harg30 : arg30.IsWhole) (hc0 : cond0_0 i) (hc1 : cond0_1 i) (hc2 : ¬cond0_2 i)
    (x0 : Vec Ideal S512x512 .bf16) (x1 : Vec Ideal S512x512 .f32) (x2 : Vec Ideal S512x512 .bf16) (x3 : Vec Ideal S512x512 .bf16) (x4 : Vec Ideal S512x512 .bf16) (x5 : Vec Ideal S512x512 .bf16) (x6 : Vec Ideal S512x2048 .bf16) (x7 : Vec Ideal S512x1024 .f32) (x8 : Vec Ideal S512x1024 .bf16) (x9 : Vec Ideal S4x128x576 .f32) (x10 : Vec Ideal S512x1024 .bf16) (x11 : Vec Ideal S1024x1024 .bf16) (x12 : Vec Ideal S1x1024 .f32) (x13 : Vec Ideal S1x1024 .f32) (x14 : Vec Ideal S1x1024 .f32) (x15 : Vec Ideal S16x1024 .bf16) (x16 : Vec Ideal S16x1 .f32) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 x13 x14 x15 x16
      = Block.written (Tile.first x1 (Tile.stack x3 x2) (Tile.stack x5 x4) x9) x0 x6 x7 x8 x10 x11 x12 x13 x14 x15 x16 := by
  frame_open
  simp (disch := decide) only [↓ View.readCov_skip, ↓ View.readCov_cons_toLoadRect, View.readAt_eq_ld, Memref.IsWhole.read_unread, View.ld_unit_lit', pay418, pay419, pay420, pay421, stack_load]
  rw [whole_readCov _ (Tile.first x1 (Tile.stack x3 x2) (Tile.stack x5 x4) x9) _ _ (by decide) _ ?_ ?_]
  · simp only [e430, e431, e432, e433, e434, e435, e436, e437, e438, e439, e440, e441, e442, e444, e445, e446, e447, e448, e449, e453, e454, e455, e463, e464, e465, e466, e467, e468, e472, e473, e474, e475, e484, e485, e486, e487, e488, e489, e490, e491, e492, e457, e458, e459, e460, e461, e478, e479, e480, e481, e482, e493, e494, e495, e496, e497, e498, e504, e505, View.read_writes_junk_eq_canon]
    rfl
  · exact covered _ rfl
  · exact ⟨fun x => first_at x1 (Tile.stack x3 x2) (Tile.stack x5 x4) x9 7 3 rfl rfl rfl (BitVec.ofNat 32 64) rfl inb_S512x512_S64x128_448_384 inb_S1024x512_S576x128_448_384 inb_S1024x512_S576x128_448_384 inb_S4x128x576_S1x128x576_3_0_0 inb_S512x512_S64x128_448_384 x,
      fun x => first_at x1 (Tile.stack x3 x2) (Tile.stack x5 x4) x9 7 2 rfl rfl rfl (BitVec.ofNat 32 64) rfl inb_S512x512_S64x128_448_256 inb_S1024x512_S576x128_448_256 inb_S1024x512_S576x128_448_256 inb_S4x128x576_S1x128x576_2_0_0 inb_S512x512_S64x128_448_256 x,
      fun x => first_at x1 (Tile.stack x3 x2) (Tile.stack x5 x4) x9 7 1 rfl rfl rfl (BitVec.ofNat 32 64) rfl inb_S512x512_S64x128_448_128 inb_S1024x512_S576x128_448_128 inb_S1024x512_S576x128_448_128 inb_S4x128x576_S1x128x576_1_0_0 inb_S512x512_S64x128_448_128 x,
      fun x => first_at x1 (Tile.stack x3 x2) (Tile.stack x5 x4) x9 7 0 rfl rfl rfl (BitVec.ofNat 32 64) rfl inb_S512x512_S64x128_448_0 inb_S1024x512_S576x128_448_0 inb_S1024x512_S576x128_448_0 inb_S4x128x576_S1x128x576_0_0_0 inb_S512x512_S64x128_448_0 x,
      fun x => first_at x1 (Tile.stack x3 x2) (Tile.stack x5 x4) x9 6 3 rfl rfl rfl (BitVec.ofNat 32 128) rfl inb_S512x512_S64x128_384_384 inb_S1024x512_S576x128_384_384 inb_S1024x512_S576x128_384_384 inb_S4x128x576_S1x128x576_3_0_0 inb_S512x512_S64x128_384_384 x,
      fun x => first_at x1 (Tile.stack x3 x2) (Tile.stack x5 x4) x9 6 2 rfl rfl rfl (BitVec.ofNat 32 128) rfl inb_S512x512_S64x128_384_256 inb_S1024x512_S576x128_384_256 inb_S1024x512_S576x128_384_256 inb_S4x128x576_S1x128x576_2_0_0 inb_S512x512_S64x128_384_256 x,
      fun x => first_at x1 (Tile.stack x3 x2) (Tile.stack x5 x4) x9 6 1 rfl rfl rfl (BitVec.ofNat 32 128) rfl inb_S512x512_S64x128_384_128 inb_S1024x512_S576x128_384_128 inb_S1024x512_S576x128_384_128 inb_S4x128x576_S1x128x576_1_0_0 inb_S512x512_S64x128_384_128 x,
      fun x => first_at x1 (Tile.stack x3 x2) (Tile.stack x5 x4) x9 6 0 rfl rfl rfl (BitVec.ofNat 32 128) rfl inb_S512x512_S64x128_384_0 inb_S1024x512_S576x128_384_0 inb_S1024x512_S576x128_384_0 inb_S4x128x576_S1x128x576_0_0_0 inb_S512x512_S64x128_384_0 x,
      fun x => first_at x1 (Tile.stack x3 x2) (Tile.stack x5 x4) x9 5 3 rfl rfl rfl (BitVec.ofNat 32 192) rfl inb_S512x512_S64x128_320_384 inb_S1024x512_S576x128_320_384 inb_S1024x512_S576x128_320_384 inb_S4x128x576_S1x128x576_3_0_0 inb_S512x512_S64x128_320_384 x,
      fun x => first_at x1 (Tile.stack x3 x2) (Tile.stack x5 x4) x9 5 2 rfl rfl rfl (BitVec.ofNat 32 192) rfl inb_S512x512_S64x128_320_256 inb_S1024x512_S576x128_320_256 inb_S1024x512_S576x128_320_256 inb_S4x128x576_S1x128x576_2_0_0 inb_S512x512_S64x128_320_256 x,
      fun x => first_at x1 (Tile.stack x3 x2) (Tile.stack x5 x4) x9 5 1 rfl rfl rfl (BitVec.ofNat 32 192) rfl inb_S512x512_S64x128_320_128 inb_S1024x512_S576x128_320_128 inb_S1024x512_S576x128_320_128 inb_S4x128x576_S1x128x576_1_0_0 inb_S512x512_S64x128_320_128 x,
      fun x => first_at x1 (Tile.stack x3 x2) (Tile.stack x5 x4) x9 5 0 rfl rfl rfl (BitVec.ofNat 32 192) rfl inb_S512x512_S64x128_320_0 inb_S1024x512_S576x128_320_0 inb_S1024x512_S576x128_320_0 inb_S4x128x576_S1x128x576_0_0_0 inb_S512x512_S64x128_320_0 x,
      fun x => first_at x1 (Tile.stack x3 x2) (Tile.stack x5 x4) x9 4 3 rfl rfl rfl (BitVec.ofNat 32 256) rfl inb_S512x512_S64x128_256_384 inb_S1024x512_S576x128_256_384 inb_S1024x512_S576x128_256_384 inb_S4x128x576_S1x128x576_3_0_0 inb_S512x512_S64x128_256_384 x,
      fun x => first_at x1 (Tile.stack x3 x2) (Tile.stack x5 x4) x9 4 2 rfl rfl rfl (BitVec.ofNat 32 256) rfl inb_S512x512_S64x128_256_256 inb_S1024x512_S576x128_256_256 inb_S1024x512_S576x128_256_256 inb_S4x128x576_S1x128x576_2_0_0 inb_S512x512_S64x128_256_256 x,
      fun x => first_at x1 (Tile.stack x3 x2) (Tile.stack x5 x4) x9 4 1 rfl rfl rfl (BitVec.ofNat 32 256) rfl inb_S512x512_S64x128_256_128 inb_S1024x512_S576x128_256_128 inb_S1024x512_S576x128_256_128 inb_S4x128x576_S1x128x576_1_0_0 inb_S512x512_S64x128_256_128 x,
      fun x => first_at x1 (Tile.stack x3 x2) (Tile.stack x5 x4) x9 4 0 rfl rfl rfl (BitVec.ofNat 32 256) rfl inb_S512x512_S64x128_256_0 inb_S1024x512_S576x128_256_0 inb_S1024x512_S576x128_256_0 inb_S4x128x576_S1x128x576_0_0_0 inb_S512x512_S64x128_256_0 x,
      fun x => first_at x1 (Tile.stack x3 x2) (Tile.stack x5 x4) x9 3 3 rfl rfl rfl (BitVec.ofNat 32 320) rfl inb_S512x512_S64x128_192_384 inb_S1024x512_S576x128_192_384 inb_S1024x512_S576x128_192_384 inb_S4x128x576_S1x128x576_3_0_0 inb_S512x512_S64x128_192_384 x,
      fun x => first_at x1 (Tile.stack x3 x2) (Tile.stack x5 x4) x9 3 2 rfl rfl rfl (BitVec.ofNat 32 320) rfl inb_S512x512_S64x128_192_256 inb_S1024x512_S576x128_192_256 inb_S1024x512_S576x128_192_256 inb_S4x128x576_S1x128x576_2_0_0 inb_S512x512_S64x128_192_256 x,
      fun x => first_at x1 (Tile.stack x3 x2) (Tile.stack x5 x4) x9 3 1 rfl rfl rfl (BitVec.ofNat 32 320) rfl inb_S512x512_S64x128_192_128 inb_S1024x512_S576x128_192_128 inb_S1024x512_S576x128_192_128 inb_S4x128x576_S1x128x576_1_0_0 inb_S512x512_S64x128_192_128 x,
      fun x => first_at x1 (Tile.stack x3 x2) (Tile.stack x5 x4) x9 3 0 rfl rfl rfl (BitVec.ofNat 32 320) rfl inb_S512x512_S64x128_192_0 inb_S1024x512_S576x128_192_0 inb_S1024x512_S576x128_192_0 inb_S4x128x576_S1x128x576_0_0_0 inb_S512x512_S64x128_192_0 x,
      fun x => first_at x1 (Tile.stack x3 x2) (Tile.stack x5 x4) x9 2 3 rfl rfl rfl (BitVec.ofNat 32 384) rfl inb_S512x512_S64x128_128_384 inb_S1024x512_S576x128_128_384 inb_S1024x512_S576x128_128_384 inb_S4x128x576_S1x128x576_3_0_0 inb_S512x512_S64x128_128_384 x,
      fun x => first_at x1 (Tile.stack x3 x2) (Tile.stack x5 x4) x9 2 2 rfl rfl rfl (BitVec.ofNat 32 384) rfl inb_S512x512_S64x128_128_256 inb_S1024x512_S576x128_128_256 inb_S1024x512_S576x128_128_256 inb_S4x128x576_S1x128x576_2_0_0 inb_S512x512_S64x128_128_256 x,
      fun x => first_at x1 (Tile.stack x3 x2) (Tile.stack x5 x4) x9 2 1 rfl rfl rfl (BitVec.ofNat 32 384) rfl inb_S512x512_S64x128_128_128 inb_S1024x512_S576x128_128_128 inb_S1024x512_S576x128_128_128 inb_S4x128x576_S1x128x576_1_0_0 inb_S512x512_S64x128_128_128 x,
      fun x => first_at x1 (Tile.stack x3 x2) (Tile.stack x5 x4) x9 2 0 rfl rfl rfl (BitVec.ofNat 32 384) rfl inb_S512x512_S64x128_128_0 inb_S1024x512_S576x128_128_0 inb_S1024x512_S576x128_128_0 inb_S4x128x576_S1x128x576_0_0_0 inb_S512x512_S64x128_128_0 x,
      fun x => first_at x1 (Tile.stack x3 x2) (Tile.stack x5 x4) x9 1 3 rfl rfl rfl (BitVec.ofNat 32 448) rfl inb_S512x512_S64x128_64_384 inb_S1024x512_S576x128_64_384 inb_S1024x512_S576x128_64_384 inb_S4x128x576_S1x128x576_3_0_0 inb_S512x512_S64x128_64_384 x,
      fun x => first_at x1 (Tile.stack x3 x2) (Tile.stack x5 x4) x9 1 2 rfl rfl rfl (BitVec.ofNat 32 448) rfl inb_S512x512_S64x128_64_256 inb_S1024x512_S576x128_64_256 inb_S1024x512_S576x128_64_256 inb_S4x128x576_S1x128x576_2_0_0 inb_S512x512_S64x128_64_256 x,
      fun x => first_at x1 (Tile.stack x3 x2) (Tile.stack x5 x4) x9 1 1 rfl rfl rfl (BitVec.ofNat 32 448) rfl inb_S512x512_S64x128_64_128 inb_S1024x512_S576x128_64_128 inb_S1024x512_S576x128_64_128 inb_S4x128x576_S1x128x576_1_0_0 inb_S512x512_S64x128_64_128 x,
      fun x => first_at x1 (Tile.stack x3 x2) (Tile.stack x5 x4) x9 1 0 rfl rfl rfl (BitVec.ofNat 32 448) rfl inb_S512x512_S64x128_64_0 inb_S1024x512_S576x128_64_0 inb_S1024x512_S576x128_64_0 inb_S4x128x576_S1x128x576_0_0_0 inb_S512x512_S64x128_64_0 x,
      fun x => first_at x1 (Tile.stack x3 x2) (Tile.stack x5 x4) x9 0 3 rfl rfl rfl (BitVec.ofNat 32 512) rfl inb_S512x512_S64x128_0_384 inb_S1024x512_S576x128_0_384 inb_S1024x512_S576x128_0_384 inb_S4x128x576_S1x128x576_3_0_0 inb_S512x512_S64x128_0_384 x,
      fun x => first_at x1 (Tile.stack x3 x2) (Tile.stack x5 x4) x9 0 2 rfl rfl rfl (BitVec.ofNat 32 512) rfl inb_S512x512_S64x128_0_256 inb_S1024x512_S576x128_0_256 inb_S1024x512_S576x128_0_256 inb_S4x128x576_S1x128x576_2_0_0 inb_S512x512_S64x128_0_256 x,
      fun x => first_at x1 (Tile.stack x3 x2) (Tile.stack x5 x4) x9 0 1 rfl rfl rfl (BitVec.ofNat 32 512) rfl inb_S512x512_S64x128_0_128 inb_S1024x512_S576x128_0_128 inb_S1024x512_S576x128_0_128 inb_S4x128x576_S1x128x576_1_0_0 inb_S512x512_S64x128_0_128 x,
      fun x => first_at x1 (Tile.stack x3 x2) (Tile.stack x5 x4) x9 0 0 rfl rfl rfl (BitVec.ofNat 32 512) rfl inb_S512x512_S64x128_0_0 inb_S1024x512_S576x128_0_0 inb_S1024x512_S576x128_0_0 inb_S4x128x576_S1x128x576_0_0_0 inb_S512x512_S64x128_0_0 x, trivial⟩

end Cert.Cases
-- ==== Proof.CaseB.lean ====
module

public import proofs.«01_k».proof.Proof.Gen.KernelIdeal.Frame
public import proofs.«01_k».proof.Proof.Tile
public import proofs.«01_k».proof.Proof.Block
public import Idealize.ShloMosaic.Lib.Pipeline.ReadBack
public import Idealize.ShloMosaic.Lib.Pipeline.ValueKit.Tiles

@[expose] public section

set_option maxRecDepth 16384
set_option maxHeartbeats 8000000

noncomputable section

namespace Cert.Cases

open Cert.KernelIdeal Cert.KernelIdeal.Gen Idealize.ShloMosaic Idealize.ShloMosaic.TcCoe Idealize.SL.Sem Cert.Chunk Cert.Tile Cert.Block

/-- On a tile that is not the first of its sequence and not the first of its device's block, the result is the block over the unmasked attention. -/
theorem written_B (c : Dev nD) (i : grid0.Coords) (arg2 : Memref sig .tc .vmem S512x512 .bf16) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x2048 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S4x128x576 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S16x1024 .bf16) (harg17 : arg17.IsWhole) (arg18 : Memref sig .tc .vmem S16x1 .f32) (harg18 : arg18.IsWhole) (arg19 : Memref sig .tc .vmem S512x1152 .f32) (harg19 : arg19.IsWhole) (arg20 : Memref sig .tc .vmem S1x1x512 .i32) (harg20 : arg20.IsWhole) (arg21 : Memref sig .tc .vmem S1x1x512 .i32) (harg21 : arg21.IsWhole) (arg22 : Memref sig .tc .vmem S32x128 .f32) (harg22 : arg22.IsWhole) (arg23 : Memref sig .tc .vmem S1024x512 .bf16) (harg23 : arg23.IsWhole) (arg24 : Memref sig .tc .vmem S1024x512 .bf16) (harg24 : arg24.IsWhole) (arg25 : Memref sig .tc .vmem S512x512 .bf16) (harg25 : arg25.IsWhole) (arg26 : Memref sig .tc .vmem S2x4x128x576 .f32) (harg26 : arg26.IsWhole) (arg27 : Memref sig .tc .vmem S2x4x128x576 .bf16) (harg27 : arg27.IsWhole) (arg28 : Memref sig .tc .vmem S2x4x128x1 .f32) (harg28 : arg28.IsWhole) (arg29 : Memref sig .tc .vmem S512x512 .bf16) (harg29 : arg29.IsWhole) (arg30 : Memref sig .tc .vmem S32x128 .f32) (harg30 : arg30.IsWhole) (hc0 : ¬cond0_0 i) (hc1 : ¬cond0_1 i) (hc2 : cond0_2 i)
    (x0 : Vec Ideal S512x512 .bf16) (x1 : Vec Ideal S512x512 .f32) (x2 : Vec Ideal S512x512 .bf16) (x3 : Vec Ideal S512x512 .bf16) (x4 : Vec Ideal S512x512 .bf16) (x5 : Vec Ideal S512x512 .bf16) (x6 : Vec Ideal S512x2048 .bf16) (x7 : Vec Ideal S512x1024 .f32) (x8 : Vec Ideal S512x1024 .bf16) (x9 : Vec Ideal S4x128x576 .f32) (x10 : Vec Ideal S512x1024 .bf16) (x11 : Vec Ideal S1024x1024 .bf16) (x12 : Vec Ideal S1x1024 .f32) (x13 : Vec Ideal S1x1024 .f32) (x14 : Vec Ideal S1x1024 .f32) (x15 : Vec Ideal S16x1024 .bf16) (x16 : Vec Ideal S16x1 .f32) (xs6 : Vec Ideal S512x512 .bf16) (xs7 : Vec Ideal S32x128 .f32) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 x13 x14 x15 x16 xs6 xs7
      = Block.written (Tile.later x1 (Tile.stack x3 x2) (Tile.stack x5 x4) x9) x0 x6 x7 x8 x10 x11 x12 x13 x14 x15 x16 := by
  frame_open
  simp (disch := decide) only [↓ View.readCov_skip, ↓ View.readCov_cons_toLoadRect, View.readAt_eq_ld, Memref.IsWhole.read_unread, View.ld_unit_lit', pay418, pay419, pay420, pay421, stack_load]
  rw [whole_readCov _ (Tile.later x1 (Tile.stack x3 x2) (Tile.stack x5 x4) x9) _ _ (by decide) _ ?_ ?_]
  · simp only [e430, e431, e432, e433, e434, e435, e436, e437, e438, e439, e440, e441, e442, e444, e445, e446, e447, e448, e449, e453, e454, e455, e463, e464, e465, e466, e467, e468, e472, e473, e474, e475, e484, e485, e486, e487, e488, e489, e490, e491, e492, e457, e458, e459, e460, e461, e478, e479, e480, e481, e482, e493, e494, e495, e496, e497, e498, e504, e505, View.read_writes_junk_eq_canon]
    rfl
  · exact covered _ rfl
  · exact ⟨fun x => later_at x1 (Tile.stack x3 x2) (Tile.stack x5 x4) x9 7 3 rfl rfl rfl inb_S512x512_S64x128_448_384 inb_S1024x512_S576x128_448_384 inb_S1024x512_S576x128_448_384 inb_S4x128x576_S1x128x576_3_0_0 inb_S512x512_S64x128_448_384 x,
      fun x => later_at x1 (Tile.stack x3 x2) (Tile.stack x5 x4) x9 7 2 rfl rfl rfl inb_S512x512_S64x128_448_256 inb_S1024x512_S576x128_448_256 inb_S1024x512_S576x128_448_256 inb_S4x128x576_S1x128x576_2_0_0 inb_S512x512_S64x128_448_256 x,
      fun x => later_at x1 (Tile.stack x3 x2) (Tile.stack x5 x4) x9 7 1 rfl rfl rfl inb_S512x512_S64x128_448_128 inb_S1024x512_S576x128_448_128 inb_S1024x512_S576x128_448_128 inb_S4x128x576_S1x128x576_1_0_0 inb_S512x512_S64x128_448_128 x,
      fun x => later_at x1 (Tile.stack x3 x2) (Tile.stack x5 x4) x9 7 0 rfl rfl rfl inb_S512x512_S64x128_448_0 inb_S1024x512_S576x128_448_0 inb_S1024x512_S576x128_448_0 inb_S4x128x576_S1x128x576_0_0_0 inb_S512x512_S64x128_448_0 x,
      fun x => later_at x1 (Tile.stack x3 x2) (Tile.stack x5 x4) x9 6 3 rfl rfl rfl inb_S512x512_S64x128_384_384 inb_S1024x512_S576x128_384_384 inb_S1024x512_S576x128_384_384 inb_S4x128x576_S1x128x576_3_0_0 inb_S512x512_S64x128_384_384 x,
      fun x => later_at x1 (Tile.stack x3 x2) (Tile.stack x5 x4) x9 6 2 rfl rfl rfl inb_S512x512_S64x128_384_256 inb_S1024x512_S576x128_384_256 inb_S1024x512_S576x128_384_256 inb_S4x128x576_S1x128x576_2_0_0 inb_S512x512_S64x128_384_256 x,
      fun x => later_at x1 (Tile.stack x3 x2) (Tile.stack x5 x4) x9 6 1 rfl rfl rfl inb_S512x512_S64x128_384_128 inb_S1024x512_S576x128_384_128 inb_S1024x512_S576x128_384_128 inb_S4x128x576_S1x128x576_1_0_0 inb_S512x512_S64x128_384_128 x,
      fun x => later_at x1 (Tile.stack x3 x2) (Tile.stack x5 x4) x9 6 0 rfl rfl rfl inb_S512x512_S64x128_384_0 inb_S1024x512_S576x128_384_0 inb_S1024x512_S576x128_384_0 inb_S4x128x576_S1x128x576_0_0_0 inb_S512x512_S64x128_384_0 x,
      fun x => later_at x1 (Tile.stack x3 x2) (Tile.stack x5 x4) x9 5 3 rfl rfl rfl inb_S512x512_S64x128_320_384 inb_S1024x512_S576x128_320_384 inb_S1024x512_S576x128_320_384 inb_S4x128x576_S1x128x576_3_0_0 inb_S512x512_S64x128_320_384 x,
      fun x => later_at x1 (Tile.stack x3 x2) (Tile.stack x5 x4) x9 5 2 rfl rfl rfl inb_S512x512_S64x128_320_256 inb_S1024x512_S576x128_320_256 inb_S1024x512_S576x128_320_256 inb_S4x128x576_S1x128x576_2_0_0 inb_S512x512_S64x128_320_256 x,
      fun x => later_at x1 (Tile.stack x3 x2) (Tile.stack x5 x4) x9 5 1 rfl rfl rfl inb_S512x512_S64x128_320_128 inb_S1024x512_S576x128_320_128 inb_S1024x512_S576x128_320_128 inb_S4x128x576_S1x128x576_1_0_0 inb_S512x512_S64x128_320_128 x,
      fun x => later_at x1 (Tile.stack x3 x2) (Tile.stack x5 x4) x9 5 0 rfl rfl rfl inb_S512x512_S64x128_320_0 inb_S1024x512_S576x128_320_0 inb_S1024x512_S576x128_320_0 inb_S4x128x576_S1x128x576_0_0_0 inb_S512x512_S64x128_320_0 x,
      fun x => later_at x1 (Tile.stack x3 x2) (Tile.stack x5 x4) x9 4 3 rfl rfl rfl inb_S512x512_S64x128_256_384 inb_S1024x512_S576x128_256_384 inb_S1024x512_S576x128_256_384 inb_S4x128x576_S1x128x576_3_0_0 inb_S512x512_S64x128_256_384 x,
      fun x => later_at x1 (Tile.stack x3 x2) (Tile.stack x5 x4) x9 4 2 rfl rfl rfl inb_S512x512_S64x128_256_256 inb_S1024x512_S576x128_256_256 inb_S1024x512_S576x128_256_256 inb_S4x128x576_S1x128x576_2_0_0 inb_S512x512_S64x128_256_256 x,
      fun x => later_at x1 (Tile.stack x3 x2) (Tile.stack x5 x4) x9 4 1 rfl rfl rfl inb_S512x512_S64x128_256_128 inb_S1024x512_S576x128_256_128 inb_S1024x512_S576x128_256_128 inb_S4x128x576_S1x128x576_1_0_0 inb_S512x512_S64x128_256_128 x,
      fun x => later_at x1 (Tile.stack x3 x2) (Tile.stack x5 x4) x9 4 0 rfl rfl rfl inb_S512x512_S64x128_256_0 inb_S1024x512_S576x128_256_0 inb_S1024x512_S576x128_256_0 inb_S4x128x576_S1x128x576_0_0_0 inb_S512x512_S64x128_256_0 x,
      fun x => later_at x1 (Tile.stack x3 x2) (Tile.stack x5 x4) x9 3 3 rfl rfl rfl inb_S512x512_S64x128_192_384 inb_S1024x512_S576x128_192_384 inb_S1024x512_S576x128_192_384 inb_S4x128x576_S1x128x576_3_0_0 inb_S512x512_S64x128_192_384 x,
      fun x => later_at x1 (Tile.stack x3 x2) (Tile.stack x5 x4) x9 3 2 rfl rfl rfl inb_S512x512_S64x128_192_256 inb_S1024x512_S576x128_192_256 inb_S1024x512_S576x128_192_256 inb_S4x128x576_S1x128x576_2_0_0 inb_S512x512_S64x128_192_256 x,
      fun x => later_at x1 (Tile.stack x3 x2) (Tile.stack x5 x4) x9 3 1 rfl rfl rfl inb_S512x512_S64x128_192_128 inb_S1024x512_S576x128_192_128 inb_S1024x512_S576x128_192_128 inb_S4x128x576_S1x128x576_1_0_0 inb_S512x512_S64x128_192_128 x,
      fun x => later_at x1 (Tile.stack x3 x2) (Tile.stack x5 x4) x9 3 0 rfl rfl rfl inb_S512x512_S64x128_192_0 inb_S1024x512_S576x128_192_0 inb_S1024x512_S576x128_192_0 inb_S4x128x576_S1x128x576_0_0_0 inb_S512x512_S64x128_192_0 x,
      fun x => later_at x1 (Tile.stack x3 x2) (Tile.stack x5 x4) x9 2 3 rfl rfl rfl inb_S512x512_S64x128_128_384 inb_S1024x512_S576x128_128_384 inb_S1024x512_S576x128_128_384 inb_S4x128x576_S1x128x576_3_0_0 inb_S512x512_S64x128_128_384 x,
      fun x => later_at x1 (Tile.stack x3 x2) (Tile.stack x5 x4) x9 2 2 rfl rfl rfl inb_S512x512_S64x128_128_256 inb_S1024x512_S576x128_128_256 inb_S1024x512_S576x128_128_256 inb_S4x128x576_S1x128x576_2_0_0 inb_S512x512_S64x128_128_256 x,
      fun x => later_at x1 (Tile.stack x3 x2) (Tile.stack x5 x4) x9 2 1 rfl rfl rfl inb_S512x512_S64x128_128_128 inb_S1024x512_S576x128_128_128 inb_S1024x512_S576x128_128_128 inb_S4x128x576_S1x128x576_1_0_0 inb_S512x512_S64x128_128_128 x,
      fun x => later_at x1 (Tile.stack x3 x2) (Tile.stack x5 x4) x9 2 0 rfl rfl rfl inb_S512x512_S64x128_128_0 inb_S1024x512_S576x128_128_0 inb_S1024x512_S576x128_128_0 inb_S4x128x576_S1x128x576_0_0_0 inb_S512x512_S64x128_128_0 x,
      fun x => later_at x1 (Tile.stack x3 x2) (Tile.stack x5 x4) x9 1 3 rfl rfl rfl inb_S512x512_S64x128_64_384 inb_S1024x512_S576x128_64_384 inb_S1024x512_S576x128_64_384 inb_S4x128x576_S1x128x576_3_0_0 inb_S512x512_S64x128_64_384 x,
      fun x => later_at x1 (Tile.stack x3 x2) (Tile.stack x5 x4) x9 1 2 rfl rfl rfl inb_S512x512_S64x128_64_256 inb_S1024x512_S576x128_64_256 inb_S1024x512_S576x128_64_256 inb_S4x128x576_S1x128x576_2_0_0 inb_S512x512_S64x128_64_256 x,
      fun x => later_at x1 (Tile.stack x3 x2) (Tile.stack x5 x4) x9 1 1 rfl rfl rfl inb_S512x512_S64x128_64_128 inb_S1024x512_S576x128_64_128 inb_S1024x512_S576x128_64_128 inb_S4x128x576_S1x128x576_1_0_0 inb_S512x512_S64x128_64_128 x,
      fun x => later_at x1 (Tile.stack x3 x2) (Tile.stack x5 x4) x9 1 0 rfl rfl rfl inb_S512x512_S64x128_64_0 inb_S1024x512_S576x128_64_0 inb_S1024x512_S576x128_64_0 inb_S4x128x576_S1x128x576_0_0_0 inb_S512x512_S64x128_64_0 x,
      fun x => later_at x1 (Tile.stack x3 x2) (Tile.stack x5 x4) x9 0 3 rfl rfl rfl inb_S512x512_S64x128_0_384 inb_S1024x512_S576x128_0_384 inb_S1024x512_S576x128_0_384 inb_S4x128x576_S1x128x576_3_0_0 inb_S512x512_S64x128_0_384 x,
      fun x => later_at x1 (Tile.stack x3 x2) (Tile.stack x5 x4) x9 0 2 rfl rfl rfl inb_S512x512_S64x128_0_256 inb_S1024x512_S576x128_0_256 inb_S1024x512_S576x128_0_256 inb_S4x128x576_S1x128x576_2_0_0 inb_S512x512_S64x128_0_256 x,
      fun x => later_at x1 (Tile.stack x3 x2) (Tile.stack x5 x4) x9 0 1 rfl rfl rfl inb_S512x512_S64x128_0_128 inb_S1024x512_S576x128_0_128 inb_S1024x512_S576x128_0_128 inb_S4x128x576_S1x128x576_1_0_0 inb_S512x512_S64x128_0_128 x,
      fun x => later_at x1 (Tile.stack x3 x2) (Tile.stack x5 x4) x9 0 0 rfl rfl rfl inb_S512x512_S64x128_0_0 inb_S1024x512_S576x128_0_0 inb_S1024x512_S576x128_0_0 inb_S4x128x576_S1x128x576_0_0_0 inb_S512x512_S64x128_0_0 x, trivial⟩

end Cert.Cases
-- ==== Proof.CaseC.lean ====
module

public import proofs.«01_k».proof.Proof.Gen.KernelIdeal.Frame
public import proofs.«01_k».proof.Proof.Tile
public import proofs.«01_k».proof.Proof.Block
public import Idealize.ShloMosaic.Lib.Pipeline.ReadBack
public import Idealize.ShloMosaic.Lib.Pipeline.ValueKit.Tiles

@[expose] public section

set_option maxRecDepth 16384
set_option maxHeartbeats 8000000

noncomputable section

namespace Cert.Cases

open Cert.KernelIdeal Cert.KernelIdeal.Gen Idealize.ShloMosaic Idealize.ShloMosaic.TcCoe Idealize.SL.Sem Cert.Chunk Cert.Tile Cert.Block

/-- On the first tile of a later sequence, the result is the block over the attention with the keys before the sequence masked. -/
theorem written_C (c : Dev nD) (i : grid0.Coords) (arg2 : Memref sig .tc .vmem S512x512 .bf16) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x2048 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S4x128x576 .f32) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S16x1024 .bf16) (harg17 : arg17.IsWhole) (arg18 : Memref sig .tc .vmem S16x1 .f32) (harg18 : arg18.IsWhole) (arg19 : Memref sig .tc .vmem S512x1152 .f32) (harg19 : arg19.IsWhole) (arg20 : Memref sig .tc .vmem S1x1x512 .i32) (harg20 : arg20.IsWhole) (arg21 : Memref sig .tc .vmem S1x1x512 .i32) (harg21 : arg21.IsWhole) (arg22 : Memref sig .tc .vmem S32x128 .f32) (harg22 : arg22.IsWhole) (arg23 : Memref sig .tc .vmem S1024x512 .bf16) (harg23 : arg23.IsWhole) (arg24 : Memref sig .tc .vmem S1024x512 .bf16) (harg24 : arg24.IsWhole) (arg25 : Memref sig .tc .vmem S512x512 .bf16) (harg25 : arg25.IsWhole) (arg26 : Memref sig .tc .vmem S2x4x128x576 .f32) (harg26 : arg26.IsWhole) (arg27 : Memref sig .tc .vmem S2x4x128x576 .bf16) (harg27 : arg27.IsWhole) (arg28 : Memref sig .tc .vmem S2x4x128x1 .f32) (harg28 : arg28.IsWhole) (arg29 : Memref sig .tc .vmem S512x512 .bf16) (harg29 : arg29.IsWhole) (arg30 : Memref sig .tc .vmem S32x128 .f32) (harg30 : arg30.IsWhole) (hc0 : ¬cond0_0 i) (hc1 : cond0_1 i) (hc2 : ¬cond0_2 i)
    (x0 : Vec Ideal S512x512 .bf16) (x1 : Vec Ideal S512x512 .f32) (x2 : Vec Ideal S512x512 .bf16) (x3 : Vec Ideal S512x512 .bf16) (x4 : Vec Ideal S512x512 .bf16) (x5 : Vec Ideal S512x512 .bf16) (x6 : Vec Ideal S512x2048 .bf16) (x7 : Vec Ideal S512x1024 .f32) (x8 : Vec Ideal S512x1024 .bf16) (x9 : Vec Ideal S4x128x576 .f32) (x10 : Vec Ideal S512x1024 .bf16) (x11 : Vec Ideal S1024x1024 .bf16) (x12 : Vec Ideal S1x1024 .f32) (x13 : Vec Ideal S1x1024 .f32) (x14 : Vec Ideal S1x1024 .f32) (x15 : Vec Ideal S16x1024 .bf16) (x16 : Vec Ideal S16x1 .f32) (xs6 : Vec Ideal S512x512 .bf16) (xs7 : Vec Ideal S32x128 .f32) :
    out0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 x13 x14 x15 x16 xs6 xs7
      = Block.written (Tile.first x1 (Tile.stack x3 x2) (Tile.stack x5 x4) x9) x0 x6 x7 x8 x10 x11 x12 x13 x14 x15 x16 := by
  frame_open
  simp (disch := decide) only [↓ View.readCov_skip, ↓ View.readCov_cons_toLoadRect, View.readAt_eq_ld, Memref.IsWhole.read_unread, View.ld_unit_lit', pay418, pay419, pay420, pay421, stack_load]
  rw [whole_readCov _ (Tile.first x1 (Tile.stack x3 x2) (Tile.stack x5 x4) x9) _ _ (by decide) _ ?_ ?_]
  · simp only [e430, e431, e432, e433, e434, e435, e436, e437, e438, e439, e440, e441, e442, e444, e445, e446, e447, e448, e449, e453, e454, e455, e463, e464, e465, e466, e467, e468, e472, e473, e474, e475, e484, e485, e486, e487, e488, e489, e490, e491, e492, e457, e458, e459, e460, e461, e478, e479, e480, e481, e482, e493, e494, e495, e496, e497, e498, e504, e505, View.read_writes_junk_eq_canon]
    rfl
  · exact covered _ rfl
  · exact ⟨fun x => first_at x1 (Tile.stack x3 x2) (Tile.stack x5 x4) x9 7 3 rfl rfl rfl (BitVec.ofNat 32 64) rfl inb_S512x512_S64x128_448_384 inb_S1024x512_S576x128_448_384 inb_S1024x512_S576x128_448_384 inb_S4x128x576_S1x128x576_3_0_0 inb_S512x512_S64x128_448_384 x,
      fun x => first_at x1 (Tile.stack x3 x2) (Tile.stack x5 x4) x9 7 2 rfl rfl rfl (BitVec.ofNat 32 64) rfl inb_S512x512_S64x128_448_256 inb_S1024x512_S576x128_448_256 inb_S1024x512_S576x128_448_256 inb_S4x128x576_S1x128x576_2_0_0 inb_S512x512_S64x128_448_256 x,
      fun x => first_at x1 (Tile.stack x3 x2) (Tile.stack x5 x4) x9 7 1 rfl rfl rfl (BitVec.ofNat 32 64) rfl inb_S512x512_S64x128_448_128 inb_S1024x512_S576x128_448_128 inb_S1024x512_S576x128_448_128 inb_S4x128x576_S1x128x576_1_0_0 inb_S512x512_S64x128_448_128 x,
      fun x => first_at x1 (Tile.stack x3 x2) (Tile.stack x5 x4) x9 7 0 rfl rfl rfl (BitVec.ofNat 32 64) rfl inb_S512x512_S64x128_448_0 inb_S1024x512_S576x128_448_0 inb_S1024x512_S576x128_448_0 inb_S4x128x576_S1x128x576_0_0_0 inb_S512x512_S64x128_448_0 x,
      fun x => first_at x1 (Tile.stack x3 x2) (Tile.stack x5 x4) x9 6 3 rfl rfl rfl (BitVec.ofNat 32 128) rfl inb_S512x512_S64x128_384_384 inb_S1024x512_S576x128_384_384 inb_S1024x512_S576x128_384_384 inb_S4x128x576_S1x128x576_3_0_0 inb_S512x512_S64x128_384_384 x,
      fun x => first_at x1 (Tile.stack x3 x2) (Tile.stack x5 x4) x9 6 2 rfl rfl rfl (BitVec.ofNat 32 128) rfl inb_S512x512_S64x128_384_256 inb_S1024x512_S576x128_384_256 inb_S1024x512_S576x128_384_256 inb_S4x128x576_S1x128x576_2_0_0 inb_S512x512_S64x128_384_256 x,
      fun x => first_at x1 (Tile.stack x3 x2) (Tile.stack x5 x4) x9 6 1 rfl rfl rfl (BitVec.ofNat 32 128) rfl inb_S512x512_S64x128_384_128 inb_S1024x512_S576x128_384_128 inb_S1024x512_S576x128_384_128 inb_S4x128x576_S1x128x576_1_0_0 inb_S512x512_S64x128_384_128 x,
      fun x => first_at x1 (Tile.stack x3 x2) (Tile.stack x5 x4) x9 6 0 rfl rfl rfl (BitVec.ofNat 32 128) rfl inb_S512x512_S64x128_384_0 inb_S1024x512_S576x128_384_0 inb_S1024x512_S576x128_384_0 inb_S4x128x576_S1x128x576_0_0_0 inb_S512x512_S64x128_384_0 x,
      fun x => first_at x1 (Tile.stack x3 x2) (Tile.stack x5 x4) x9 5 3 rfl rfl rfl (BitVec.ofNat 32 192) rfl inb_S512x512_S64x128_320_384 inb_S1024x512_S576x128_320_384 inb_S1024x512_S576x128_320_384 inb_S4x128x576_S1x128x576_3_0_0 inb_S512x512_S64x128_320_384 x,
      fun x => first_at x1 (Tile.stack x3 x2) (Tile.stack x5 x4) x9 5 2 rfl rfl rfl (BitVec.ofNat 32 192) rfl inb_S512x512_S64x128_320_256 inb_S1024x512_S576x128_320_256 inb_S1024x512_S576x128_320_256 inb_S4x128x576_S1x128x576_2_0_0 inb_S512x512_S64x128_320_256 x,
      fun x => first_at x1 (Tile.stack x3 x2) (Tile.stack x5 x4) x9 5 1 rfl rfl rfl (BitVec.ofNat 32 192) rfl inb_S512x512_S64x128_320_128 inb_S1024x512_S576x128_320_128 inb_S1024x512_S576x128_320_128 inb_S4x128x576_S1x128x576_1_0_0 inb_S512x512_S64x128_320_128 x,
      fun x => first_at x1 (Tile.stack x3 x2) (Tile.stack x5 x4) x9 5 0 rfl rfl rfl (BitVec.ofNat 32 192) rfl inb_S512x512_S64x128_320_0 inb_S1024x512_S576x128_320_0 inb_S1024x512_S576x128_320_0 inb_S4x128x576_S1x128x576_0_0_0 inb_S512x512_S64x128_320_0 x,
      fun x => first_at x1 (Tile.stack x3 x2) (Tile.stack x5 x4) x9 4 3 rfl rfl rfl (BitVec.ofNat 32 256) rfl inb_S512x512_S64x128_256_384 inb_S1024x512_S576x128_256_384 inb_S1024x512_S576x128_256_384 inb_S4x128x576_S1x128x576_3_0_0 inb_S512x512_S64x128_256_384 x,
      fun x => first_at x1 (Tile.stack x3 x2) (Tile.stack x5 x4) x9 4 2 rfl rfl rfl (BitVec.ofNat 32 256) rfl inb_S512x512_S64x128_256_256 inb_S1024x512_S576x128_256_256 inb_S1024x512_S576x128_256_256 inb_S4x128x576_S1x128x576_2_0_0 inb_S512x512_S64x128_256_256 x,
      fun x => first_at x1 (Tile.stack x3 x2) (Tile.stack x5 x4) x9 4 1 rfl rfl rfl (BitVec.ofNat 32 256) rfl inb_S512x512_S64x128_256_128 inb_S1024x512_S576x128_256_128 inb_S1024x512_S576x128_256_128 inb_S4x128x576_S1x128x576_1_0_0 inb_S512x512_S64x128_256_128 x,
      fun x => first_at x1 (Tile.stack x3 x2) (Tile.stack x5 x4) x9 4 0 rfl rfl rfl (BitVec.ofNat 32 256) rfl inb_S512x512_S64x128_256_0 inb_S1024x512_S576x128_256_0 inb_S1024x512_S576x128_256_0 inb_S4x128x576_S1x128x576_0_0_0 inb_S512x512_S64x128_256_0 x,
      fun x => first_at x1 (Tile.stack x3 x2) (Tile.stack x5 x4) x9 3 3 rfl rfl rfl (BitVec.ofNat 32 320) rfl inb_S512x512_S64x128_192_384 inb_S1024x512_S576x128_192_384 inb_S1024x512_S576x128_192_384 inb_S4x128x576_S1x128x576_3_0_0 inb_S512x512_S64x128_192_384 x,
      fun x => first_at x1 (Tile.stack x3 x2) (Tile.stack x5 x4) x9 3 2 rfl rfl rfl (BitVec.ofNat 32 320) rfl inb_S512x512_S64x128_192_256 inb_S1024x512_S576x128_192_256 inb_S1024x512_S576x128_192_256 inb_S4x128x576_S1x128x576_2_0_0 inb_S512x512_S64x128_192_256 x,
      fun x => first_at x1 (Tile.stack x3 x2) (Tile.stack x5 x4) x9 3 1 rfl rfl rfl (BitVec.ofNat 32 320) rfl inb_S512x512_S64x128_192_128 inb_S1024x512_S576x128_192_128 inb_S1024x512_S576x128_192_128 inb_S4x128x576_S1x128x576_1_0_0 inb_S512x512_S64x128_192_128 x,
      fun x => first_at x1 (Tile.stack x3 x2) (Tile.stack x5 x4) x9 3 0 rfl rfl rfl (BitVec.ofNat 32 320) rfl inb_S512x512_S64x128_192_0 inb_S1024x512_S576x128_192_0 inb_S1024x512_S576x128_192_0 inb_S4x128x576_S1x128x576_0_0_0 inb_S512x512_S64x128_192_0 x,
      fun x => first_at x1 (Tile.stack x3 x2) (Tile.stack x5 x4) x9 2 3 rfl rfl rfl (BitVec.ofNat 32 384) rfl inb_S512x512_S64x128_128_384 inb_S1024x512_S576x128_128_384 inb_S1024x512_S576x128_128_384 inb_S4x128x576_S1x128x576_3_0_0 inb_S512x512_S64x128_128_384 x,
      fun x => first_at x1 (Tile.stack x3 x2) (Tile.stack x5 x4) x9 2 2 rfl rfl rfl (BitVec.ofNat 32 384) rfl inb_S512x512_S64x128_128_256 inb_S1024x512_S576x128_128_256 inb_S1024x512_S576x128_128_256 inb_S4x128x576_S1x128x576_2_0_0 inb_S512x512_S64x128_128_256 x,
      fun x => first_at x1 (Tile.stack x3 x2) (Tile.stack x5 x4) x9 2 1 rfl rfl rfl (BitVec.ofNat 32 384) rfl inb_S512x512_S64x128_128_128 inb_S1024x512_S576x128_128_128 inb_S1024x512_S576x128_128_128 inb_S4x128x576_S1x128x576_1_0_0 inb_S512x512_S64x128_128_128 x,
      fun x => first_at x1 (Tile.stack x3 x2) (Tile.stack x5 x4) x9 2 0 rfl rfl rfl (BitVec.ofNat 32 384) rfl inb_S512x512_S64x128_128_0 inb_S1024x512_S576x128_128_0 inb_S1024x512_S576x128_128_0 inb_S4x128x576_S1x128x576_0_0_0 inb_S512x512_S64x128_128_0 x,
      fun x => first_at x1 (Tile.stack x3 x2) (Tile.stack x5 x4) x9 1 3 rfl rfl rfl (BitVec.ofNat 32 448) rfl inb_S512x512_S64x128_64_384 inb_S1024x512_S576x128_64_384 inb_S1024x512_S576x128_64_384 inb_S4x128x576_S1x128x576_3_0_0 inb_S512x512_S64x128_64_384 x,
      fun x => first_at x1 (Tile.stack x3 x2) (Tile.stack x5 x4) x9 1 2 rfl rfl rfl (BitVec.ofNat 32 448) rfl inb_S512x512_S64x128_64_256 inb_S1024x512_S576x128_64_256 inb_S1024x512_S576x128_64_256 inb_S4x128x576_S1x128x576_2_0_0 inb_S512x512_S64x128_64_256 x,
      fun x => first_at x1 (Tile.stack x3 x2) (Tile.stack x5 x4) x9 1 1 rfl rfl rfl (BitVec.ofNat 32 448) rfl inb_S512x512_S64x128_64_128 inb_S1024x512_S576x128_64_128 inb_S1024x512_S576x128_64_128 inb_S4x128x576_S1x128x576_1_0_0 inb_S512x512_S64x128_64_128 x,
      fun x => first_at x1 (Tile.stack x3 x2) (Tile.stack x5 x4) x9 1 0 rfl rfl rfl (BitVec.ofNat 32 448) rfl inb_S512x512_S64x128_64_0 inb_S1024x512_S576x128_64_0 inb_S1024x512_S576x128_64_0 inb_S4x128x576_S1x128x576_0_0_0 inb_S512x512_S64x128_64_0 x,
      fun x => first_at x1 (Tile.stack x3 x2) (Tile.stack x5 x4) x9 0 3 rfl rfl rfl (BitVec.ofNat 32 512) rfl inb_S512x512_S64x128_0_384 inb_S1024x512_S576x128_0_384 inb_S1024x512_S576x128_0_384 inb_S4x128x576_S1x128x576_3_0_0 inb_S512x512_S64x128_0_384 x,
      fun x => first_at x1 (Tile.stack x3 x2) (Tile.stack x5 x4) x9 0 2 rfl rfl rfl (BitVec.ofNat 32 512) rfl inb_S512x512_S64x128_0_256 inb_S1024x512_S576x128_0_256 inb_S1024x512_S576x128_0_256 inb_S4x128x576_S1x128x576_2_0_0 inb_S512x512_S64x128_0_256 x,
      fun x => first_at x1 (Tile.stack x3 x2) (Tile.stack x5 x4) x9 0 1 rfl rfl rfl (BitVec.ofNat 32 512) rfl inb_S512x512_S64x128_0_128 inb_S1024x512_S576x128_0_128 inb_S1024x512_S576x128_0_128 inb_S4x128x576_S1x128x576_1_0_0 inb_S512x512_S64x128_0_128 x,
      fun x => first_at x1 (Tile.stack x3 x2) (Tile.stack x5 x4) x9 0 0 rfl rfl rfl (BitVec.ofNat 32 512) rfl inb_S512x512_S64x128_0_0 inb_S1024x512_S576x128_0_0 inb_S1024x512_S576x128_0_0 inb_S4x128x576_S1x128x576_0_0_0 inb_S512x512_S64x128_0_0 x, trivial⟩

end Cert.Cases
-- ==== Proof.Leg.lean ====
module

public import proofs.«01_k».proof.Proof.CaseA
public import proofs.«01_k».proof.Proof.CaseB
public import proofs.«01_k».proof.Proof.CaseC
public import Idealize.ShloMosaic.Lib.Pipeline.Value
public import Idealize.ShloMosaic.Lib.Pipeline.ValueKit.Point

@[expose] public section

set_option maxRecDepth 16384
set_option maxHeartbeats 4000000

noncomputable section

namespace Cert.Leg

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The attention of tile `t`, over the blocks the kernel is given there. -/
def attention (c : Dev nD) (t : Fin cfg0.N) : Vec Ideal S512x512 .bf16 :=
  if t.val % 16 = 0 then
    Tile.first (iblk m c 1 t) (Tile.stack (iblk m c 3 t) (iblk m c 2 t)) (Tile.stack (iblk m c 5 t) (iblk m c 4 t)) (iblk m c 9 t)
  else
    Tile.later (iblk m c 1 t) (Tile.stack (iblk m c 3 t) (iblk m c 2 t)) (Tile.stack (iblk m c 5 t) (iblk m c 4 t)) (iblk m c 9 t)

/-- What tile `t` leaves in its block of the result. -/
def block (c : Dev nD) (t : Fin cfg0.N) : Vec Ideal S512x1152 .f32 :=
  Block.written (attention m c t) (iblk m c 0 t) (iblk m c 6 t) (iblk m c 7 t) (iblk m c 8 t) (iblk m c 10 t)
    (iblk m c 11 t) (iblk m c 12 t) (iblk m c 13 t) (iblk m c 14 t) (iblk m c 15 t) (iblk m c 16 t)

theorem after_block (c : Dev nD) (t : Fin cfg0.N) : (outsAt0 m c t.val t.isLt).1 = block m c t := by
  by_cases h1 : t.val % 16 = 0
  · have h2 : ¬1 ≤ t.val % 16 := by omega
    by_cases h0 : t.val % 128 = 0
    · rw [outsAt0_A m c t h0 h1 h2, block, attention, if_pos h1]
      dsimp only
      rw [Cases.written_A]
    · rw [outsAt0_C m c t h0 h1 h2, block, attention, if_pos h1]
      dsimp only
      rw [Cases.written_C]
  · have h2 : 1 ≤ t.val % 16 := by omega
    have h0 : ¬t.val % 128 = 0 := by omega
    rw [outsAt0_B m c t h0 h1 h2, block, attention, if_neg h1]
    dsimp only
    rw [Cases.written_B]

theorem index17 : ∀ t : Fin cfg0.N, win0_17.index t = ![t.val, 0] := (by decide +kernel : ∀ t : Fin grid0.N, _)

/-- The tile a row of the result lies in. -/
def tileOf (r : Fin 65536) : Fin cfg0.N := ⟨(r : ℕ) / 512, by have := r.2; have : cfg0.N = 128 := N_0; omega⟩

/-- The result array: every row is the matching row of its tile's block. -/
def result (c : Dev nD) : Vec Ideal S65536x1152 .f32 := fun y =>
  block m c (tileOf (y 0)) (ix2 (⟨(y 0 : ℕ) % 512, Nat.mod_lt _ (by norm_num)⟩ : Fin 512) (y 1 : Fin 1152))

theorem final (c : Dev nD) : (dats m 0 c).arrAt 17 cfg0.N = result m c := by
  refine (dats m 0 c).arrAt_eq_of_covers 17 _ (by decide +kernel) fun t hf y => ?_
  blk_simp
  rw [after0_17, after_block]
  have e : ((win0_17.blk t).view.emb y 0 : ℕ) = t.val * 512 + (y 0 : ℕ) ∧ ((win0_17.blk t).view.emb y 1 : ℕ) = (y 1 : ℕ) := by
    constructor <;> blk_simp [index17 t] <;> simp
  have hy : (y 0 : ℕ) < 512 := (y 0).2
  have ht : tileOf ((win0_17.blk t).view.emb y 0) = t := Fin.ext (show ((win0_17.blk t).view.emb y 0 : ℕ) / 512 = t.val by rw [e.1]; omega)
  rw [result, ht]
  refine congrArg _ (funext fun a => ?_)
  match a with
  | ⟨0, _⟩ => exact Fin.ext (show (y 0 : ℕ) = ((win0_17.blk t).view.emb y 0 : ℕ) % 512 by rw [e.1]; omega)
  | ⟨1, _⟩ => exact Fin.ext (show (y 1 : ℕ) = ((win0_17.blk t).view.emb y 1 : ℕ) by rw [e.2])

theorem run : θ_run defs (onTc (τ := τ) (main (F := Ideal))) ⟨m, fun _ => 0, ρ⟩ fun r => ∀ c : Dev nD,
    r.2.mem ((c.tc : Thread nD τ).loc main_v148_0) = result m c :=
  (θ_run defs _ _).mono (fun r h c => ((h c).1 17).trans (final m c)) (run_main m ρ)

/-! ## The blocks the kernel is given, read from the arrays -/

/-- Row `i` of tile `t`, as a row of the whole array. -/
def rowOf (t : Fin cfg0.N) (i : Fin 512) : Fin 65536 := ⟨t.val * 512 + i, by have := i.2; have := t.2; have : cfg0.N = 128 := N_0; omega⟩

/-- The tile the keys before tile `t` are taken from: the tile before it, and the very first tile itself. -/
def before (t : Fin cfg0.N) : Fin cfg0.N := ⟨t.val - 1, by have := t.2; omega⟩

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![(before t).val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![(before t).val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![0, 0] := (by decide +kernel : ∀ t : Fin grid0.N, _)
theorem index13 : ∀ t : Fin cfg0.N, win0_13.index t = ![0, 0] := (by decide +kernel : ∀ t : Fin grid0.N, _)
theorem index14 : ∀ t : Fin cfg0.N, win0_14.index t = ![0, 0] := (by decide +kernel : ∀ t : Fin grid0.N, _)
theorem index15 : ∀ t : Fin cfg0.N, win0_15.index t = ![0, 0] := (by decide +kernel : ∀ t : Fin grid0.N, _)
theorem index16 : ∀ t : Fin cfg0.N, win0_16.index t = ![0, 0] := (by decide +kernel : ∀ t : Fin grid0.N, _)

variable (c : Dev nD) (t : Fin cfg0.N)

theorem block0 (i l : Fin 512) : iblk m c 0 t (ix2 i l) = m (c.tc.loc main_arg0) (ix2 (rowOf t i) l) := by
  rw [← V_main_arg0 m c]; blk_ext! [iblk, index0 t, rowOf]
theorem block1 (i l : Fin 512) : iblk m c 1 t (ix2 i l) = m (c.tc.loc main_arg1) (ix2 (rowOf t i) l) := by
  rw [← V_main_arg1 m c]; blk_ext! [iblk, index1 t, rowOf]
theorem block2 (i l : Fin 512) : iblk m c 2 t (ix2 i l) = m (c.tc.loc main_arg2) (ix2 (rowOf t i) l) := by
  rw [← V_main_arg2 m c]; blk_ext! [iblk, index2 t, rowOf]
theorem block3 (i l : Fin 512) : iblk m c 3 t (ix2 i l) = m (c.tc.loc main_arg2) (ix2 (rowOf (before t) i) l) := by
  rw [← V_main_arg2 m c]; blk_ext! [iblk, index3 t, rowOf]
theorem block4 (i l : Fin 512) : iblk m c 4 t (ix2 i l) = m (c.tc.loc main_arg3) (ix2 (rowOf t i) l) := by
  rw [← V_main_arg3 m c]; blk_ext! [iblk, index4 t, rowOf]
theorem block5 (i l : Fin 512) : iblk m c 5 t (ix2 i l) = m (c.tc.loc main_arg3) (ix2 (rowOf (before t) i) l) := by
  rw [← V_main_arg3 m c]; blk_ext! [iblk, index5 t, rowOf]
theorem block6 (i : Fin 512) (l : Fin 2048) : iblk m c 6 t (ix2 i l) = m (c.tc.loc main_arg4) (ix2 (rowOf t i) l) := by
  rw [← V_main_arg4 m c]; blk_ext! [iblk, index6 t, rowOf]
theorem block7 (i : Fin 512) (l : Fin 1024) : iblk m c 7 t (ix2 i l) = m (c.tc.loc main_arg5) (ix2 (rowOf t i) l) := by
  rw [← V_main_arg5 m c]; blk_ext! [iblk, index7 t, rowOf]
theorem block8 : iblk m c 8 t = V m c main_v0 := by blk_ext! [iblk, index8 t]
theorem block9 : iblk m c 9 t = V m c main_v139 := by blk_ext! [iblk, index9 t]
theorem block10 : iblk m c 10 t = V m c main_v140 := by blk_ext! [iblk, index10 t]
theorem block11 : iblk m c 11 t = V m c main_v141 := by blk_ext! [iblk, index11 t]
theorem block12 : iblk m c 12 t = V m c main_v142 := by blk_ext! [iblk, index12 t]
theorem block13 : iblk m c 13 t = V m c main_v143 := by blk_ext! [iblk, index13 t]
theorem block14 : iblk m c 14 t = V m c main_v144 := by blk_ext! [iblk, index14 t]
theorem block15 : iblk m c 15 t = V m c main_v146 := by blk_ext! [iblk, index15 t]
theorem block16 : iblk m c 16 t = V m c main_v147 := by blk_ext! [iblk, index16 t]

end Cert.Leg
-- ==== Proof.Bias.lean ====
module

public import proofs.«01_k».proof.Proof.Gen.KernelIdeal.Frame
public import Idealize.ShloMosaic.Lib.StableHlo.RunRead
public import Idealize.ShloMosaic.Lib.Pipeline.ValueKit.Point
public import Idealize.ShloMosaic.Lib.Pipeline.ValueKit.Tiles

@[expose] public section

set_option maxRecDepth 65536
set_option maxHeartbeats 4000000

noncomputable section

/-! The stacked band of relative-position biases the kernel is handed: how the host builds it from the table, and its
    entry at a head pair, a stacked row and a band column. -/

namespace Cert.Bias

open Cert.KernelIdeal Cert.KernelIdeal.Gen Idealize.ShloMosaic Idealize.ShloMosaic.TcCoe Idealize.SL.Sem
open Idealize.ShloMosaic.StableHlo (after upto)

/-- A gather read at an index whose coordinates are the start, batch and offset coordinates. -/
theorem gather_at {α : Type} {s si t : Shape} {w : ℕ} (d : GatherDims s si t) (x : s.Idx → α) (idx : IVec si w) (j : t.Idx)
    (b : s.Idx) (h : ∀ a, d.start j idx a + d.batchCoord j a + d.offCoord j a = (b a : ℕ)) : Host.gather d x idx j = x b :=
  congrArg x (funext fun a => Fin.ext (h a))

/-- The table's columns looked up: column `p` of the result is the table's column named there. -/
theorem look_at (x : Vec Ideal S8x513 .f32) (idx : IVec S639x1 32) (h : Fin 8) (p : Fin 639) (b : Fin 513)
    (hb : (idx (ix2 p (0 : Fin 1))).toInt.toNat = b) :
    Host.gather gather_S8x513_S639x1_S8x639_0_1_n_n_1_1_81 x idx (ix2 h p) = x (ix2 h b) := by
  refine gather_at _ x idx _ _ fun a => ?_
  match a with
  | ⟨0, _⟩ =>
    show 0 + 0 + (h : ℕ) = h
    omega
  | ⟨1, _⟩ =>
    have e : gather_S8x513_S639x1_S8x639_0_1_n_n_1_1_81.siIdx (ix2 h p) ⟨0, Nat.one_pos⟩ = ix2 p (0 : Fin 1) := by
      funext a
      match a with
      | ⟨0, _⟩ => rfl
      | ⟨1, _⟩ => rfl
    show min (idx (gather_S8x513_S639x1_S8x639_0_1_n_n_1_1_81.siIdx (ix2 h p) ⟨0, Nat.one_pos⟩)).toInt.toNat 512 + 0 + 0 = (b : ℕ)
    rw [e, hb]
    have := b.2
    omega

variable (G : Vec Ideal S8x639 .f32)

/-- The table's columns from `o` on, as one row of the stacked bias. -/
def strip (o : ℕ) (ho : S8x639.Slices ![0, o] S8x576) : Vec Ideal S8x1x576 .f32 :=
  broadcastInDim S8x1x576 ![0, 2] bcast_S8x576_S8x1x576_0_2 (extractStridedSlice S8x576 ![0, o] G ho)

theorem strip_at (o : ℕ) (ho) (h : Fin 8) (j : Fin 576) (p : Fin 639) (hp : o + j = p) :
    strip G o ho (ix3 h (0 : Fin 1) j) = G (ix2 h p) := by
  subst_vars
  pointwise [strip]
  exact congrArg G (funext fun a => by fin_cases a <;> exact Fin.ext (by simp [hp]))

def rows0 : Vec Ideal S8x16x576 .f32 :=
  concatenate S8x16x576 1
    [⟨S8x1x576, strip G 63 slices_S8x639_S8x576_0_63⟩, ⟨S8x1x576, strip G 62 slices_S8x639_S8x576_0_62⟩, ⟨S8x1x576, strip G 61 slices_S8x639_S8x576_0_61⟩, ⟨S8x1x576, strip G 60 slices_S8x639_S8x576_0_60⟩, ⟨S8x1x576, strip G 59 slices_S8x639_S8x576_0_59⟩, ⟨S8x1x576, strip G 58 slices_S8x639_S8x576_0_58⟩, ⟨S8x1x576, strip G 57 slices_S8x639_S8x576_0_57⟩, ⟨S8x1x576, strip G 56 slices_S8x639_S8x576_0_56⟩, ⟨S8x1x576, strip G 55 slices_S8x639_S8x576_0_55⟩, ⟨S8x1x576, strip G 54 slices_S8x639_S8x576_0_54⟩, ⟨S8x1x576, strip G 53 slices_S8x639_S8x576_0_53⟩, ⟨S8x1x576, strip G 52 slices_S8x639_S8x576_0_52⟩, ⟨S8x1x576, strip G 51 slices_S8x639_S8x576_0_51⟩, ⟨S8x1x576, strip G 50 slices_S8x639_S8x576_0_50⟩, ⟨S8x1x576, strip G 49 slices_S8x639_S8x576_0_49⟩, ⟨S8x1x576, strip G 48 slices_S8x639_S8x576_0_48⟩]
    concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1

theorem rows0_at (h : Fin 8) (k : Fin 16) (j : Fin 576) (p : Fin 639) (hp : 63 - (k : ℕ) + j = p) :
    rows0 G (ix3 h k j) = G (ix2 h p) := by
  have side : ∀ k : Fin 16, ∀ b : Fin 3, b ≠ 1 → (ix3 h (0 : Fin 1) j b : ℕ) = ix3 h k j b := fun k b hb => by
    match b with
    | ⟨0, _⟩ => rfl
    | ⟨1, _⟩ => exact absurd rfl hb
    | ⟨2, _⟩ => rfl
  match k, hp with
  | ⟨0, q⟩, hp => exact (concatenate_apply_piece (t := S8x16x576) 1 _ _ _ 0 (by simp) S8x1x576 (strip G 63 _) rfl rfl 0 rfl (ix3 h (0 : Fin 1) j) (side ⟨0, q⟩) rfl).trans (strip_at G 63 _ h j p hp)
  | ⟨1, q⟩, hp => exact (concatenate_apply_piece (t := S8x16x576) 1 _ _ _ 1 (by simp) S8x1x576 (strip G 62 _) rfl rfl 1 rfl (ix3 h (0 : Fin 1) j) (side ⟨1, q⟩) rfl).trans (strip_at G 62 _ h j p hp)
  | ⟨2, q⟩, hp => exact (concatenate_apply_piece (t := S8x16x576) 1 _ _ _ 2 (by simp) S8x1x576 (strip G 61 _) rfl rfl 2 rfl (ix3 h (0 : Fin 1) j) (side ⟨2, q⟩) rfl).trans (strip_at G 61 _ h j p hp)
  | ⟨3, q⟩, hp => exact (concatenate_apply_piece (t := S8x16x576) 1 _ _ _ 3 (by simp) S8x1x576 (strip G 60 _) rfl rfl 3 rfl (ix3 h (0 : Fin 1) j) (side ⟨3, q⟩) rfl).trans (strip_at G 60 _ h j p hp)
  | ⟨4, q⟩, hp => exact (concatenate_apply_piece (t := S8x16x576) 1 _ _ _ 4 (by simp) S8x1x576 (strip G 59 _) rfl rfl 4 rfl (ix3 h (0 : Fin 1) j) (side ⟨4, q⟩) rfl).trans (strip_at G 59 _ h j p hp)
  | ⟨5, q⟩, hp => exact (concatenate_apply_piece (t := S8x16x576) 1 _ _ _ 5 (by simp) S8x1x576 (strip G 58 _) rfl rfl 5 rfl (ix3 h (0 : Fin 1) j) (side ⟨5, q⟩) rfl).trans (strip_at G 58 _ h j p hp)
  | ⟨6, q⟩, hp => exact (concatenate_apply_piece (t := S8x16x576) 1 _ _ _ 6 (by simp) S8x1x576 (strip G 57 _) rfl rfl 6 rfl (ix3 h (0 : Fin 1) j) (side ⟨6, q⟩) rfl).trans (strip_at G 57 _ h j p hp)
  | ⟨7, q⟩, hp => exact (concatenate_apply_piece (t := S8x16x576) 1 _ _ _ 7 (by simp) S8x1x576 (strip G 56 _) rfl rfl 7 rfl (ix3 h (0 : Fin 1) j) (side ⟨7, q⟩) rfl).trans (strip_at G 56 _ h j p hp)
  | ⟨8, q⟩, hp => exact (concatenate_apply_piece (t := S8x16x576) 1 _ _ _ 8 (by simp) S8x1x576 (strip G 55 _) rfl rfl 8 rfl (ix3 h (0 : Fin 1) j) (side ⟨8, q⟩) rfl).trans (strip_at G 55 _ h j p hp)
  | ⟨9, q⟩, hp => exact (concatenate_apply_piece (t := S8x16x576) 1 _ _ _ 9 (by simp) S8x1x576 (strip G 54 _) rfl rfl 9 rfl (ix3 h (0 : Fin 1) j) (side ⟨9, q⟩) rfl).trans (strip_at G 54 _ h j p hp)
  | ⟨10, q⟩, hp => exact (concatenate_apply_piece (t := S8x16x576) 1 _ _ _ 10 (by simp) S8x1x576 (strip G 53 _) rfl rfl 10 rfl (ix3 h (0 : Fin 1) j) (side ⟨10, q⟩) rfl).trans (strip_at G 53 _ h j p hp)
  | ⟨11, q⟩, hp => exact (concatenate_apply_piece (t := S8x16x576) 1 _ _ _ 11 (by simp) S8x1x576 (strip G 52 _) rfl rfl 11 rfl (ix3 h (0 : Fin 1) j) (side ⟨11, q⟩) rfl).trans (strip_at G 52 _ h j p hp)
  | ⟨12, q⟩, hp => exact (concatenate_apply_piece (t := S8x16x576) 1 _ _ _ 12 (by simp) S8x1x576 (strip G 51 _) rfl rfl 12 rfl (ix3 h (0 : Fin 1) j) (side ⟨12, q⟩) rfl).trans (strip_at G 51 _ h j p hp)
  | ⟨13, q⟩, hp => exact (concatenate_apply_piece (t := S8x16x576) 1 _ _ _ 13 (by simp) S8x1x576 (strip G 50 _) rfl rfl 13 rfl (ix3 h (0 : Fin 1) j) (side ⟨13, q⟩) rfl).trans (strip_at G 50 _ h j p hp)
  | ⟨14, q⟩, hp => exact (concatenate_apply_piece (t := S8x16x576) 1 _ _ _ 14 (by simp) S8x1x576 (strip G 49 _) rfl rfl 14 rfl (ix3 h (0 : Fin 1) j) (side ⟨14, q⟩) rfl).trans (strip_at G 49 _ h j p hp)
  | ⟨15, q⟩, hp => exact (concatenate_apply_piece (t := S8x16x576) 1 _ _ _ 15 (by simp) S8x1x576 (strip G 48 _) rfl rfl 15 rfl (ix3 h (0 : Fin 1) j) (side ⟨15, q⟩) rfl).trans (strip_at G 48 _ h j p hp)
  | ⟨k + 16, q⟩, _ => exact absurd q (by omega)

def rows1 : Vec Ideal S8x16x576 .f32 :=
  concatenate S8x16x576 1
    [⟨S8x1x576, strip G 47 slices_S8x639_S8x576_0_47⟩, ⟨S8x1x576, strip G 46 slices_S8x639_S8x576_0_46⟩, ⟨S8x1x576, strip G 45 slices_S8x639_S8x576_0_45⟩, ⟨S8x1x576, strip G 44 slices_S8x639_S8x576_0_44⟩, ⟨S8x1x576, strip G 43 slices_S8x639_S8x576_0_43⟩, ⟨S8x1x576, strip G 42 slices_S8x639_S8x576_0_42⟩, ⟨S8x1x576, strip G 41 slices_S8x639_S8x576_0_41⟩, ⟨S8x1x576, strip G 40 slices_S8x639_S8x576_0_40⟩, ⟨S8x1x576, strip G 39 slices_S8x639_S8x576_0_39⟩, ⟨S8x1x576, strip G 38 slices_S8x639_S8x576_0_38⟩, ⟨S8x1x576, strip G 37 slices_S8x639_S8x576_0_37⟩, ⟨S8x1x576, strip G 36 slices_S8x639_S8x576_0_36⟩, ⟨S8x1x576, strip G 35 slices_S8x639_S8x576_0_35⟩, ⟨S8x1x576, strip G 34 slices_S8x639_S8x576_0_34⟩, ⟨S8x1x576, strip G 33 slices_S8x639_S8x576_0_33⟩, ⟨S8x1x576, strip G 32 slices_S8x639_S8x576_0_32⟩]
    concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1

theorem rows1_at (h : Fin 8) (k : Fin 16) (j : Fin 576) (p : Fin 639) (hp : 47 - (k : ℕ) + j = p) :
    rows1 G (ix3 h k j) = G (ix2 h p) := by
  have side : ∀ k : Fin 16, ∀ b : Fin 3, b ≠ 1 → (ix3 h (0 : Fin 1) j b : ℕ) = ix3 h k j b := fun k b hb => by
    match b with
    | ⟨0, _⟩ => rfl
    | ⟨1, _⟩ => exact absurd rfl hb
    | ⟨2, _⟩ => rfl
  match k, hp with
  | ⟨0, q⟩, hp => exact (concatenate_apply_piece (t := S8x16x576) 1 _ _ _ 0 (by simp) S8x1x576 (strip G 47 _) rfl rfl 0 rfl (ix3 h (0 : Fin 1) j) (side ⟨0, q⟩) rfl).trans (strip_at G 47 _ h j p hp)
  | ⟨1, q⟩, hp => exact (concatenate_apply_piece (t := S8x16x576) 1 _ _ _ 1 (by simp) S8x1x576 (strip G 46 _) rfl rfl 1 rfl (ix3 h (0 : Fin 1) j) (side ⟨1, q⟩) rfl).trans (strip_at G 46 _ h j p hp)
  | ⟨2, q⟩, hp => exact (concatenate_apply_piece (t := S8x16x576) 1 _ _ _ 2 (by simp) S8x1x576 (strip G 45 _) rfl rfl 2 rfl (ix3 h (0 : Fin 1) j) (side ⟨2, q⟩) rfl).trans (strip_at G 45 _ h j p hp)
  | ⟨3, q⟩, hp => exact (concatenate_apply_piece (t := S8x16x576) 1 _ _ _ 3 (by simp) S8x1x576 (strip G 44 _) rfl rfl 3 rfl (ix3 h (0 : Fin 1) j) (side ⟨3, q⟩) rfl).trans (strip_at G 44 _ h j p hp)
  | ⟨4, q⟩, hp => exact (concatenate_apply_piece (t := S8x16x576) 1 _ _ _ 4 (by simp) S8x1x576 (strip G 43 _) rfl rfl 4 rfl (ix3 h (0 : Fin 1) j) (side ⟨4, q⟩) rfl).trans (strip_at G 43 _ h j p hp)
  | ⟨5, q⟩, hp => exact (concatenate_apply_piece (t := S8x16x576) 1 _ _ _ 5 (by simp) S8x1x576 (strip G 42 _) rfl rfl 5 rfl (ix3 h (0 : Fin 1) j) (side ⟨5, q⟩) rfl).trans (strip_at G 42 _ h j p hp)
  | ⟨6, q⟩, hp => exact (concatenate_apply_piece (t := S8x16x576) 1 _ _ _ 6 (by simp) S8x1x576 (strip G 41 _) rfl rfl 6 rfl (ix3 h (0 : Fin 1) j) (side ⟨6, q⟩) rfl).trans (strip_at G 41 _ h j p hp)
  | ⟨7, q⟩, hp => exact (concatenate_apply_piece (t := S8x16x576) 1 _ _ _ 7 (by simp) S8x1x576 (strip G 40 _) rfl rfl 7 rfl (ix3 h (0 : Fin 1) j) (side ⟨7, q⟩) rfl).trans (strip_at G 40 _ h j p hp)
  | ⟨8, q⟩, hp => exact (concatenate_apply_piece (t := S8x16x576) 1 _ _ _ 8 (by simp) S8x1x576 (strip G 39 _) rfl rfl 8 rfl (ix3 h (0 : Fin 1) j) (side ⟨8, q⟩) rfl).trans (strip_at G 39 _ h j p hp)
  | ⟨9, q⟩, hp => exact (concatenate_apply_piece (t := S8x16x576) 1 _ _ _ 9 (by simp) S8x1x576 (strip G 38 _) rfl rfl 9 rfl (ix3 h (0 : Fin 1) j) (side ⟨9, q⟩) rfl).trans (strip_at G 38 _ h j p hp)
  | ⟨10, q⟩, hp => exact (concatenate_apply_piece (t := S8x16x576) 1 _ _ _ 10 (by simp) S8x1x576 (strip G 37 _) rfl rfl 10 rfl (ix3 h (0 : Fin 1) j) (side ⟨10, q⟩) rfl).trans (strip_at G 37 _ h j p hp)
  | ⟨11, q⟩, hp => exact (concatenate_apply_piece (t := S8x16x576) 1 _ _ _ 11 (by simp) S8x1x576 (strip G 36 _) rfl rfl 11 rfl (ix3 h (0 : Fin 1) j) (side ⟨11, q⟩) rfl).trans (strip_at G 36 _ h j p hp)
  | ⟨12, q⟩, hp => exact (concatenate_apply_piece (t := S8x16x576) 1 _ _ _ 12 (by simp) S8x1x576 (strip G 35 _) rfl rfl 12 rfl (ix3 h (0 : Fin 1) j) (side ⟨12, q⟩) rfl).trans (strip_at G 35 _ h j p hp)
  | ⟨13, q⟩, hp => exact (concatenate_apply_piece (t := S8x16x576) 1 _ _ _ 13 (by simp) S8x1x576 (strip G 34 _) rfl rfl 13 rfl (ix3 h (0 : Fin 1) j) (side ⟨13, q⟩) rfl).trans (strip_at G 34 _ h j p hp)
  | ⟨14, q⟩, hp => exact (concatenate_apply_piece (t := S8x16x576) 1 _ _ _ 14 (by simp) S8x1x576 (strip G 33 _) rfl rfl 14 rfl (ix3 h (0 : Fin 1) j) (side ⟨14, q⟩) rfl).trans (strip_at G 33 _ h j p hp)
  | ⟨15, q⟩, hp => exact (concatenate_apply_piece (t := S8x16x576) 1 _ _ _ 15 (by simp) S8x1x576 (strip G 32 _) rfl rfl 15 rfl (ix3 h (0 : Fin 1) j) (side ⟨15, q⟩) rfl).trans (strip_at G 32 _ h j p hp)
  | ⟨k + 16, q⟩, _ => exact absurd q (by omega)

def rows2 : Vec Ideal S8x16x576 .f32 :=
  concatenate S8x16x576 1
    [⟨S8x1x576, strip G 31 slices_S8x639_S8x576_0_31⟩, ⟨S8x1x576, strip G 30 slices_S8x639_S8x576_0_30⟩, ⟨S8x1x576, strip G 29 slices_S8x639_S8x576_0_29⟩, ⟨S8x1x576, strip G 28 slices_S8x639_S8x576_0_28⟩, ⟨S8x1x576, strip G 27 slices_S8x639_S8x576_0_27⟩, ⟨S8x1x576, strip G 26 slices_S8x639_S8x576_0_26⟩, ⟨S8x1x576, strip G 25 slices_S8x639_S8x576_0_25⟩, ⟨S8x1x576, strip G 24 slices_S8x639_S8x576_0_24⟩, ⟨S8x1x576, strip G 23 slices_S8x639_S8x576_0_23⟩, ⟨S8x1x576, strip G 22 slices_S8x639_S8x576_0_22⟩, ⟨S8x1x576, strip G 21 slices_S8x639_S8x576_0_21⟩, ⟨S8x1x576, strip G 20 slices_S8x639_S8x576_0_20⟩, ⟨S8x1x576, strip G 19 slices_S8x639_S8x576_0_19⟩, ⟨S8x1x576, strip G 18 slices_S8x639_S8x576_0_18⟩, ⟨S8x1x576, strip G 17 slices_S8x639_S8x576_0_17⟩, ⟨S8x1x576, strip G 16 slices_S8x639_S8x576_0_16⟩]
    concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1

theorem rows2_at (h : Fin 8) (k : Fin 16) (j : Fin 576) (p : Fin 639) (hp : 31 - (k : ℕ) + j = p) :
    rows2 G (ix3 h k j) = G (ix2 h p) := by
  have side : ∀ k : Fin 16, ∀ b : Fin 3, b ≠ 1 → (ix3 h (0 : Fin 1) j b : ℕ) = ix3 h k j b := fun k b hb => by
    match b with
    | ⟨0, _⟩ => rfl
    | ⟨1, _⟩ => exact absurd rfl hb
    | ⟨2, _⟩ => rfl
  match k, hp with
  | ⟨0, q⟩, hp => exact (concatenate_apply_piece (t := S8x16x576) 1 _ _ _ 0 (by simp) S8x1x576 (strip G 31 _) rfl rfl 0 rfl (ix3 h (0 : Fin 1) j) (side ⟨0, q⟩) rfl).trans (strip_at G 31 _ h j p hp)
  | ⟨1, q⟩, hp => exact (concatenate_apply_piece (t := S8x16x576) 1 _ _ _ 1 (by simp) S8x1x576 (strip G 30 _) rfl rfl 1 rfl (ix3 h (0 : Fin 1) j) (side ⟨1, q⟩) rfl).trans (strip_at G 30 _ h j p hp)
  | ⟨2, q⟩, hp => exact (concatenate_apply_piece (t := S8x16x576) 1 _ _ _ 2 (by simp) S8x1x576 (strip G 29 _) rfl rfl 2 rfl (ix3 h (0 : Fin 1) j) (side ⟨2, q⟩) rfl).trans (strip_at G 29 _ h j p hp)
  | ⟨3, q⟩, hp => exact (concatenate_apply_piece (t := S8x16x576) 1 _ _ _ 3 (by simp) S8x1x576 (strip G 28 _) rfl rfl 3 rfl (ix3 h (0 : Fin 1) j) (side ⟨3, q⟩) rfl).trans (strip_at G 28 _ h j p hp)
  | ⟨4, q⟩, hp => exact (concatenate_apply_piece (t := S8x16x576) 1 _ _ _ 4 (by simp) S8x1x576 (strip G 27 _) rfl rfl 4 rfl (ix3 h (0 : Fin 1) j) (side ⟨4, q⟩) rfl).trans (strip_at G 27 _ h j p hp)
  | ⟨5, q⟩, hp => exact (concatenate_apply_piece (t := S8x16x576) 1 _ _ _ 5 (by simp) S8x1x576 (strip G 26 _) rfl rfl 5 rfl (ix3 h (0 : Fin 1) j) (side ⟨5, q⟩) rfl).trans (strip_at G 26 _ h j p hp)
  | ⟨6, q⟩, hp => exact (concatenate_apply_piece (t := S8x16x576) 1 _ _ _ 6 (by simp) S8x1x576 (strip G 25 _) rfl rfl 6 rfl (ix3 h (0 : Fin 1) j) (side ⟨6, q⟩) rfl).trans (strip_at G 25 _ h j p hp)
  | ⟨7, q⟩, hp => exact (concatenate_apply_piece (t := S8x16x576) 1 _ _ _ 7 (by simp) S8x1x576 (strip G 24 _) rfl rfl 7 rfl (ix3 h (0 : Fin 1) j) (side ⟨7, q⟩) rfl).trans (strip_at G 24 _ h j p hp)
  | ⟨8, q⟩, hp => exact (concatenate_apply_piece (t := S8x16x576) 1 _ _ _ 8 (by simp) S8x1x576 (strip G 23 _) rfl rfl 8 rfl (ix3 h (0 : Fin 1) j) (side ⟨8, q⟩) rfl).trans (strip_at G 23 _ h j p hp)
  | ⟨9, q⟩, hp => exact (concatenate_apply_piece (t := S8x16x576) 1 _ _ _ 9 (by simp) S8x1x576 (strip G 22 _) rfl rfl 9 rfl (ix3 h (0 : Fin 1) j) (side ⟨9, q⟩) rfl).trans (strip_at G 22 _ h j p hp)
  | ⟨10, q⟩, hp => exact (concatenate_apply_piece (t := S8x16x576) 1 _ _ _ 10 (by simp) S8x1x576 (strip G 21 _) rfl rfl 10 rfl (ix3 h (0 : Fin 1) j) (side ⟨10, q⟩) rfl).trans (strip_at G 21 _ h j p hp)
  | ⟨11, q⟩, hp => exact (concatenate_apply_piece (t := S8x16x576) 1 _ _ _ 11 (by simp) S8x1x576 (strip G 20 _) rfl rfl 11 rfl (ix3 h (0 : Fin 1) j) (side ⟨11, q⟩) rfl).trans (strip_at G 20 _ h j p hp)
  | ⟨12, q⟩, hp => exact (concatenate_apply_piece (t := S8x16x576) 1 _ _ _ 12 (by simp) S8x1x576 (strip G 19 _) rfl rfl 12 rfl (ix3 h (0 : Fin 1) j) (side ⟨12, q⟩) rfl).trans (strip_at G 19 _ h j p hp)
  | ⟨13, q⟩, hp => exact (concatenate_apply_piece (t := S8x16x576) 1 _ _ _ 13 (by simp) S8x1x576 (strip G 18 _) rfl rfl 13 rfl (ix3 h (0 : Fin 1) j) (side ⟨13, q⟩) rfl).trans (strip_at G 18 _ h j p hp)
  | ⟨14, q⟩, hp => exact (concatenate_apply_piece (t := S8x16x576) 1 _ _ _ 14 (by simp) S8x1x576 (strip G 17 _) rfl rfl 14 rfl (ix3 h (0 : Fin 1) j) (side ⟨14, q⟩) rfl).trans (strip_at G 17 _ h j p hp)
  | ⟨15, q⟩, hp => exact (concatenate_apply_piece (t := S8x16x576) 1 _ _ _ 15 (by simp) S8x1x576 (strip G 16 _) rfl rfl 15 rfl (ix3 h (0 : Fin 1) j) (side ⟨15, q⟩) rfl).trans (strip_at G 16 _ h j p hp)
  | ⟨k + 16, q⟩, _ => exact absurd q (by omega)

def rows3 : Vec Ideal S8x16x576 .f32 :=
  concatenate S8x16x576 1
    [⟨S8x1x576, strip G 15 slices_S8x639_S8x576_0_15⟩, ⟨S8x1x576, strip G 14 slices_S8x639_S8x576_0_14⟩, ⟨S8x1x576, strip G 13 slices_S8x639_S8x576_0_13⟩, ⟨S8x1x576, strip G 12 slices_S8x639_S8x576_0_12⟩, ⟨S8x1x576, strip G 11 slices_S8x639_S8x576_0_11⟩, ⟨S8x1x576, strip G 10 slices_S8x639_S8x576_0_10⟩, ⟨S8x1x576, strip G 9 slices_S8x639_S8x576_0_9⟩, ⟨S8x1x576, strip G 8 slices_S8x639_S8x576_0_8⟩, ⟨S8x1x576, strip G 7 slices_S8x639_S8x576_0_7⟩, ⟨S8x1x576, strip G 6 slices_S8x639_S8x576_0_6⟩, ⟨S8x1x576, strip G 5 slices_S8x639_S8x576_0_5⟩, ⟨S8x1x576, strip G 4 slices_S8x639_S8x576_0_4⟩, ⟨S8x1x576, strip G 3 slices_S8x639_S8x576_0_3⟩, ⟨S8x1x576, strip G 2 slices_S8x639_S8x576_0_2⟩, ⟨S8x1x576, strip G 1 slices_S8x639_S8x576_0_1⟩, ⟨S8x1x576, strip G 0 slices_S8x639_S8x576_0_0⟩]
    concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1

theorem rows3_at (h : Fin 8) (k : Fin 16) (j : Fin 576) (p : Fin 639) (hp : 15 - (k : ℕ) + j = p) :
    rows3 G (ix3 h k j) = G (ix2 h p) := by
  have side : ∀ k : Fin 16, ∀ b : Fin 3, b ≠ 1 → (ix3 h (0 : Fin 1) j b : ℕ) = ix3 h k j b := fun k b hb => by
    match b with
    | ⟨0, _⟩ => rfl
    | ⟨1, _⟩ => exact absurd rfl hb
    | ⟨2, _⟩ => rfl
  match k, hp with
  | ⟨0, q⟩, hp => exact (concatenate_apply_piece (t := S8x16x576) 1 _ _ _ 0 (by simp) S8x1x576 (strip G 15 _) rfl rfl 0 rfl (ix3 h (0 : Fin 1) j) (side ⟨0, q⟩) rfl).trans (strip_at G 15 _ h j p hp)
  | ⟨1, q⟩, hp => exact (concatenate_apply_piece (t := S8x16x576) 1 _ _ _ 1 (by simp) S8x1x576 (strip G 14 _) rfl rfl 1 rfl (ix3 h (0 : Fin 1) j) (side ⟨1, q⟩) rfl).trans (strip_at G 14 _ h j p hp)
  | ⟨2, q⟩, hp => exact (concatenate_apply_piece (t := S8x16x576) 1 _ _ _ 2 (by simp) S8x1x576 (strip G 13 _) rfl rfl 2 rfl (ix3 h (0 : Fin 1) j) (side ⟨2, q⟩) rfl).trans (strip_at G 13 _ h j p hp)
  | ⟨3, q⟩, hp => exact (concatenate_apply_piece (t := S8x16x576) 1 _ _ _ 3 (by simp) S8x1x576 (strip G 12 _) rfl rfl 3 rfl (ix3 h (0 : Fin 1) j) (side ⟨3, q⟩) rfl).trans (strip_at G 12 _ h j p hp)
  | ⟨4, q⟩, hp => exact (concatenate_apply_piece (t := S8x16x576) 1 _ _ _ 4 (by simp) S8x1x576 (strip G 11 _) rfl rfl 4 rfl (ix3 h (0 : Fin 1) j) (side ⟨4, q⟩) rfl).trans (strip_at G 11 _ h j p hp)
  | ⟨5, q⟩, hp => exact (concatenate_apply_piece (t := S8x16x576) 1 _ _ _ 5 (by simp) S8x1x576 (strip G 10 _) rfl rfl 5 rfl (ix3 h (0 : Fin 1) j) (side ⟨5, q⟩) rfl).trans (strip_at G 10 _ h j p hp)
  | ⟨6, q⟩, hp => exact (concatenate_apply_piece (t := S8x16x576) 1 _ _ _ 6 (by simp) S8x1x576 (strip G 9 _) rfl rfl 6 rfl (ix3 h (0 : Fin 1) j) (side ⟨6, q⟩) rfl).trans (strip_at G 9 _ h j p hp)
  | ⟨7, q⟩, hp => exact (concatenate_apply_piece (t := S8x16x576) 1 _ _ _ 7 (by simp) S8x1x576 (strip G 8 _) rfl rfl 7 rfl (ix3 h (0 : Fin 1) j) (side ⟨7, q⟩) rfl).trans (strip_at G 8 _ h j p hp)
  | ⟨8, q⟩, hp => exact (concatenate_apply_piece (t := S8x16x576) 1 _ _ _ 8 (by simp) S8x1x576 (strip G 7 _) rfl rfl 8 rfl (ix3 h (0 : Fin 1) j) (side ⟨8, q⟩) rfl).trans (strip_at G 7 _ h j p hp)
  | ⟨9, q⟩, hp => exact (concatenate_apply_piece (t := S8x16x576) 1 _ _ _ 9 (by simp) S8x1x576 (strip G 6 _) rfl rfl 9 rfl (ix3 h (0 : Fin 1) j) (side ⟨9, q⟩) rfl).trans (strip_at G 6 _ h j p hp)
  | ⟨10, q⟩, hp => exact (concatenate_apply_piece (t := S8x16x576) 1 _ _ _ 10 (by simp) S8x1x576 (strip G 5 _) rfl rfl 10 rfl (ix3 h (0 : Fin 1) j) (side ⟨10, q⟩) rfl).trans (strip_at G 5 _ h j p hp)
  | ⟨11, q⟩, hp => exact (concatenate_apply_piece (t := S8x16x576) 1 _ _ _ 11 (by simp) S8x1x576 (strip G 4 _) rfl rfl 11 rfl (ix3 h (0 : Fin 1) j) (side ⟨11, q⟩) rfl).trans (strip_at G 4 _ h j p hp)
  | ⟨12, q⟩, hp => exact (concatenate_apply_piece (t := S8x16x576) 1 _ _ _ 12 (by simp) S8x1x576 (strip G 3 _) rfl rfl 12 rfl (ix3 h (0 : Fin 1) j) (side ⟨12, q⟩) rfl).trans (strip_at G 3 _ h j p hp)
  | ⟨13, q⟩, hp => exact (concatenate_apply_piece (t := S8x16x576) 1 _ _ _ 13 (by simp) S8x1x576 (strip G 2 _) rfl rfl 13 rfl (ix3 h (0 : Fin 1) j) (side ⟨13, q⟩) rfl).trans (strip_at G 2 _ h j p hp)
  | ⟨14, q⟩, hp => exact (concatenate_apply_piece (t := S8x16x576) 1 _ _ _ 14 (by simp) S8x1x576 (strip G 1 _) rfl rfl 14 rfl (ix3 h (0 : Fin 1) j) (side ⟨14, q⟩) rfl).trans (strip_at G 1 _ h j p hp)
  | ⟨15, q⟩, hp => exact (concatenate_apply_piece (t := S8x16x576) 1 _ _ _ 15 (by simp) S8x1x576 (strip G 0 _) rfl rfl 15 rfl (ix3 h (0 : Fin 1) j) (side ⟨15, q⟩) rfl).trans (strip_at G 0 _ h j p hp)
  | ⟨k + 16, q⟩, _ => exact absurd q (by omega)

/-- The 64 rows stacked: row `i` of a head is the table from column `63 - i` on. -/
def stacked : Vec Ideal S8x64x576 .f32 :=
  concatenate S8x64x576 1 [⟨S8x16x576, rows0 G⟩, ⟨S8x16x576, rows1 G⟩, ⟨S8x16x576, rows2 G⟩, ⟨S8x16x576, rows3 G⟩]
    concatenates_S8x16x576_S8x16x576_S8x16x576_S8x16x576_S8x64x576_d1

theorem stacked_at (h : Fin 8) (i : Fin 64) (j : Fin 576) :
    stacked G (ix3 h i j) = G (ix2 h (⟨63 - i + j, by have := j.2; omega⟩ : Fin 639)) := by
  have hi := i.2
  have side : ∀ k : Fin 16, ∀ b : Fin 3, b ≠ 1 → (ix3 h k j b : ℕ) = ix3 h i j b := fun k b hb => by
    match b with
    | ⟨0, _⟩ => rfl
    | ⟨1, _⟩ => exact absurd rfl hb
    | ⟨2, _⟩ => rfl
  rcases (by omega : (i : ℕ) < 16 ∨ (16 ≤ (i : ℕ) ∧ (i : ℕ) < 32) ∨ (32 ≤ (i : ℕ) ∧ (i : ℕ) < 48) ∨ 48 ≤ (i : ℕ)) with h1 | h1 | h1 | h1
  · refine (concatenate_apply_piece (t := S8x64x576) 1 _ _ _ 0 (by simp) S8x16x576 (rows0 G) rfl rfl 0 rfl (ix3 h (⟨i, by omega⟩ : Fin 16) j) (side _) (by show 0 + (i : ℕ) = i; omega)).trans (rows0_at G h _ j _ ?_)
    show 63 - (i : ℕ) + j = 63 - i + j
    omega
  · refine (concatenate_apply_piece (t := S8x64x576) 1 _ _ _ 1 (by simp) S8x16x576 (rows1 G) rfl rfl 16 rfl (ix3 h (⟨i - 16, by omega⟩ : Fin 16) j) (side _) (by show 16 + (i - 16 : ℕ) = i; omega)).trans (rows1_at G h _ j _ ?_)
    show 47 - (i - 16 : ℕ) + j = 63 - i + j
    omega
  · refine (concatenate_apply_piece (t := S8x64x576) 1 _ _ _ 2 (by simp) S8x16x576 (rows2 G) rfl rfl 32 rfl (ix3 h (⟨i - 32, by omega⟩ : Fin 16) j) (side _) (by show 32 + (i - 32 : ℕ) = i; omega)).trans (rows2_at G h _ j _ ?_)
    show 31 - (i - 32 : ℕ) + j = 63 - i + j
    omega
  · refine (concatenate_apply_piece (t := S8x64x576) 1 _ _ _ 3 (by simp) S8x16x576 (rows3 G) rfl rfl 48 rfl (ix3 h (⟨i - 48, by omega⟩ : Fin 16) j) (side _) (by show 48 + (i - 48 : ℕ) = i; omega)).trans (rows3_at G h _ j _ ?_)
    show 15 - (i - 48 : ℕ) + j = 63 - i + j
    omega

/-- The columns the host looks up, counted from the far end of the band. -/
theorem literal : ∀ p : Fin 639, (lit0 p).toInt.toNat = if p.val ≤ 319 then 512 else 831 - p.val := by decide +kernel

theorem literal_at (p : Fin 639) : (lit0 (S639.rowMajor (ix1 p))).toInt.toNat = if p.val ≤ 319 then 512 else 831 - p.val :=
  (congrArg (fun q : Fin 639 => (lit0 q).toInt.toNat) (Fin.ext (Shape.rowMajor_val_one _) : S639.rowMajor (ix1 p) = p)).trans (literal p)

variable (m : (ℓ : Loc nD τ sig) → Buf (Elt Ideal) ℓ) (c : Dev nD)

/-- The table with its columns looked up: the band of biases before it is cut into rows. -/
def band : Vec Ideal S8x639 .f32 :=
  Host.gather gather_S8x513_S639x1_S8x639_0_1_n_n_1_1_81 (m (c, Proc.tc.devRef main_arg7))
    (broadcastInDim S639x1 ![0] bcast_S639_S639x1_0
      (select (constantI S639 1 0#1)
        (addi (fun i => lit0 (S639.rowMajor i)) (broadcastInDim S639 ![] bcast_S_S639 (constantI S_ 32 513#32)))
        fun i => lit0 (S639.rowMajor i)))

theorem read134 : upto hostOps0 (fun b => m (c, b)) 141 (Proc.devRef .tc main_v134) = rows0 (band m c) := by
  have e0 : upto hostOps0 (fun b => m (c, b)) 137 (Proc.devRef .tc main_v70) = strip (band m c) 63 slices_S8x639_S8x576_0_63 := by
    after_reads_simp; rfl
  have e1 : upto hostOps0 (fun b => m (c, b)) 137 (Proc.devRef .tc main_v71) = strip (band m c) 62 slices_S8x639_S8x576_0_62 := by
    after_reads_simp; rfl
  have e2 : upto hostOps0 (fun b => m (c, b)) 137 (Proc.devRef .tc main_v72) = strip (band m c) 61 slices_S8x639_S8x576_0_61 := by
    after_reads_simp; rfl
  have e3 : upto hostOps0 (fun b => m (c, b)) 137 (Proc.devRef .tc main_v73) = strip (band m c) 60 slices_S8x639_S8x576_0_60 := by
    after_reads_simp; rfl
  have e4 : upto hostOps0 (fun b => m (c, b)) 137 (Proc.devRef .tc main_v74) = strip (band m c) 59 slices_S8x639_S8x576_0_59 := by
    after_reads_simp; rfl
  have e5 : upto hostOps0 (fun b => m (c, b)) 137 (Proc.devRef .tc main_v75) = strip (band m c) 58 slices_S8x639_S8x576_0_58 := by
    after_reads_simp; rfl
  have e6 : upto hostOps0 (fun b => m (c, b)) 137 (Proc.devRef .tc main_v76) = strip (band m c) 57 slices_S8x639_S8x576_0_57 := by
    after_reads_simp; rfl
  have e7 : upto hostOps0 (fun b => m (c, b)) 137 (Proc.devRef .tc main_v77) = strip (band m c) 56 slices_S8x639_S8x576_0_56 := by
    after_reads_simp; rfl
  have e8 : upto hostOps0 (fun b => m (c, b)) 137 (Proc.devRef .tc main_v78) = strip (band m c) 55 slices_S8x639_S8x576_0_55 := by
    after_reads_simp; rfl
  have e9 : upto hostOps0 (fun b => m (c, b)) 137 (Proc.devRef .tc main_v79) = strip (band m c) 54 slices_S8x639_S8x576_0_54 := by
    after_reads_simp; rfl
  have e10 : upto hostOps0 (fun b => m (c, b)) 137 (Proc.devRef .tc main_v80) = strip (band m c) 53 slices_S8x639_S8x576_0_53 := by
    after_reads_simp; rfl
  have e11 : upto hostOps0 (fun b => m (c, b)) 137 (Proc.devRef .tc main_v81) = strip (band m c) 52 slices_S8x639_S8x576_0_52 := by
    after_reads_simp; rfl
  have e12 : upto hostOps0 (fun b => m (c, b)) 137 (Proc.devRef .tc main_v82) = strip (band m c) 51 slices_S8x639_S8x576_0_51 := by
    after_reads_simp; rfl
  have e13 : upto hostOps0 (fun b => m (c, b)) 137 (Proc.devRef .tc main_v83) = strip (band m c) 50 slices_S8x639_S8x576_0_50 := by
    after_reads_simp; rfl
  have e14 : upto hostOps0 (fun b => m (c, b)) 137 (Proc.devRef .tc main_v84) = strip (band m c) 49 slices_S8x639_S8x576_0_49 := by
    after_reads_simp; rfl
  have e15 : upto hostOps0 (fun b => m (c, b)) 137 (Proc.devRef .tc main_v85) = strip (band m c) 48 slices_S8x639_S8x576_0_48 := by
    after_reads_simp; rfl
  after_reads_simp
  show concatenate S8x16x576 1 [⟨S8x1x576, upto hostOps0 (fun b => m (c, b)) 137 (Proc.devRef .tc main_v70)⟩, ⟨S8x1x576, upto hostOps0 (fun b => m (c, b)) 137 (Proc.devRef .tc main_v71)⟩, ⟨S8x1x576, upto hostOps0 (fun b => m (c, b)) 137 (Proc.devRef .tc main_v72)⟩, ⟨S8x1x576, upto hostOps0 (fun b => m (c, b)) 137 (Proc.devRef .tc main_v73)⟩, ⟨S8x1x576, upto hostOps0 (fun b => m (c, b)) 137 (Proc.devRef .tc main_v74)⟩, ⟨S8x1x576, upto hostOps0 (fun b => m (c, b)) 137 (Proc.devRef .tc main_v75)⟩, ⟨S8x1x576, upto hostOps0 (fun b => m (c, b)) 137 (Proc.devRef .tc main_v76)⟩, ⟨S8x1x576, upto hostOps0 (fun b => m (c, b)) 137 (Proc.devRef .tc main_v77)⟩, ⟨S8x1x576, upto hostOps0 (fun b => m (c, b)) 137 (Proc.devRef .tc main_v78)⟩, ⟨S8x1x576, upto hostOps0 (fun b => m (c, b)) 137 (Proc.devRef .tc main_v79)⟩, ⟨S8x1x576, upto hostOps0 (fun b => m (c, b)) 137 (Proc.devRef .tc main_v80)⟩, ⟨S8x1x576, upto hostOps0 (fun b => m (c, b)) 137 (Proc.devRef .tc main_v81)⟩, ⟨S8x1x576, upto hostOps0 (fun b => m (c, b)) 137 (Proc.devRef .tc main_v82)⟩, ⟨S8x1x576, upto hostOps0 (fun b => m (c, b)) 137 (Proc.devRef .tc main_v83)⟩, ⟨S8x1x576, upto hostOps0 (fun b => m (c, b)) 137 (Proc.devRef .tc main_v84)⟩, ⟨S8x1x576, upto hostOps0 (fun b => m (c, b)) 137 (Proc.devRef .tc main_v85)⟩]
    concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 = _
  rw [e0, e1, e2, e3, e4, e5, e6, e7, e8, e9, e10, e11, e12, e13, e14, e15]
  rfl

theorem read135 : upto hostOps0 (fun b => m (c, b)) 141 (Proc.devRef .tc main_v135) = rows1 (band m c) := by
  have e0 : upto hostOps0 (fun b => m (c, b)) 138 (Proc.devRef .tc main_v86) = strip (band m c) 47 slices_S8x639_S8x576_0_47 := by
    after_reads_simp; rfl
  have e1 : upto hostOps0 (fun b => m (c, b)) 138 (Proc.devRef .tc main_v87) = strip (band m c) 46 slices_S8x639_S8x576_0_46 := by
    after_reads_simp; rfl
  have e2 : upto hostOps0 (fun b => m (c, b)) 138 (Proc.devRef .tc main_v88) = strip (band m c) 45 slices_S8x639_S8x576_0_45 := by
    after_reads_simp; rfl
  have e3 : upto hostOps0 (fun b => m (c, b)) 138 (Proc.devRef .tc main_v89) = strip (band m c) 44 slices_S8x639_S8x576_0_44 := by
    after_reads_simp; rfl
  have e4 : upto hostOps0 (fun b => m (c, b)) 138 (Proc.devRef .tc main_v90) = strip (band m c) 43 slices_S8x639_S8x576_0_43 := by
    after_reads_simp; rfl
  have e5 : upto hostOps0 (fun b => m (c, b)) 138 (Proc.devRef .tc main_v91) = strip (band m c) 42 slices_S8x639_S8x576_0_42 := by
    after_reads_simp; rfl
  have e6 : upto hostOps0 (fun b => m (c, b)) 138 (Proc.devRef .tc main_v92) = strip (band m c) 41 slices_S8x639_S8x576_0_41 := by
    after_reads_simp; rfl
  have e7 : upto hostOps0 (fun b => m (c, b)) 138 (Proc.devRef .tc main_v93) = strip (band m c) 40 slices_S8x639_S8x576_0_40 := by
    after_reads_simp; rfl
  have e8 : upto hostOps0 (fun b => m (c, b)) 138 (Proc.devRef .tc main_v94) = strip (band m c) 39 slices_S8x639_S8x576_0_39 := by
    after_reads_simp; rfl
  have e9 : upto hostOps0 (fun b => m (c, b)) 138 (Proc.devRef .tc main_v95) = strip (band m c) 38 slices_S8x639_S8x576_0_38 := by
    after_reads_simp; rfl
  have e10 : upto hostOps0 (fun b => m (c, b)) 138 (Proc.devRef .tc main_v96) = strip (band m c) 37 slices_S8x639_S8x576_0_37 := by
    after_reads_simp; rfl
  have e11 : upto hostOps0 (fun b => m (c, b)) 138 (Proc.devRef .tc main_v97) = strip (band m c) 36 slices_S8x639_S8x576_0_36 := by
    after_reads_simp; rfl
  have e12 : upto hostOps0 (fun b => m (c, b)) 138 (Proc.devRef .tc main_v98) = strip (band m c) 35 slices_S8x639_S8x576_0_35 := by
    after_reads_simp; rfl
  have e13 : upto hostOps0 (fun b => m (c, b)) 138 (Proc.devRef .tc main_v99) = strip (band m c) 34 slices_S8x639_S8x576_0_34 := by
    after_reads_simp; rfl
  have e14 : upto hostOps0 (fun b => m (c, b)) 138 (Proc.devRef .tc main_v100) = strip (band m c) 33 slices_S8x639_S8x576_0_33 := by
    after_reads_simp; rfl
  have e15 : upto hostOps0 (fun b => m (c, b)) 138 (Proc.devRef .tc main_v101) = strip (band m c) 32 slices_S8x639_S8x576_0_32 := by
    after_reads_simp; rfl
  after_reads_simp
  show concatenate S8x16x576 1 [⟨S8x1x576, upto hostOps0 (fun b => m (c, b)) 138 (Proc.devRef .tc main_v86)⟩, ⟨S8x1x576, upto hostOps0 (fun b => m (c, b)) 138 (Proc.devRef .tc main_v87)⟩, ⟨S8x1x576, upto hostOps0 (fun b => m (c, b)) 138 (Proc.devRef .tc main_v88)⟩, ⟨S8x1x576, upto hostOps0 (fun b => m (c, b)) 138 (Proc.devRef .tc main_v89)⟩, ⟨S8x1x576, upto hostOps0 (fun b => m (c, b)) 138 (Proc.devRef .tc main_v90)⟩, ⟨S8x1x576, upto hostOps0 (fun b => m (c, b)) 138 (Proc.devRef .tc main_v91)⟩, ⟨S8x1x576, upto hostOps0 (fun b => m (c, b)) 138 (Proc.devRef .tc main_v92)⟩, ⟨S8x1x576, upto hostOps0 (fun b => m (c, b)) 138 (Proc.devRef .tc main_v93)⟩, ⟨S8x1x576, upto hostOps0 (fun b => m (c, b)) 138 (Proc.devRef .tc main_v94)⟩, ⟨S8x1x576, upto hostOps0 (fun b => m (c, b)) 138 (Proc.devRef .tc main_v95)⟩, ⟨S8x1x576, upto hostOps0 (fun b => m (c, b)) 138 (Proc.devRef .tc main_v96)⟩, ⟨S8x1x576, upto hostOps0 (fun b => m (c, b)) 138 (Proc.devRef .tc main_v97)⟩, ⟨S8x1x576, upto hostOps0 (fun b => m (c, b)) 138 (Proc.devRef .tc main_v98)⟩, ⟨S8x1x576, upto hostOps0 (fun b => m (c, b)) 138 (Proc.devRef .tc main_v99)⟩, ⟨S8x1x576, upto hostOps0 (fun b => m (c, b)) 138 (Proc.devRef .tc main_v100)⟩, ⟨S8x1x576, upto hostOps0 (fun b => m (c, b)) 138 (Proc.devRef .tc main_v101)⟩]
    concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 = _
  rw [e0, e1, e2, e3, e4, e5, e6, e7, e8, e9, e10, e11, e12, e13, e14, e15]
  rfl

theorem read136 : upto hostOps0 (fun b => m (c, b)) 141 (Proc.devRef .tc main_v136) = rows2 (band m c) := by
  have e0 : upto hostOps0 (fun b => m (c, b)) 139 (Proc.devRef .tc main_v102) = strip (band m c) 31 slices_S8x639_S8x576_0_31 := by
    after_reads_simp; rfl
  have e1 : upto hostOps0 (fun b => m (c, b)) 139 (Proc.devRef .tc main_v103) = strip (band m c) 30 slices_S8x639_S8x576_0_30 := by
    after_reads_simp; rfl
  have e2 : upto hostOps0 (fun b => m (c, b)) 139 (Proc.devRef .tc main_v104) = strip (band m c) 29 slices_S8x639_S8x576_0_29 := by
    after_reads_simp; rfl
  have e3 : upto hostOps0 (fun b => m (c, b)) 139 (Proc.devRef .tc main_v105) = strip (band m c) 28 slices_S8x639_S8x576_0_28 := by
    after_reads_simp; rfl
  have e4 : upto hostOps0 (fun b => m (c, b)) 139 (Proc.devRef .tc main_v106) = strip (band m c) 27 slices_S8x639_S8x576_0_27 := by
    after_reads_simp; rfl
  have e5 : upto hostOps0 (fun b => m (c, b)) 139 (Proc.devRef .tc main_v107) = strip (band m c) 26 slices_S8x639_S8x576_0_26 := by
    after_reads_simp; rfl
  have e6 : upto hostOps0 (fun b => m (c, b)) 139 (Proc.devRef .tc main_v108) = strip (band m c) 25 slices_S8x639_S8x576_0_25 := by
    after_reads_simp; rfl
  have e7 : upto hostOps0 (fun b => m (c, b)) 139 (Proc.devRef .tc main_v109) = strip (band m c) 24 slices_S8x639_S8x576_0_24 := by
    after_reads_simp; rfl
  have e8 : upto hostOps0 (fun b => m (c, b)) 139 (Proc.devRef .tc main_v110) = strip (band m c) 23 slices_S8x639_S8x576_0_23 := by
    after_reads_simp; rfl
  have e9 : upto hostOps0 (fun b => m (c, b)) 139 (Proc.devRef .tc main_v111) = strip (band m c) 22 slices_S8x639_S8x576_0_22 := by
    after_reads_simp; rfl
  have e10 : upto hostOps0 (fun b => m (c, b)) 139 (Proc.devRef .tc main_v112) = strip (band m c) 21 slices_S8x639_S8x576_0_21 := by
    after_reads_simp; rfl
  have e11 : upto hostOps0 (fun b => m (c, b)) 139 (Proc.devRef .tc main_v113) = strip (band m c) 20 slices_S8x639_S8x576_0_20 := by
    after_reads_simp; rfl
  have e12 : upto hostOps0 (fun b => m (c, b)) 139 (Proc.devRef .tc main_v114) = strip (band m c) 19 slices_S8x639_S8x576_0_19 := by
    after_reads_simp; rfl
  have e13 : upto hostOps0 (fun b => m (c, b)) 139 (Proc.devRef .tc main_v115) = strip (band m c) 18 slices_S8x639_S8x576_0_18 := by
    after_reads_simp; rfl
  have e14 : upto hostOps0 (fun b => m (c, b)) 139 (Proc.devRef .tc main_v116) = strip (band m c) 17 slices_S8x639_S8x576_0_17 := by
    after_reads_simp; rfl
  have e15 : upto hostOps0 (fun b => m (c, b)) 139 (Proc.devRef .tc main_v117) = strip (band m c) 16 slices_S8x639_S8x576_0_16 := by
    after_reads_simp; rfl
  after_reads_simp
  show concatenate S8x16x576 1 [⟨S8x1x576, upto hostOps0 (fun b => m (c, b)) 139 (Proc.devRef .tc main_v102)⟩, ⟨S8x1x576, upto hostOps0 (fun b => m (c, b)) 139 (Proc.devRef .tc main_v103)⟩, ⟨S8x1x576, upto hostOps0 (fun b => m (c, b)) 139 (Proc.devRef .tc main_v104)⟩, ⟨S8x1x576, upto hostOps0 (fun b => m (c, b)) 139 (Proc.devRef .tc main_v105)⟩, ⟨S8x1x576, upto hostOps0 (fun b => m (c, b)) 139 (Proc.devRef .tc main_v106)⟩, ⟨S8x1x576, upto hostOps0 (fun b => m (c, b)) 139 (Proc.devRef .tc main_v107)⟩, ⟨S8x1x576, upto hostOps0 (fun b => m (c, b)) 139 (Proc.devRef .tc main_v108)⟩, ⟨S8x1x576, upto hostOps0 (fun b => m (c, b)) 139 (Proc.devRef .tc main_v109)⟩, ⟨S8x1x576, upto hostOps0 (fun b => m (c, b)) 139 (Proc.devRef .tc main_v110)⟩, ⟨S8x1x576, upto hostOps0 (fun b => m (c, b)) 139 (Proc.devRef .tc main_v111)⟩, ⟨S8x1x576, upto hostOps0 (fun b => m (c, b)) 139 (Proc.devRef .tc main_v112)⟩, ⟨S8x1x576, upto hostOps0 (fun b => m (c, b)) 139 (Proc.devRef .tc main_v113)⟩, ⟨S8x1x576, upto hostOps0 (fun b => m (c, b)) 139 (Proc.devRef .tc main_v114)⟩, ⟨S8x1x576, upto hostOps0 (fun b => m (c, b)) 139 (Proc.devRef .tc main_v115)⟩, ⟨S8x1x576, upto hostOps0 (fun b => m (c, b)) 139 (Proc.devRef .tc main_v116)⟩, ⟨S8x1x576, upto hostOps0 (fun b => m (c, b)) 139 (Proc.devRef .tc main_v117)⟩]
    concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 = _
  rw [e0, e1, e2, e3, e4, e5, e6, e7, e8, e9, e10, e11, e12, e13, e14, e15]
  rfl

theorem read137 : upto hostOps0 (fun b => m (c, b)) 141 (Proc.devRef .tc main_v137) = rows3 (band m c) := by
  have e0 : upto hostOps0 (fun b => m (c, b)) 140 (Proc.devRef .tc main_v118) = strip (band m c) 15 slices_S8x639_S8x576_0_15 := by
    after_reads_simp; rfl
  have e1 : upto hostOps0 (fun b => m (c, b)) 140 (Proc.devRef .tc main_v119) = strip (band m c) 14 slices_S8x639_S8x576_0_14 := by
    after_reads_simp; rfl
  have e2 : upto hostOps0 (fun b => m (c, b)) 140 (Proc.devRef .tc main_v120) = strip (band m c) 13 slices_S8x639_S8x576_0_13 := by
    after_reads_simp; rfl
  have e3 : upto hostOps0 (fun b => m (c, b)) 140 (Proc.devRef .tc main_v121) = strip (band m c) 12 slices_S8x639_S8x576_0_12 := by
    after_reads_simp; rfl
  have e4 : upto hostOps0 (fun b => m (c, b)) 140 (Proc.devRef .tc main_v122) = strip (band m c) 11 slices_S8x639_S8x576_0_11 := by
    after_reads_simp; rfl
  have e5 : upto hostOps0 (fun b => m (c, b)) 140 (Proc.devRef .tc main_v123) = strip (band m c) 10 slices_S8x639_S8x576_0_10 := by
    after_reads_simp; rfl
  have e6 : upto hostOps0 (fun b => m (c, b)) 140 (Proc.devRef .tc main_v124) = strip (band m c) 9 slices_S8x639_S8x576_0_9 := by
    after_reads_simp; rfl
  have e7 : upto hostOps0 (fun b => m (c, b)) 140 (Proc.devRef .tc main_v125) = strip (band m c) 8 slices_S8x639_S8x576_0_8 := by
    after_reads_simp; rfl
  have e8 : upto hostOps0 (fun b => m (c, b)) 140 (Proc.devRef .tc main_v126) = strip (band m c) 7 slices_S8x639_S8x576_0_7 := by
    after_reads_simp; rfl
  have e9 : upto hostOps0 (fun b => m (c, b)) 140 (Proc.devRef .tc main_v127) = strip (band m c) 6 slices_S8x639_S8x576_0_6 := by
    after_reads_simp; rfl
  have e10 : upto hostOps0 (fun b => m (c, b)) 140 (Proc.devRef .tc main_v128) = strip (band m c) 5 slices_S8x639_S8x576_0_5 := by
    after_reads_simp; rfl
  have e11 : upto hostOps0 (fun b => m (c, b)) 140 (Proc.devRef .tc main_v129) = strip (band m c) 4 slices_S8x639_S8x576_0_4 := by
    after_reads_simp; rfl
  have e12 : upto hostOps0 (fun b => m (c, b)) 140 (Proc.devRef .tc main_v130) = strip (band m c) 3 slices_S8x639_S8x576_0_3 := by
    after_reads_simp; rfl
  have e13 : upto hostOps0 (fun b => m (c, b)) 140 (Proc.devRef .tc main_v131) = strip (band m c) 2 slices_S8x639_S8x576_0_2 := by
    after_reads_simp; rfl
  have e14 : upto hostOps0 (fun b => m (c, b)) 140 (Proc.devRef .tc main_v132) = strip (band m c) 1 slices_S8x639_S8x576_0_1 := by
    after_reads_simp; rfl
  have e15 : upto hostOps0 (fun b => m (c, b)) 140 (Proc.devRef .tc main_v133) = strip (band m c) 0 slices_S8x639_S8x576_0_0 := by
    after_reads_simp; rfl
  after_reads_simp
  show concatenate S8x16x576 1 [⟨S8x1x576, upto hostOps0 (fun b => m (c, b)) 140 (Proc.devRef .tc main_v118)⟩, ⟨S8x1x576, upto hostOps0 (fun b => m (c, b)) 140 (Proc.devRef .tc main_v119)⟩, ⟨S8x1x576, upto hostOps0 (fun b => m (c, b)) 140 (Proc.devRef .tc main_v120)⟩, ⟨S8x1x576, upto hostOps0 (fun b => m (c, b)) 140 (Proc.devRef .tc main_v121)⟩, ⟨S8x1x576, upto hostOps0 (fun b => m (c, b)) 140 (Proc.devRef .tc main_v122)⟩, ⟨S8x1x576, upto hostOps0 (fun b => m (c, b)) 140 (Proc.devRef .tc main_v123)⟩, ⟨S8x1x576, upto hostOps0 (fun b => m (c, b)) 140 (Proc.devRef .tc main_v124)⟩, ⟨S8x1x576, upto hostOps0 (fun b => m (c, b)) 140 (Proc.devRef .tc main_v125)⟩, ⟨S8x1x576, upto hostOps0 (fun b => m (c, b)) 140 (Proc.devRef .tc main_v126)⟩, ⟨S8x1x576, upto hostOps0 (fun b => m (c, b)) 140 (Proc.devRef .tc main_v127)⟩, ⟨S8x1x576, upto hostOps0 (fun b => m (c, b)) 140 (Proc.devRef .tc main_v128)⟩, ⟨S8x1x576, upto hostOps0 (fun b => m (c, b)) 140 (Proc.devRef .tc main_v129)⟩, ⟨S8x1x576, upto hostOps0 (fun b => m (c, b)) 140 (Proc.devRef .tc main_v130)⟩, ⟨S8x1x576, upto hostOps0 (fun b => m (c, b)) 140 (Proc.devRef .tc main_v131)⟩, ⟨S8x1x576, upto hostOps0 (fun b => m (c, b)) 140 (Proc.devRef .tc main_v132)⟩, ⟨S8x1x576, upto hostOps0 (fun b => m (c, b)) 140 (Proc.devRef .tc main_v133)⟩]
    concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 = _
  rw [e0, e1, e2, e3, e4, e5, e6, e7, e8, e9, e10, e11, e12, e13, e14, e15]
  rfl

/-- The bias block at head pair `hp`, stacked row `x` and band column `j`: the table's row of the head, at the column the
    clipped distance names. -/
theorem read9 (hp : Fin 4) (x : Fin 128) (j : Fin 576) (b : Fin 513)
    (hb : (if 63 - (x : ℕ) % 64 + j ≤ 319 then 512 else 831 - (63 - (x : ℕ) % 64 + j)) = (b : ℕ)) :
    V m c main_v139 (ix3 hp x j) = m (c.tc.loc main_arg7) (ix2 (⟨hp * 2 + x / 64, by have := hp.2; have := x.2; omega⟩ : Fin 8) b) := by
  have e : V m c main_v139 = shapeCast S4x128x576 (stacked (band m c)) shapeCasts_S8x64x576_S4x128x576 := by
    unfold V
    after_reads_simp
    show shapeCast S4x128x576 (concatenate S8x64x576 1
      [⟨S8x16x576, upto hostOps0 (fun b => m (c, b)) 141 (Proc.devRef .tc main_v134)⟩, ⟨S8x16x576, upto hostOps0 (fun b => m (c, b)) 141 (Proc.devRef .tc main_v135)⟩,
        ⟨S8x16x576, upto hostOps0 (fun b => m (c, b)) 141 (Proc.devRef .tc main_v136)⟩, ⟨S8x16x576, upto hostOps0 (fun b => m (c, b)) 141 (Proc.devRef .tc main_v137)⟩]
      concatenates_S8x16x576_S8x16x576_S8x16x576_S8x16x576_S8x64x576_d1) shapeCasts_S8x64x576_S4x128x576 = _
    rw [read134, read135, read136, read137]
    rfl
  rw [e]
  refine (shapeCast_apply _ _ _ (ix3 (⟨hp * 2 + x / 64, by have := hp.2; have := x.2; omega⟩ : Fin 8) (⟨x % 64, by omega⟩ : Fin 64) j) ?_).trans ?_
  · refine (Shape.rowMajor_val_three _).trans ((?_ : _ = _).trans (Shape.rowMajor_val_three _).symm)
    show ((hp * 2 + x / 64 : ℕ) * 64 + x % 64) * 576 + j = ((hp : ℕ) * 128 + x) * 576 + j
    omega
  · rw [stacked_at]
    refine look_at _ _ _ _ b ?_
    rw [← hb]
    pointwise
    exact literal_at _

end Cert.Bias
-- ==== Proof.Attn.lean ====
/- The kernel's attention at a row and a lane, and the softmax row it equals. -/
module

public import proofs.«01_k».proof.Proof.Leg
public import proofs.«01_k».proof.Proof.Bias

@[expose] public section

noncomputable section

namespace Cert.Attn

open Cert.KernelIdeal Cert.KernelIdeal.Gen Idealize.ShloMosaic Idealize.ShloMosaic.TcCoe Cert.SoftmaxMath

/-- The score of query `i` and the key at place `j`, in the head of lane `l`, in base two. -/
def score (q : Vec Ideal S512x512 .f32) (kb : Vec Ideal S1024x512 .bf16) (b : Vec Ideal S4x128x576 .f32) (i l : Fin 512) (j : Fin 576) : EReal :=
  (∑ d : Fin 64, q (ix2 i ⟨(l : ℕ) / 64 * 64 + d, by omega⟩) * ((8⁻¹ * lb : ℝ) : EReal) * kb (ix2 ⟨(i : ℕ) / 64 * 64 + j, by omega⟩ ⟨(l : ℕ) / 64 * 64 + d, by omega⟩))
    + b (ix3 ⟨(l : ℕ) / 128, by omega⟩ (Chunk.stacked ⟨(i : ℕ) % 64, by omega⟩ ⟨(l : ℕ) % 128, by omega⟩) j) * (lb : EReal)

/-- The quotient of a row of scores and values. -/
def quot (s v : Fin 576 → EReal) : EReal :=
  Ideal.div (∑ j, Ideal.exp2 (s j - Finset.univ.fold max ⊥ s) * v j) (∑ j, Ideal.exp2 (s j - Finset.univ.fold max ⊥ s))

theorem biased_row (q : Vec Ideal S512x512 .f32) (kb : Vec Ideal S1024x512 .bf16) (b : Vec Ideal S4x128x576 .f32) (i l : Fin 512) (j : Fin 576) :
    Chunk.biased (Tile.cut (m := 64) q (Tile.chunkOf (ix2 i l)) (Tile.pairOf (ix2 i l)) (by norm_num)) (Tile.cut (m := 576) kb (Tile.chunkOf (ix2 i l)) (Tile.pairOf (ix2 i l)) (by norm_num))
      (Tile.pairBias b (Tile.pairOf (ix2 i l))) (ix2 (Chunk.stacked ⟨(i : ℕ) % 64, by omega⟩ ⟨(l : ℕ) % 128, by omega⟩) j) = score q kb b i l j := by
  rw [Chunk.biased_at]
  have lane : ∀ d : Fin 64, (l : ℕ) / 128 * 128 + (Chunk.headLane ⟨(l : ℕ) % 128, by omega⟩ d : ℕ) = (l : ℕ) / 64 * 64 + d := fun d => by
    unfold Chunk.headLane
    dsimp only
    split <;> omega
  refine congrArg₂ (· + ·) (Finset.sum_congr rfl fun d _ => congrArg₂ (· * ·) (congrArg (· * _) ?_) ?_) rfl
  · refine congrArg q (congrArg₂ ix2 (Fin.ext ?_) (Fin.ext (lane d)))
    show (i : ℕ) / 64 * 64 + (i : ℕ) % 64 = i
    omega
  · exact congrArg kb (congrArg₂ ix2 rfl (Fin.ext (lane d)))

theorem value_row (vb : Vec Ideal S1024x512 .bf16) (i l : Fin 512) (j : Fin 576) :
    (Tile.cut (m := 576) vb (Tile.chunkOf (ix2 i l)) (Tile.pairOf (ix2 i l)) (by norm_num) : Vec Ideal S576x128 .bf16) (ix2 j (⟨(l : ℕ) % 128, by omega⟩ : Fin 128))
      = vb (ix2 ⟨(i : ℕ) / 64 * 64 + j, by omega⟩ l) := by
  refine congrArg vb (congrArg₂ ix2 rfl (Fin.ext ?_))
  show (l : ℕ) / 128 * 128 + (l : ℕ) % 128 = l
  omega

theorem out_row (s : FVec Ideal S128x576 .f32) (v : Vec Ideal S576x128 .bf16) (i : Fin 64) (l : Fin 128) (S V : Fin 576 → EReal)
    (hs : ∀ j, s (ix2 (Chunk.stacked i l) j) = S j) (hv : ∀ j, v (ix2 j l) = V j) : Chunk.out (Chunk.powers s) v (ix2 i l) = quot S V := by
  rw [Chunk.out_at]
  simp only [Chunk.powers_at, hs, hv]
  rfl

theorem later_row (q : Vec Ideal S512x512 .f32) (kb vb : Vec Ideal S1024x512 .bf16) (b : Vec Ideal S4x128x576 .f32) (i l : Fin 512) :
    Tile.later q kb vb b (ix2 i l) = quot (score q kb b i l) fun j => vb (ix2 ⟨(i : ℕ) / 64 * 64 + j, by omega⟩ l) :=
  out_row _ _ ⟨(i : ℕ) % 64, by omega⟩ ⟨(l : ℕ) % 128, by omega⟩ _ _ (biased_row q kb b i l) (value_row vb i l)

theorem first_row (q : Vec Ideal S512x512 .f32) (kb vb : Vec Ideal S1024x512 .bf16) (b : Vec Ideal S4x128x576 .f32) (i l : Fin 512) :
    Tile.first q kb vb b (ix2 i l) = quot (fun j => if 512 ≤ (i : ℕ) / 64 * 64 + j then score q kb b i l j else ⊥) fun j => vb (ix2 ⟨(i : ℕ) / 64 * 64 + j, by omega⟩ l) := by
  refine out_row _ _ ⟨(i : ℕ) % 64, by omega⟩ ⟨(l : ℕ) % 128, by omega⟩ _ _ (fun j => ?_) (value_row vb i l)
  have hc : (Tile.chunkOf (ix2 i l) : ℕ) = (i : ℕ) / 64 := rfl
  refine (Chunk.masked_at (512 - 64 * (Tile.chunkOf (ix2 i l) : ℕ)) _ _ j (by omega)).trans ?_
  exact if_congr (by rw [hc]; exact ⟨fun h => by omega, fun h => by omega⟩) (biased_row q kb b i l j) rfl

/-- The column of the bias table at distance `j - i`. -/
def slot (i : Fin 64) (j : Fin 576) : Fin 513 := ⟨if 63 - (i : ℕ) + j ≤ 319 then 512 else 831 - (63 - (i : ℕ) + j), by split <;> omega⟩

/-- The row of the keys at place `j` of the row `r`'s window, `0` where there is none. -/
def keyRow (r : Fin 65536) (j : Fin 576) : Fin 65536 := ⟨(r : ℕ) / 64 * 64 + j - 512, by omega⟩

/-- Whether the row `r` has a key at place `j` of its window. -/
def has (r : Fin 65536) (j : Fin 576) : Prop := 512 ≤ (r : ℕ) / 64 % 128 * 64 + j

instance (r : Fin 65536) (j : Fin 576) : Decidable (has r j) := inferInstanceAs (Decidable (_ ≤ _))

/-- The score of the row `r` at place `j` of its window. -/
def ideal (q : FVec Ideal S65536x512 .f32) (k : FVec Ideal S65536x512 .bf16) (b : FVec Ideal S8x513 .f32) (r : Fin 65536) (l : Fin 512) (j : Fin 576) : EReal :=
  if has r j then (∑ d : Fin 64, q (ix2 r ⟨(l : ℕ) / 64 * 64 + d, by omega⟩) * k (ix2 (keyRow r j) ⟨(l : ℕ) / 64 * 64 + d, by omega⟩))
    * ((8⁻¹ : ℝ) : EReal) + b (ix2 ⟨(l : ℕ) / 64, by omega⟩ (slot ⟨(r : ℕ) % 64, by omega⟩ j)) else ⊥

variable (m : (ℓ : Loc nD τ sig) → Buf (Elt Ideal) ℓ) (c : Dev nD)

/-- The queries. -/
def queries : FVec Ideal S65536x512 .f32 := m (c.tc.loc main_arg1)
/-- The keys. -/
def keys : FVec Ideal S65536x512 .bf16 := m (c.tc.loc main_arg2)
/-- The values. -/
def values : FVec Ideal S65536x512 .bf16 := m (c.tc.loc main_arg3)
/-- The relative biases. -/
def biases : FVec Ideal S8x513 .f32 := m (c.tc.loc main_arg7)

theorem stack_row (X : Vec Ideal S65536x512 .bf16) (prev cur : Vec Ideal S512x512 .bf16) (r : Fin 65536) (j : Fin 576) (l : Fin 512)
    (hp : ∀ i l, prev (ix2 i l) = X (ix2 (Leg.rowOf (Leg.before (Leg.tileOf r)) i) l)) (hc : ∀ i l, cur (ix2 i l) = X (ix2 (Leg.rowOf (Leg.tileOf r) i) l))
    (h : has r j) : Tile.stack prev cur (ix2 ⟨(r : ℕ) % 512 / 64 * 64 + j, by omega⟩ l) = X (ix2 (keyRow r j) l) := by
  unfold has at h
  unfold Tile.stack
  by_cases hj : (r : ℕ) % 512 / 64 * 64 + j < 512
  · refine (dif_pos hj).trans ?_
    refine (hp _ _).trans (congrArg X (congrArg₂ ix2 (Fin.ext ?_) rfl))
    show ((r : ℕ) / 512 - 1) * 512 + ((r : ℕ) % 512 / 64 * 64 + j) = (r : ℕ) / 64 * 64 + j - 512
    omega
  · refine (dif_neg hj).trans ?_
    refine (hc _ _).trans (congrArg X (congrArg₂ ix2 (Fin.ext ?_) rfl))
    show ((r : ℕ) / 512) * 512 + ((r : ℕ) % 512 / 64 * 64 + j - 512) = (r : ℕ) / 64 * 64 + j - 512
    omega

/-- The softmax of a row of scores, applied to the values. -/
def soft (s v : Fin 576 → EReal) : EReal :=
  ∑ j, Ideal.div (Ideal.exp (s j - Finset.univ.fold max ⊥ s)) (∑ j, Ideal.exp (s j - Finset.univ.fold max ⊥ s)) * v j

variable (hq : ∀ r l, ∃ x : ℝ, queries m c (ix2 r l) = (x : EReal))
  (hk : ∀ r l, ∃ x : ℝ, keys m c (ix2 r l) = (x : EReal))
  (hb : ∀ h x, ∃ y : ℝ, biases m c (ix2 h x) = (y : EReal))

include hq hk hb

theorem score_row (r : Fin 65536) (l : Fin 512) (j : Fin 576) (h : has r j) :
    score (iblk m c 1 (Leg.tileOf r)) (Tile.stack (iblk m c 3 (Leg.tileOf r)) (iblk m c 2 (Leg.tileOf r))) (iblk m c 9 (Leg.tileOf r)) ⟨(r : ℕ) % 512, by omega⟩ l j
      = ideal (queries m c) (keys m c) (biases m c) r l j * (lb : EReal)
      ∧ ∃ x : ℝ, ideal (queries m c) (keys m c) (biases m c) r l j = x := by
  have e := score_eq (fun d => queries m c (ix2 r ⟨(l : ℕ) / 64 * 64 + d, by omega⟩))
    (fun d => keys m c (ix2 (keyRow r j) ⟨(l : ℕ) / 64 * 64 + d, by omega⟩))
    (biases m c (ix2 ⟨(l : ℕ) / 64, by omega⟩ (slot ⟨(r : ℕ) % 64, by omega⟩ j)))
    (fun d => hq _ _) (fun d => hk _ _) (hb _ _)
  unfold ideal
  rw [if_pos h]
  refine ⟨Eq.trans ?_ e.1, e.2⟩
  unfold score
  refine congrArg₂ (· + ·) (Finset.sum_congr rfl fun d _ => congrArg₂ (· * ·) (congrArg (· * _) ?_) ?_) (congrArg (· * _) ?_)
  · refine (Leg.block1 m c _ _ _).trans (congrArg (queries m c) (congrArg₂ ix2 (Fin.ext ?_) rfl))
    show (r : ℕ) / 512 * 512 + (r : ℕ) % 512 = r
    omega
  · exact stack_row _ _ _ r j _ (Leg.block3 m c _) (Leg.block2 m c _) h
  · rw [Leg.block9]
    have e0 : (Chunk.stacked ⟨(r : ℕ) % 512 % 64, by omega⟩ ⟨(l : ℕ) % 128, by omega⟩ : ℕ) = (if (l : ℕ) % 128 < 64 then 0 else 64) + (r : ℕ) % 64 := by
      unfold Chunk.stacked
      dsimp only
      split <;> omega
    refine (Bias.read9 m c _ _ j (slot ⟨(r : ℕ) % 64, by omega⟩ j) ?_).trans (congrArg (biases m c) (congrArg₂ ix2 (Fin.ext ?_) rfl))
    · have : (Chunk.stacked ⟨(r : ℕ) % 512 % 64, by omega⟩ ⟨(l : ℕ) % 128, by omega⟩ : ℕ) % 64 = (r : ℕ) % 64 := by
        rw [e0]; split <;> omega
      rw [this]
      rfl
    · show (l : ℕ) / 128 * 2 + (Chunk.stacked ⟨(r : ℕ) % 512 % 64, by omega⟩ ⟨(l : ℕ) % 128, by omega⟩ : ℕ) / 64 = (l : ℕ) / 64
      rw [e0]; split <;> omega

/-- The kernel's attention is the softmax of the row's scores, applied to the values. -/
theorem attention_row (r : Fin 65536) (l : Fin 512) (v' : Fin 576 → EReal)
    (hv : ∀ j, has r j → v' j = values m c (ix2 (keyRow r j) l)) :
    Leg.attention m c (Leg.tileOf r) (ix2 ⟨(r : ℕ) % 512, by omega⟩ l)
      = soft (ideal (queries m c) (keys m c) (biases m c) r l) v' := by
  have S := score_row m c hq hk hb r l
  have hs : ∀ j, ideal (queries m c) (keys m c) (biases m c) r l j ≠ ⊤ := fun j => by
    by_cases h : has r j
    · obtain ⟨x, e⟩ := (S j h).2
      rw [e]
      exact EReal.coe_ne_top x
    · rw [ideal, if_neg h]
      exact bot_ne_top
  have h0 : has r (575 : Fin 576) := by
    show 512 ≤ (r : ℕ) / 64 % 128 * 64 + 575
    omega
  have hj : ideal (queries m c) (keys m c) (biases m c) r l 575 ≠ ⊥ := by
    obtain ⟨x, e⟩ := (S _ h0).2
    rw [e]
    exact EReal.coe_ne_bot x
  refine Eq.trans ?_ (row_eq (ideal (queries m c) (keys m c) (biases m c) r l)
    (fun j => Tile.stack (iblk m c 5 (Leg.tileOf r)) (iblk m c 4 (Leg.tileOf r)) (ix2 ⟨(r : ℕ) % 512 / 64 * 64 + j, by omega⟩ l)) v' hs 575 hj fun j => ?_)
  · have key : Leg.attention m c (Leg.tileOf r) (ix2 ⟨(r : ℕ) % 512, by omega⟩ l)
        = quot (fun j => ideal (queries m c) (keys m c) (biases m c) r l j * (lb : EReal))
          (fun j => Tile.stack (iblk m c 5 (Leg.tileOf r)) (iblk m c 4 (Leg.tileOf r)) (ix2 ⟨(r : ℕ) % 512 / 64 * 64 + j, by omega⟩ l)) := by
      unfold Leg.attention
      by_cases ht : (Leg.tileOf r).val % 16 = 0
      · rw [if_pos ht, first_row]
        refine congrArg₂ quot (funext fun j => ?_) rfl
        have ht' : (r : ℕ) / 512 % 16 = 0 := ht
        by_cases h : has r j
        · rw [if_pos (show 512 ≤ (r : ℕ) % 512 / 64 * 64 + j by unfold has at h; omega)]
          exact (S j h).1
        · rw [if_neg (show ¬ 512 ≤ (r : ℕ) % 512 / 64 * 64 + j by unfold has at h; omega), ideal, if_neg h]
          exact (EReal.bot_mul_of_pos (EReal.coe_pos.mpr lb_pos)).symm
      · rw [if_neg ht, later_row]
        refine congrArg₂ quot (funext fun j => ?_) rfl
        have ht' : ¬ (r : ℕ) / 512 % 16 = 0 := ht
        exact (S j (by unfold has; omega)).1
    exact key
  · by_cases h : has r j
    · right
      rw [hv j h]
      exact stack_row _ _ _ r j _ (Leg.block5 m c _) (Leg.block4 m c _) h
    · left
      rw [ideal, if_neg h]

end Cert.Attn
-- ==== Proof.Meet.lean ====
/- The reference's attention at a row and a lane is the softmax row that the kernel's attention equals. -/
module

public import proofs.«01_k».proof.Proof.RefAttend
public import proofs.«01_k».proof.Proof.Attn

@[expose] public section

noncomputable section

namespace Cert.Meet

open Cert.ReferenceIdeal Cert.ReferenceIdeal.Gen Cert.ReferenceIdeal.Value Idealize.ShloMosaic Idealize.ShloMosaic.TcCoe Idealize.SL.Sem Idealize.ShloMosaic.StableHlo

variable (V0 : Valuation τ sig (Elt Ideal))

/-- The keys. -/
def keys : FVec Ideal S65536x512 .bf16 := V0 (Proc.devRef .tc main_arg2)
/-- The values. -/
def values : FVec Ideal S65536x512 .bf16 := V0 (Proc.devRef .tc main_arg3)

theorem eighth : Ideal.ofBits FTy.f32 1040187392#32 = ((8⁻¹ : ℝ) : EReal) := by
  have e : Ideal.ofBits FTy.f32 1040187392#32 = ((8388608 : ℝ) : EReal) * ((1 / 67108864 : ℝ) : EReal) := by
    simp [Ideal.ofBits, Ideal.ieee]
    norm_num
  rw [e, ← EReal.coe_mul]
  norm_num

theorem seen_of (A : FVec Ideal S65536x512 .bf16) (r : Fin 65536) (l : Fin 512) (d : Fin 64) (j : Fin 576) (h : Attn.has r j) :
    Ref.seen A ⟨(r : ℕ) / 8192, by omega⟩ ⟨(r : ℕ) / 64 % 128, by omega⟩ j ⟨(l : ℕ) / 64, by omega⟩ d
      = A (ix2 (Attn.keyRow r j) ⟨(l : ℕ) / 64 * 64 + d, by omega⟩) := by
  unfold Attn.has at h
  unfold Ref.seen
  refine (dif_pos h).trans (congrArg A (congrArg₂ ix2 (Fin.ext ?_) rfl))
  show (r : ℕ) / 8192 * 8192 + ((r : ℕ) / 64 % 128 * 64 + j - 512) = (r : ℕ) / 64 * 64 + j - 512
  omega

theorem scores_row (r : Fin 65536) (l : Fin 512) (j : Fin 576) :
    Ref.scores V0 (ix5 (⟨(r : ℕ) / 8192, by omega⟩ : Fin 8) (⟨(r : ℕ) / 64 % 128, by omega⟩ : Fin 128) (⟨(l : ℕ) / 64, by omega⟩ : Fin 8) (⟨(r : ℕ) % 64, by omega⟩ : Fin 64) j)
      = Attn.ideal (Ref.queries V0) (keys V0) (Ref.biases V0) r l j := by
  rw [Ref.score_at V0 _ _ _ _ _ (Attn.slot ⟨(r : ℕ) % 64, by omega⟩ j) rfl]
  unfold Attn.ideal
  by_cases h : Attn.has r j
  · rw [if_pos (show 512 ≤ (r : ℕ) / 64 % 128 * 64 + (j : ℕ) from h), if_pos h, eighth]
    refine congrArg (· + _) (congrArg (· * _) (Finset.sum_congr rfl fun d _ => congrArg₂ (· * ·) ?_ (seen_of (keys V0) r l d j h)))
    refine congrArg (Ref.queries V0) (congrArg₂ ix2 (Fin.ext ?_) rfl)
    show (r : ℕ) / 8192 * 8192 + (r : ℕ) / 64 % 128 * 64 + (r : ℕ) % 64 = r
    omega
  · exact (if_neg h).trans (if_neg h).symm

/-- The reference's attention is the softmax of the row's scores, applied to the values. -/
theorem attended_row (r : Fin 65536) (l : Fin 512) : Ref.attended V0 r l
    = Attn.soft (Attn.ideal (Ref.queries V0) (keys V0) (Ref.biases V0) r l)
      fun j => Ref.seen (values V0) ⟨(r : ℕ) / 8192, by omega⟩ ⟨(r : ℕ) / 64 % 128, by omega⟩ j ⟨(l : ℕ) / 64, by omega⟩ ⟨(l : ℕ) % 64, by omega⟩ := by
  unfold Ref.attended Attn.soft
  refine Finset.sum_congr rfl fun j _ => (mul_comm _ _).trans ?_
  simp only [Ref.powers_at, scores_row]
  rfl

end Cert.Meet
-- ==== Proof.Entry.lean ====
module

public import proofs.«01_k».proof.Proof.Gen.KernelIdeal.Frame
public import Idealize.ShloMosaic.Lib.Pipeline.ValueKit.Point

@[expose] public section

set_option maxRecDepth 16384
set_option maxHeartbeats 4000000

noncomputable section

namespace Cert.Entry

open Cert.KernelIdeal Cert.KernelIdeal.Gen Idealize.ShloMosaic Idealize.ShloMosaic.TcCoe Idealize.SL.Sem

variable (m : (ℓ : Loc nD τ sig) → Buf (Elt Ideal) ℓ) (c : Dev nD)

theorem read8 (i : Fin 512) (l : Fin 1024) : V m c main_v0 (ix2 i l) = m (c.tc.loc main_arg6) (ix2 i l) := by
  unfold V; entry_read; pointwise
theorem read10 (i : Fin 512) (l : Fin 1024) : V m c main_v140 (ix2 i l) = m (c.tc.loc main_arg8) (ix2 i l) := by
  unfold V; entry_read; pointwise
theorem read11 (i l : Fin 1024) : V m c main_v141 (ix2 i l) = m (c.tc.loc main_arg9) (ix2 i l) := by
  unfold V; entry_read; pointwise
theorem read12 (l : Fin 1024) : V m c main_v142 (ix2 (0 : Fin 1) l) = m (c.tc.loc main_arg10) (ix1 l) := by
  unfold V; entry_read; pointwise
theorem read13 (l : Fin 1024) : V m c main_v143 (ix2 (0 : Fin 1) l) = m (c.tc.loc main_arg11) (ix1 l) := by
  unfold V; entry_read; pointwise
theorem read14 (l : Fin 1024) : V m c main_v144 (ix2 (0 : Fin 1) l) = m (c.tc.loc main_arg12) (ix1 l) := by
  unfold V; entry_read; pointwise
theorem read15 (e : Fin 16) (l : Fin 1024) : V m c main_v146 (ix2 e l) = m (c.tc.loc main_arg13) (ix2 l e) := by
  unfold V; entry_read; pointwise
theorem read16 (e : Fin 16) : V m c main_v147 (ix2 e (0 : Fin 1)) = m (c.tc.loc main_arg14) (ix1 e) := by
  unfold V; entry_read; pointwise

end Cert.Entry
-- ==== Proof.Rows.lean ====
/- The kernel's result array and the reference's, row by row, are equal. -/
module

public import proofs.«01_k».proof.Proof.Weights
public import proofs.«01_k».proof.Proof.Meet
public import proofs.«01_k».proof.Proof.Entry
public import proofs.«01_k».proof.Proof.Layer

@[expose] public section

set_option maxRecDepth 100000
set_option maxHeartbeats 4000000

noncomputable section

namespace Cert.Layer

theorem mix_congr {c c' a a' : Fin 512 → EReal} {g g' h h' x x' : Fin 1024 → EReal} {wc wc' wa wa' : Fin 512 → Fin 1024 → EReal}
    {wo wo' : Fin 1024 → Fin 1024 → EReal} {bo bo' : Fin 1024 → EReal} (e0 : ∀ d, c d = c' d) (e1 : ∀ d, a d = a' d) (e2 : ∀ d, g d = g' d)
    (e3 : ∀ d, h d = h' d) (e4 : ∀ d, x d = x' d) (e5 : ∀ d e, wc d e = wc' d e) (e6 : ∀ d e, wa d e = wa' d e) (e7 : ∀ d e, wo d e = wo' d e)
    (e8 : ∀ e, bo e = bo' e) : mix c a g h x wc wa wo bo = mix c' a' g' h' x' wc' wa' wo' bo' := by
  rw [funext e0, funext e1, funext e2, funext e3, funext e4, funext fun d => funext (e5 d), funext fun d => funext (e6 d), funext fun d => funext (e7 d), funext e8]

theorem norm_congr {v v' lg lg' lb lb' : Fin 1024 → EReal} (e0 : v = v') (e1 : ∀ d, lg d = lg' d) (e2 : ∀ d, lb d = lb' d) : norm v lg lb = norm v' lg' lb' := by
  rw [e0, funext e1, funext e2]

theorem logits_congr {y y' : Fin 1024 → EReal} {w w' : Fin 1024 → Fin 16 → EReal} {b b' : Fin 16 → EReal} (e0 : y = y') (e1 : ∀ d e, w d e = w' d e)
    (e2 : ∀ e, b e = b' e) : logits y w b = logits y' w' b' := by
  rw [e0, funext fun d => funext (e1 d), funext e2]

end Cert.Layer

namespace Cert.Ref

open Cert.ReferenceIdeal Cert.ReferenceIdeal.Gen Cert.ReferenceIdeal.Value Idealize.ShloMosaic Idealize.ShloMosaic.TcCoe Idealize.SL.Sem Idealize.ShloMosaic.StableHlo

theorem joined (Y : FVec Ideal S65536x1024 .f32) (A B : FVec Ideal S65536x1 .f32) (r : Fin 65536) (l : Fin 1152) :
    (concatenate S65536x1152 1 [⟨S65536x1024, Y⟩, ⟨S65536x1, A⟩, ⟨S65536x1, B⟩,
      ⟨S65536x126, (broadcastInDim S65536x126 ![] bcast_S_S65536x126 (constant S_ .f32 0x00000000#32) : FVec Ideal S65536x126 .f32)⟩] concatenates_S65536x1024_S65536x1_S65536x1_S65536x126_S65536x1152_d1 : FVec Ideal S65536x1152 .f32) (ix2 r l)
      = if h : (l : ℕ) < 1024 then Y (ix2 r ⟨l, h⟩) else if (l : ℕ) = 1024 then A (ix2 r 0) else if (l : ℕ) = 1025 then B (ix2 r 0) else Ideal.ofBits FTy.f32 0#32 := by
  pointwise
  by_cases h : (l : ℕ) < 1024
  · rw [dif_pos h, dif_pos h]
  · rw [dif_neg h, dif_neg h]
    by_cases e0 : (l : ℕ) = 1024
    · rw [dif_pos (by omega), if_pos e0]
      exact congrArg A (congrArg₂ ix2 rfl (Fin.ext (by simp [e0])))
    · rw [dif_neg (by omega), if_neg e0]
      by_cases e1 : (l : ℕ) = 1025
      · rw [dif_pos (by omega), if_pos e1]
        exact congrArg B (congrArg₂ ix2 rfl (Fin.ext (by simp [e1])))
      · rw [dif_neg (by omega), if_neg e1]

theorem ordered (O : IVec S65536x1 1) (X : FVec Ideal S65536x2 .f32) (r : Fin 65536) :
    (select O (extractStridedSlice S65536x1 ![0, 0] X slices_S65536x2_S65536x1_0_0) (extractStridedSlice S65536x1 ![0, 1] X slices_S65536x2_S65536x1_0_1) : FVec Ideal S65536x1 .f32) (ix2 r 0)
      = Scalar.select (O (ix2 r 0)) (X (ix2 r 0)) (X (ix2 r 1)) := by
  pointwise

theorem reversed (O : IVec S65536x1 1) (X : FVec Ideal S65536x2 .f32) (r : Fin 65536) :
    (select O (extractStridedSlice S65536x1 ![0, 1] X slices_S65536x2_S65536x1_0_1) (extractStridedSlice S65536x1 ![0, 0] X slices_S65536x2_S65536x1_0_0) : FVec Ideal S65536x1 .f32) (ix2 r 0)
      = Scalar.select (O (ix2 r 0)) (X (ix2 r 1)) (X (ix2 r 0)) := by
  pointwise

variable (V0 : Valuation τ sig (Elt Ideal))

/-- The reference's result array. -/
def result : FVec Ideal S65536x1152 .f32 :=
  concatenate S65536x1152 1 [⟨S65536x1024, normed V0⟩,
    ⟨S65536x1, ((select (order V0) (extractStridedSlice S65536x1 ![0, 0] (shares V0) slices_S65536x2_S65536x1_0_0) (extractStridedSlice S65536x1 ![0, 1] (shares V0) slices_S65536x2_S65536x1_0_1)) : FVec Ideal S65536x1 .f32)⟩,
    ⟨S65536x1, ((select (order V0) (extractStridedSlice S65536x1 ![0, 1] (shares V0) slices_S65536x2_S65536x1_0_1) (extractStridedSlice S65536x1 ![0, 0] (shares V0) slices_S65536x2_S65536x1_0_0)) : FVec Ideal S65536x1 .f32)⟩,
    ⟨S65536x126, (broadcastInDim S65536x126 ![] bcast_S_S65536x126 (constant S_ .f32 0x00000000#32) : FVec Ideal S65536x126 .f32)⟩]
    concatenates_S65536x1024_S65536x1_S65536x1_S65536x126_S65536x1152_d1

theorem result_at (r : Fin 65536) (l : Fin 1152) : result V0 (ix2 r l) = Layer.out (fun j => normed V0 (ix2 r j)) (row V0 r) l := by
  unfold result
  rw [joined, ordered, reversed, Layer.out]
  have e1 := weights_row V0 r true
  have e2 := weights_row V0 r false
  simp only [if_true, Bool.false_eq_true, if_false] at e1 e2
  rw [e1, e2]

end Cert.Ref

namespace Cert.Rows

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (c : Dev nD)
  (V0 : Valuation Cert.ReferenceIdeal.τ Cert.ReferenceIdeal.sig (Elt Ideal))

/-- The two programs are given the same arguments. -/
structure Same : Prop where
  h0 : @Eq (FVec Ideal S65536x512 .bf16) (V0 (Proc.devRef .tc Cert.ReferenceIdeal.main_arg0)) (m (c.tc.loc main_arg0))
  h1 : @Eq (FVec Ideal S65536x512 .f32) (V0 (Proc.devRef .tc Cert.ReferenceIdeal.main_arg1)) (m (c.tc.loc main_arg1))
  h2 : @Eq (FVec Ideal S65536x512 .bf16) (V0 (Proc.devRef .tc Cert.ReferenceIdeal.main_arg2)) (m (c.tc.loc main_arg2))
  h3 : @Eq (FVec Ideal S65536x512 .bf16) (V0 (Proc.devRef .tc Cert.ReferenceIdeal.main_arg3)) (m (c.tc.loc main_arg3))
  h4 : @Eq (FVec Ideal S65536x2048 .bf16) (V0 (Proc.devRef .tc Cert.ReferenceIdeal.main_arg4)) (m (c.tc.loc main_arg4))
  h5 : @Eq (FVec Ideal S65536x1024 .f32) (V0 (Proc.devRef .tc Cert.ReferenceIdeal.main_arg5)) (m (c.tc.loc main_arg5))
  h6 : @Eq (FVec Ideal S512x1024 .f32) (V0 (Proc.devRef .tc Cert.ReferenceIdeal.main_arg6)) (m (c.tc.loc main_arg6))
  h7 : @Eq (FVec Ideal S8x513 .f32) (V0 (Proc.devRef .tc Cert.ReferenceIdeal.main_arg7)) (m (c.tc.loc main_arg7))
  h8 : @Eq (FVec Ideal S512x1024 .f32) (V0 (Proc.devRef .tc Cert.ReferenceIdeal.main_arg8)) (m (c.tc.loc main_arg8))
  h9 : @Eq (FVec Ideal S1024x1024 .f32) (V0 (Proc.devRef .tc Cert.ReferenceIdeal.main_arg9)) (m (c.tc.loc main_arg9))
  h10 : @Eq (FVec Ideal S1024 .f32) (V0 (Proc.devRef .tc Cert.ReferenceIdeal.main_arg10)) (m (c.tc.loc main_arg10))
  h11 : @Eq (FVec Ideal S1024 .f32) (V0 (Proc.devRef .tc Cert.ReferenceIdeal.main_arg11)) (m (c.tc.loc main_arg11))
  h12 : @Eq (FVec Ideal S1024 .f32) (V0 (Proc.devRef .tc Cert.ReferenceIdeal.main_arg12)) (m (c.tc.loc main_arg12))
  h13 : @Eq (FVec Ideal S1024x16 .f32) (V0 (Proc.devRef .tc Cert.ReferenceIdeal.main_arg13)) (m (c.tc.loc main_arg13))
  h14 : @Eq (FVec Ideal S16 .f32) (V0 (Proc.devRef .tc Cert.ReferenceIdeal.main_arg14)) (m (c.tc.loc main_arg14))

variable {m c V0} (H : Same m c V0)
  (hq : ∀ r l, ∃ x : ℝ, Attn.queries m c (ix2 r l) = (x : EReal)) (hk : ∀ r l, ∃ x : ℝ, Attn.keys m c (ix2 r l) = (x : EReal))
  (hb : ∀ h x, ∃ y : ℝ, Attn.biases m c (ix2 h x) = (y : EReal))

theorem row_of (r : Fin 65536) : Leg.rowOf (Leg.tileOf r) ⟨(r : ℕ) % 512, by omega⟩ = r :=
  Fin.ext (show (r : ℕ) / 512 * 512 + (r : ℕ) % 512 = r by omega)

include H hq hk hb

theorem attention_eq (r : Fin 65536) (l : Fin 512) :
    Leg.attention m c (Leg.tileOf r) (ix2 ⟨(r : ℕ) % 512, by omega⟩ l) = Ref.attended V0 r l := by
  rw [Meet.attended_row, show Ref.queries V0 = Attn.queries m c from H.h1, show Meet.keys V0 = Attn.keys m c from H.h2, show Ref.biases V0 = Attn.biases m c from H.h7]
  refine Attn.attention_row m c hq hk hb r l _ fun j h => ?_
  refine (Meet.seen_of (Meet.values V0) r l ⟨(l : ℕ) % 64, by omega⟩ j h).trans ?_
  rw [show Meet.values V0 = Attn.values m c from H.h3]
  refine congrArg (Attn.values m c) (congrArg₂ ix2 rfl (Fin.ext ?_))
  show (l : ℕ) / 64 * 64 + (l : ℕ) % 64 = l
  omega

theorem mixed_eq (r : Fin 65536) : Block.mixedRow ⟨(r : ℕ) % 512, by omega⟩ (Leg.attention m c (Leg.tileOf r)) (iblk m c 0 (Leg.tileOf r)) (iblk m c 6 (Leg.tileOf r)) (iblk m c 7 (Leg.tileOf r))
    (iblk m c 8 (Leg.tileOf r)) (iblk m c 10 (Leg.tileOf r)) (iblk m c 11 (Leg.tileOf r)) (iblk m c 12 (Leg.tileOf r)) = fun j => Ref.mixed V0 (ix2 r j) := by
  refine Eq.trans ?_ (funext fun j => (Ref.mixed_at V0 r j).symm)
  refine Layer.mix_congr (fun d => ?_) (fun d => attention_eq H hq hk hb r d) (fun e => ?_) (fun e => ?_) (fun e => ?_) (fun d e => ?_) (fun d e => ?_) (fun d e => ?_) (fun e => ?_)
  · refine (Leg.block0 m c _ _ _).trans ?_
    rw [row_of]
    exact (congrFun H.h0 _).symm
  · refine (Leg.block6 m c _ _ _).trans ?_
    rw [row_of]
    exact (congrFun H.h4 _).symm
  · refine (Leg.block6 m c _ _ _).trans ?_
    rw [row_of]
    exact (congrFun H.h4 _).symm
  · refine (Leg.block7 m c _ _ _).trans ?_
    rw [row_of]
    exact (congrFun H.h5 _).symm
  · rw [Leg.block8]
    exact (Entry.read8 m c d e).trans (congrFun H.h6 _).symm
  · rw [Leg.block10]
    exact (Entry.read10 m c d e).trans (congrFun H.h8 _).symm
  · rw [Leg.block11]
    exact (Entry.read11 m c d e).trans (congrFun H.h9 _).symm
  · rw [Leg.block12]
    exact (Entry.read12 m c e).trans (congrFun H.h10 _).symm

theorem norm_eq (r : Fin 65536) : Block.normRow ⟨(r : ℕ) % 512, by omega⟩ (Leg.attention m c (Leg.tileOf r)) (iblk m c 0 (Leg.tileOf r)) (iblk m c 6 (Leg.tileOf r)) (iblk m c 7 (Leg.tileOf r))
    (iblk m c 8 (Leg.tileOf r)) (iblk m c 10 (Leg.tileOf r)) (iblk m c 11 (Leg.tileOf r)) (iblk m c 12 (Leg.tileOf r)) (iblk m c 13 (Leg.tileOf r)) (iblk m c 14 (Leg.tileOf r))
    = fun j => Ref.normed V0 (ix2 r j) := by
  refine Eq.trans ?_ (funext fun j => (Ref.norm_at V0 r j).symm)
  refine Layer.norm_congr (mixed_eq H hq hk hb r) (fun e => ?_) (fun e => ?_)
  · rw [Leg.block13]
    exact (Entry.read13 m c e).trans (congrFun H.h11 _).symm
  · rw [Leg.block14]
    exact (Entry.read14 m c e).trans (congrFun H.h12 _).symm

/-- The two result arrays are equal at every row and lane. -/
theorem row_eq (r : Fin 65536) (l : Fin 1152) : Leg.result m c (ix2 r l) = Ref.result V0 (ix2 r l) := by
  rw [Ref.result_at]
  refine Eq.trans (show Leg.result m c (ix2 r l) = Leg.block m c (Leg.tileOf r) (ix2 ⟨(r : ℕ) % 512, by omega⟩ l) from rfl) ?_
  unfold Leg.block
  refine (Block.written_at ⟨(r : ℕ) % 512, by omega⟩ _ _ _ _ _ _ _ _ _ _ _ _ l).trans ?_
  rw [norm_eq H hq hk hb r]
  refine congrArg (fun s => Layer.out (fun j => Ref.normed V0 (ix2 r j)) (Layer.grouped s) l) ?_
  refine Eq.trans ?_ (funext fun e => (Ref.logits_at V0 r e).symm)
  refine Layer.logits_congr rfl (fun d e => ?_) (fun e => ?_)
  · rw [Leg.block15]
    exact (Entry.read15 m c e d).trans (congrFun H.h13 _).symm
  · rw [Leg.block16]
    exact (Entry.read16 m c e).trans (congrFun H.h14 _).symm

theorem result_eq : Leg.result m c = Ref.result V0 := by
  funext y
  have e : y = ix2 (y 0) (y 1) := funext fun a => by fin_cases a <;> rfl
  rw [e]
  exact row_eq H hq hk hb (y 0) (y 1)

end Cert.Rows
-- ==== Proof.Finite.lean ====
/- The precondition read: the queries, the keys and the relative biases are real numbers. -/
module

public import proofs.«01_k».proof.Pre_finite_scores
public import Idealize.ShloMosaic.Lib.Pointwise
public import Idealize.ShloMosaic.Lib.Pipeline.ValueKit.Point

@[expose] public section

set_option maxRecDepth 100000

noncomputable section

namespace Cert.Finite

open Idealize.ShloMosaic Idealize.ShloMosaic.TcCoe Cert.Pre_finite_scores

/-- The side conditions of the precondition's function. -/
theorem facts : Cert.Pre_finite_scores.Facts where
  bcast_S_S65536x512 := by decide
  bitsLt_bf16_f32 := by decide
  bcast_S_S8x513 := by decide

attribute [local instance] facts

theorem infinity : Ideal.ofBits FTy.f32 0x7F800000#32 = ⊤ := by
  simp [Ideal.ofBits, Ideal.ieee]

theorem real_of (x : EReal) (h : Ideal.cmp .olt (max x (-x)) (Ideal.ofBits FTy.f32 0x7F800000#32) = 1#1) : ∃ r : ℝ, x = (r : EReal) := by
  rw [infinity] at h
  induction x with
  | coe r => exact ⟨r, rfl⟩
  | bot => exact absurd h (by simp [Ideal.cmp])
  | top => exact absurd h (by simp [Ideal.cmp])

variable (a0 : FVec Ideal S65536x512 .bf16) (a1 : FVec Ideal S65536x512 .f32) (a2 a3 : FVec Ideal S65536x512 .bf16) (a4 : FVec Ideal S65536x2048 .bf16) (a5 : FVec Ideal S65536x1024 .f32) (a6 : FVec Ideal S512x1024 .f32) (a7 : FVec Ideal S8x513 .f32) (a8 : FVec Ideal S512x1024 .f32) (a9 : FVec Ideal S1024x1024 .f32) (a10 a11 a12 : FVec Ideal S1024 .f32) (a13 : FVec Ideal S1024x16 .f32) (a14 : FVec Ideal S16 .f32)

theorem queries (h : (Cert.Pre_finite_scores.fn (F := Ideal) a0 a1 a2 a3 a4 a5 a6 a7 a8 a9 a10 a11 a12 a13 a14).1 = fun _ => 1#1) (r : Fin 65536) (l : Fin 512) :
    ∃ x : ℝ, a1 (ix2 r l) = (x : EReal) := real_of _ (congrFun h (ix2 r l))

theorem keys (h : (Cert.Pre_finite_scores.fn (F := Ideal) a0 a1 a2 a3 a4 a5 a6 a7 a8 a9 a10 a11 a12 a13 a14).2.1 = fun _ => 1#1) (r : Fin 65536) (l : Fin 512) :
    ∃ x : ℝ, a2 (ix2 r l) = (x : EReal) := real_of _ (congrFun h (ix2 r l))

theorem biases (h : (Cert.Pre_finite_scores.fn (F := Ideal) a0 a1 a2 a3 a4 a5 a6 a7 a8 a9 a10 a11 a12 a13 a14).2.2 = fun _ => 1#1) (r : Fin 8) (l : Fin 513) :
    ∃ x : ℝ, a7 (ix2 r l) = (x : EReal) := real_of _ (congrFun h (ix2 r l))

end Cert.Finite
-- ==== Proof.ExpertBlock.lean ====
/- One token's experts over the extended reals, as functions of that token's row, and what the kernel of the experts writes for
   a tile in terms of them. -/
module

public import proofs.«01_k».proof.Proof.Gen.ExpertsIdeal.Frame
public import proofs.«01_k».proof.Proof.Layer
public import Idealize.ShloMosaic.Lib.Pipeline.ReadBack
public import Idealize.ShloMosaic.Lib.Pipeline.ValueKit.Point
public import Idealize.ShloMosaic.Lib.Pipeline.ValueKit.Tiles

@[expose] public section

set_option maxRecDepth 100000
set_option maxHeartbeats 4000000

noncomputable section

namespace Cert.Expert

open Idealize.ShloMosaic

/-- The product of a token's row with an expert's first weights. -/
def inner (x : Fin 1024 → EReal) (w : Fin 1024 → Fin 1024 → EReal) (k : Fin 1024) : EReal := ∑ d, x d * w d k

/-- A gate's activation: the gate by its logistic. -/
def silu (g : EReal) : EReal := g * Ideal.div 1 (1 + Ideal.exp (0 - g))

/-- A token's row through an expert: the gated half of the first product, through the second weights. -/
def ffn (x : Fin 1024 → EReal) (w : Fin 1024 → Fin 1024 → EReal) (v : Fin 512 → Fin 1024 → EReal) (j : Fin 1024) : EReal :=
  ∑ k : Fin 512, silu (inner x w ⟨k, by omega⟩) * inner x w ⟨512 + k, by omega⟩ * v k j

/-- A token's row with the outputs of its two experts, weighted, before the layer norm. -/
def sum (x : Fin 1024 → EReal) (p q : EReal) (w w' : Fin 1024 → Fin 1024 → EReal) (v v' : Fin 512 → Fin 1024 → EReal) (j : Fin 1024) : EReal :=
  Ideal.ofBits FTy.f32 1071072509#32 * x j + p * ffn x w v j + q * ffn x w' v' j

end Cert.Expert

namespace Cert.ExpertBlock

open Cert.ExpertsIdeal Cert.ExpertsIdeal.Gen Idealize.ShloMosaic Idealize.ShloMosaic.TcCoe Idealize.SL.Sem

/-- What is written for a tile of tokens that is in use. -/
def written (x : Vec Ideal S256x1152 .f32) (w w' : Vec Ideal S1x1024x1024 .bf16) (v v' : Vec Ideal S1x512x1024 .bf16) (g b : Vec Ideal S1x1024 .f32)
    (r : Fin 256) (j : Fin 1024) : EReal :=
  Layer.norm (Expert.sum (fun d => x (ix2 r ⟨d, by omega⟩)) (x (ix2 r 1024)) (x (ix2 r 1025)) (fun d k => w (ix3 0 d k)) (fun d k => w' (ix3 0 d k))
    (fun k e => v (ix3 0 k e)) fun k e => v' (ix3 0 k e)) (fun d => g (ix2 0 d)) (fun d => b (ix2 0 d)) j

variable (y : Vec Ideal S256x1024 .f32) (w w' : Vec Ideal S1x1024x1024 .bf16) (v v' : Vec Ideal S1x512x1024 .bf16) (p q : Vec Ideal S256x1 .f32)
  (g b : Vec Ideal S1x1024 .f32) (r : Fin 256) (j : Fin 1024)

theorem first_at : k0_pay4 y w v p (ix2 r j) = Ideal.ofBits FTy.f32 1071072509#32 * y (ix2 r j)
    + p (ix2 r 0) * Expert.ffn (fun d => y (ix2 r d)) (fun d k => w (ix3 0 d k)) (fun k e => v (ix3 0 k e)) j := by
  pointwise [k0_pay4, k0_pay3]
  rfl

theorem norm_at (u : FVec Ideal S256x1024 .f32) : k0_pay2 u (k0_pay6 y w') (k0_pay7 y w') (k0_pay8 y w') (k0_pay9 (F := Ideal)) v' q g b (ix2 r j)
    = Layer.norm (fun j => u (ix2 r j) + q (ix2 r 0) * Expert.ffn (fun d => y (ix2 r d)) (fun d k => w' (ix3 0 d k)) (fun k e => v' (ix3 0 k e)) j)
      (fun d => g (ix2 0 d)) (fun d => b (ix2 0 d)) j := by
  pointwise [k0_pay2, k0_pay3, k0_pay5, k0_pay6, k0_pay7, k0_pay8, k0_pay9]
  rfl

/-- The word the kernel reads for a tile is that of its block. -/
theorem word_eq (arg3 : Memref sig .tc .smem S1x1x1 .i32) (harg3 : arg3.IsWhole) (x0 : Vec Ideal S1x1x1 .i32) :
    (arg3.view.readAt (Elt Ideal) (Rect.unit (s := S1x1x1) ![0, 0, 0] S1x1x1.size inb_S1x1x1_S1x1x1_0_0_0).toLoadRect (harg3.unread x0) (Shape.Idx.first (numel1_S1x1x1.symm ▸ Nat.one_pos))) = x0 (ix3 0 0 0) := by
  rw [View.readAt_eq_ld, Memref.IsWhole.read_unread]
  refine congrArg x0 (funext fun a => ?_)
  fin_cases a <;> rfl

/-- A tile that is in use: the two experts and the layer norm. -/
theorem written_A (c : Dev nD) (i : grid0.Coords) (arg3 : Memref sig .tc .smem S1x1x1 .i32) (harg3 : arg3.IsWhole) (arg4 : Memref sig .tc .vmem S256x1152 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole)
    (x0 : Vec Ideal S1x1x1 .i32) (x1 : Vec Ideal S256x1152 .f32) (x2 : Vec Ideal S1x1024x1024 .bf16) (x3 : Vec Ideal S1x1024x1024 .bf16) (x4 : Vec Ideal S1x512x1024 .bf16) (x5 : Vec Ideal S1x512x1024 .bf16) (x6 : Vec Ideal S1x1024 .f32) (x7 : Vec Ideal S1x1024 .f32) (xt0 : TbBuf0 (F := Ideal) c tbM0_0) (xt1 : TbBuf0 (F := Ideal) c tbM0_1)
    (hc0 : cond0_0 i (arg3.view.readAt (Elt Ideal) (Rect.unit (s := S1x1x1) ![0, 0, 0] S1x1x1.size inb_S1x1x1_S1x1x1_0_0_0).toLoadRect (harg3.unread x0) (Shape.Idx.first (numel1_S1x1x1.symm ▸ Nat.one_pos)))) (r : Fin 256) (j : Fin 1024) :
    out0_A_8 c i arg3 harg3 arg4 harg4 arg5 harg5 arg6 harg6 arg7 harg7 arg8 harg8 arg9 harg9 arg10 harg10 arg11 harg11 x0 x1 x2 x3 x4 x5 x6 x7 xt0 xt1 hc0 (ix2 r j) = written x1 x2 x3 x4 x5 x6 x7 r j := by
  frame_open
  simp (disch := decide) only [↓ View.readCov_skip, ↓ View.readCov_cons_toLoadRect, View.readAt_eq_ld, Memref.IsWhole.read_unread, View.ld_unit_lit', View.read_writes_junk_eq_canon, View.canon_cons_unit_lit']
  refine (norm_at _ x3 x5 _ x6 x7 r j _).trans ?_
  simp only [first_at]
  have e0 (d : Fin 1024) : View.ld (Val := Elt Ideal) (S := S256x1152) (e' := .f32) x1 (Rect.unit ![0, 0] ![256, 1024] inb_S256x1152_S256x1024_0_0) (ix2 r d) = x1 (ix2 r ⟨d, by omega⟩) :=
    View.ld_unit_apply_of (Val := Elt Ideal) (e := .f32) (S := S256x1152) x1 _ _ _ _ _ fun a => by fin_cases a <;> simp
  have e1 : View.ld (Val := Elt Ideal) (S := S256x1152) (e' := .f32) x1 (Rect.unit ![0, 1024] ![256, 1] inb_S256x1152_S256x1_0_1024) (ix2 r 0) = x1 (ix2 r 1024) :=
    View.ld_unit_apply_of (Val := Elt Ideal) (e := .f32) (S := S256x1152) x1 _ _ _ _ _ fun a => by fin_cases a <;> simp
  have e2 : View.ld (Val := Elt Ideal) (S := S256x1152) (e' := .f32) x1 (Rect.unit ![0, 1025] ![256, 1] inb_S256x1152_S256x1_0_1025) (ix2 r 0) = x1 (ix2 r 1025) :=
    View.ld_unit_apply_of (Val := Elt Ideal) (e := .f32) (S := S256x1152) x1 _ _ _ _ _ fun a => by fin_cases a <;> simp
  unfold written Expert.sum
  simp only [e0, e1, e2]

/-- A tile that is not in use: zero. -/
theorem written_B (c : Dev nD) (i : grid0.Coords) (arg3 : Memref sig .tc .smem S1x1x1 .i32) (harg3 : arg3.IsWhole) (arg4 : Memref sig .tc .vmem S256x1152 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole)
    (x0 : Vec Ideal S1x1x1 .i32) (x1 : Vec Ideal S256x1152 .f32) (x2 : Vec Ideal S1x1024x1024 .bf16) (x3 : Vec Ideal S1x1024x1024 .bf16) (x4 : Vec Ideal S1x512x1024 .bf16) (x5 : Vec Ideal S1x512x1024 .bf16) (x6 : Vec Ideal S1x1024 .f32) (x7 : Vec Ideal S1x1024 .f32) (xt0 : TbBuf0 (F := Ideal) c tbM0_0) (xt1 : TbBuf0 (F := Ideal) c tbM0_1)
    (hc0 : ¬cond0_0 i (arg3.view.readAt (Elt Ideal) (Rect.unit (s := S1x1x1) ![0, 0, 0] S1x1x1.size inb_S1x1x1_S1x1x1_0_0_0).toLoadRect (harg3.unread x0) (Shape.Idx.first (numel1_S1x1x1.symm ▸ Nat.one_pos)))) (r : Fin 256) (j : Fin 1024) :
    out0_B_8 c i arg3 harg3 arg4 harg4 arg5 harg5 arg6 harg6 arg7 harg7 arg8 harg8 arg9 harg9 arg10 harg10 arg11 harg11 x0 x1 x2 x3 x4 x5 x6 x7 xt0 xt1 hc0 (ix2 r j) = 0 := by
  frame_open
  simp (disch := decide) only [↓ View.readCov_skip, ↓ View.readCov_cons_toLoadRect, View.readAt_eq_ld, Memref.IsWhole.read_unread, View.ld_unit_lit', View.read_writes_junk_eq_canon, View.canon_cons_unit_lit']
  pointwise [k0_pay1]

end Cert.ExpertBlock
-- ==== Proof.Pairs.lean ====
/- The precondition of the experts read: every tile names two different experts; and the blocks of the
   weights that a tile names lie in the arrays. -/
module

public import proofs.«01_k».proof.Defs
public import proofs.«01_k».proof.Proof.Gen.Experts.Frame
public import proofs.«01_k».proof.Proof.Gen.ExpertsIdeal.Frame
public import proofs.«01_k».proof.Pre_two_experts
public import Idealize.ShloMosaic.Lib.Pointwise
public import Idealize.ShloMosaic.Lib.WordCmp
public import Idealize.ShloMosaic.Lib.Pipeline.ValueKit.Point

@[expose] public section

set_option maxRecDepth 100000

noncomputable section

namespace Cert.Pairs

open Idealize.ShloMosaic Idealize.ShloMosaic.TcCoe

/-- The side condition of the precondition's function. -/
theorem facts : Cert.Pre_two_experts.Facts where
  bcast_S_S280 := by decide

attribute [local instance] facts

/-- The two experts of a tile, from the five comparisons of their numbers. -/
theorem two_of (x y : BitVec 32)
    (h : IntOp.andi (IntOp.andi (IntOp.andi (IntOp.andi (IntOp.cmpi .sge x 0#32) (IntOp.cmpi .slt x 16#32)) (IntOp.cmpi .sge y 0#32)) (IntOp.cmpi .slt y 16#32))
      (IntOp.cmpi .ne x y) = 1#1) : x.toNat < 16 ∧ y.toNat < 16 ∧ x.toNat ≠ y.toNat := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod, bne_iff_ne, ne_eq, ← BitVec.toNat_inj] at h
  omega

section
open Cert.Pre_two_experts
variable {F : FTy → Type} [FloatOps F]

/-- Under the precondition the two experts of a tile are among the sixteen, and different. -/
theorem two (a0 a1 a2 : IVec S280 32) (a3 : FVec F S71680x1152 .f32) (a4 : FVec F S16x1024x1024 .f32)
    (a5 : FVec F S16x512x1024 .f32) (a6 a7 : FVec F S1024 .f32)
    (h : Cert.Pre_two_experts.fn a0 a1 a2 a3 a4 a5 a6 a7 = fun _ => 1#1) (i : S280.Idx) :
    (a0 i).toNat < 16 ∧ (a1 i).toNat < 16 ∧ (a0 i).toNat ≠ (a1 i).toNat :=
  two_of _ _ (congrFun h i)
end

section
open Cert.Experts Cert.Experts.Gen

/-- The blocks named by the tables lie in the weights. -/
theorem ok_of_pre (m : (ℓ : Loc nD τ sig) → Buf (Elt Bits) ℓ) (h : Cert.Pre_Experts m) : Ok (F := Bits) m := by
  have w := two _ _ _ _ _ _ _ _ (h 0)
  have lo : ∀ i, (tbl m 0 i).toNat < 16 := fun i => (w i).1
  have hi : ∀ i, (tbl m 1 i).toNat < 16 := fun i => (w i).2.1
  refine ⟨fun i => ⟨?_, .inr (.inr ⟨by decide, rfl, rfl, rfl⟩)⟩, fun i => ⟨?_, .inr (.inr ⟨by decide, rfl, rfl, rfl⟩)⟩,
    fun i => ⟨?_, .inr (.inr ⟨by decide, rfl, rfl, rfl⟩)⟩, fun i => ⟨?_, .inr (.inr ⟨by decide, rfl, rfl, rfl⟩)⟩⟩
  · intro a
    match a with
    | ⟨0, _⟩ => exact (Nat.mul_one _).trans_le (lo _)
    | ⟨1, _⟩ => exact le_refl 1024
    | ⟨2, _⟩ => exact le_refl 1024
  · intro a
    match a with
    | ⟨0, _⟩ => exact (Nat.mul_one _).trans_le (hi _)
    | ⟨1, _⟩ => exact le_refl 1024
    | ⟨2, _⟩ => exact le_refl 1024
  · intro a
    match a with
    | ⟨0, _⟩ => exact (Nat.mul_one _).trans_le (lo _)
    | ⟨1, _⟩ => exact le_refl 512
    | ⟨2, _⟩ => exact le_refl 1024
  · intro a
    match a with
    | ⟨0, _⟩ => exact (Nat.mul_one _).trans_le (hi _)
    | ⟨1, _⟩ => exact le_refl 512
    | ⟨2, _⟩ => exact le_refl 1024
end

section
open Cert.ExpertsIdeal Cert.ExpertsIdeal.Gen
variable (m : (ℓ : Loc nD τ sig) → Buf (Elt Ideal) ℓ) (h : Cert.Pre_ExpertsIdeal m)
include h

theorem two_ideal (i : S280.Idx) : (tbl m 0 i).toNat < 16 ∧ (tbl m 1 i).toNat < 16 ∧ (tbl m 0 i).toNat ≠ (tbl m 1 i).toNat :=
  two _ _ _ _ _ _ _ _ (h 0) i

/-- The same over the extended reals. -/
theorem ok_of_pre_ideal : Ok (F := Ideal) m := by
  have w := two_ideal m h
  have lo : ∀ i, (tbl m 0 i).toNat < 16 := fun i => (w i).1
  have hi : ∀ i, (tbl m 1 i).toNat < 16 := fun i => (w i).2.1
  refine ⟨fun i => ⟨?_, .inr (.inr ⟨by decide, rfl, rfl, rfl⟩)⟩, fun i => ⟨?_, .inr (.inr ⟨by decide, rfl, rfl, rfl⟩)⟩,
    fun i => ⟨?_, .inr (.inr ⟨by decide, rfl, rfl, rfl⟩)⟩, fun i => ⟨?_, .inr (.inr ⟨by decide, rfl, rfl, rfl⟩)⟩⟩
  · intro a
    match a with
    | ⟨0, _⟩ => exact (Nat.mul_one _).trans_le (lo _)
    | ⟨1, _⟩ => exact le_refl 1024
    | ⟨2, _⟩ => exact le_refl 1024
  · intro a
    match a with
    | ⟨0, _⟩ => exact (Nat.mul_one _).trans_le (hi _)
    | ⟨1, _⟩ => exact le_refl 1024
    | ⟨2, _⟩ => exact le_refl 1024
  · intro a
    match a with
    | ⟨0, _⟩ => exact (Nat.mul_one _).trans_le (lo _)
    | ⟨1, _⟩ => exact le_refl 512
    | ⟨2, _⟩ => exact le_refl 1024
  · intro a
    match a with
    | ⟨0, _⟩ => exact (Nat.mul_one _).trans_le (hi _)
    | ⟨1, _⟩ => exact le_refl 512
    | ⟨2, _⟩ => exact le_refl 1024
end

end Cert.Pairs
-- ==== Proof.ExpertLeg.lean ====
/- The result array of the experts' kernel, from the blocks it is given. -/
module

public import proofs.«01_k».proof.Proof.ExpertBlock
public import proofs.«01_k».proof.Proof.Pairs
public import Idealize.ShloMosaic.Lib.Pipeline.Value
public import Idealize.ShloMosaic.Lib.Pipeline.ValueKit.Point

@[expose] public section

set_option maxRecDepth 16384
set_option maxHeartbeats 1000000

noncomputable section

namespace Cert.ExpertLeg

open Cert.ExpertsIdeal Cert.ExpertsIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (hO : Ok m)

theorem offset : ∀ t : Fin grid0.N, k0_off1 (grid0.coords t) = ![t.val] := by decide +kernel

/-- A tile as an index of the tables. -/
def tile (t : Fin (cfgM m hO).N) : Fin 280 := ⟨t.val, t.isLt⟩

/-- The word a table holds for a tile. -/
theorem entry (pf : S280.Idx → BitVec 32) (t : Fin grid0.N) (x : S280.Idx) (hx : (x 0 : ℕ) = k0_off1 (grid0.coords t) 0 + 1 * 0) :
    ![(pf x).toNat, 0, 0] = ![(pf (ix1 (⟨t.val, t.isLt⟩ : Fin 280))).toNat, 0, 0] := by
  refine congrArg (fun x : S280.Idx => ![(pf x).toNat, 0, 0]) (funext fun a => Fin.ext ?_)
  match a with
  | ⟨0, _⟩ =>
    refine hx.trans ?_
    rw [offset t]
    rfl

theorem low (pf : pre0.Contents (Elt Ideal)) (t : Fin grid0.N) : cc0_transform_2 (F := Ideal) k0_off1_inb numel1_S1 pf (grid0.coords t) = ![(pf 0 (ix1 (⟨t.val, t.isLt⟩ : Fin 280))).toNat, 0, 0] := by
  unfold cc0_transform_2
  exact entry (pf 0) t _ rfl
theorem high (pf : pre0.Contents (Elt Ideal)) (t : Fin grid0.N) : cc0_transform_3 (F := Ideal) k0_off1_inb numel1_S1 pf (grid0.coords t) = ![(pf 1 (ix1 (⟨t.val, t.isLt⟩ : Fin 280))).toNat, 0, 0] := by
  unfold cc0_transform_3
  exact entry (pf 1) t _ rfl
theorem low' (pf : pre0.Contents (Elt Ideal)) (t : Fin grid0.N) : cc0_transform_4 (F := Ideal) k0_off1_inb numel1_S1 pf (grid0.coords t) = ![(pf 0 (ix1 (⟨t.val, t.isLt⟩ : Fin 280))).toNat, 0, 0] := by
  unfold cc0_transform_4
  exact entry (pf 0) t _ rfl
theorem high' (pf : pre0.Contents (Elt Ideal)) (t : Fin grid0.N) : cc0_transform_5 (F := Ideal) k0_off1_inb numel1_S1 pf (grid0.coords t) = ![(pf 1 (ix1 (⟨t.val, t.isLt⟩ : Fin 280))).toNat, 0, 0] := by
  unfold cc0_transform_5
  exact entry (pf 1) t _ rfl

theorem index0 (t : Fin (cfgM m hO).N) : ((cfgM m hO).win 0).index t = ![t.val, 0, 0] := (by decide +kernel : ∀ t : Fin grid0.N, cc0_transform_0 (grid0.coords t) = ![t.val, 0, 0]) t
theorem index1 (t : Fin (cfgM m hO).N) : ((cfgM m hO).win 1).index t = ![t.val, 0] := (by decide +kernel : ∀ t : Fin grid0.N, cc0_transform_1 (grid0.coords t) = ![t.val, 0]) t
theorem index2 (t : Fin (cfgM m hO).N) : ((cfgM m hO).win 2).index t = ![(tbl m 0 (ix1 (tile m hO t))).toNat, 0, 0] := low (tbl m) t
theorem index3 (t : Fin (cfgM m hO).N) : ((cfgM m hO).win 3).index t = ![(tbl m 1 (ix1 (tile m hO t))).toNat, 0, 0] := high (tbl m) t
theorem index4 (t : Fin (cfgM m hO).N) : ((cfgM m hO).win 4).index t = ![(tbl m 0 (ix1 (tile m hO t))).toNat, 0, 0] := low' (tbl m) t
theorem index5 (t : Fin (cfgM m hO).N) : ((cfgM m hO).win 5).index t = ![(tbl m 1 (ix1 (tile m hO t))).toNat, 0, 0] := high' (tbl m) t
theorem index6 (t : Fin (cfgM m hO).N) : ((cfgM m hO).win 6).index t = ![0, 0] := rfl
theorem index7 (t : Fin (cfgM m hO).N) : ((cfgM m hO).win 7).index t = ![0, 0] := rfl
theorem index8 (t : Fin (cfgM m hO).N) : ((cfgM m hO).win 8).index t = ![t.val, 0] := (by decide +kernel : ∀ t : Fin grid0.N, cc0_transform_8 (grid0.coords t) = ![t.val, 0]) t

/-! ## The arrays at the kernel's entry -/

section
variable (c : Dev nD)

theorem entry0 (e : Fin 16) (d k : Fin 1024) : V m c main_v0 (ix3 e d k) = m (c.tc.loc main_arg4) (ix3 e d k) := by
  unfold V; entry_read; pointwise
theorem entry1 (e : Fin 16) (k : Fin 512) (j : Fin 1024) : V m c main_v1 (ix3 e k j) = m (c.tc.loc main_arg5) (ix3 e k j) := by
  unfold V; entry_read; pointwise
theorem entry2 (j : Fin 1024) : V m c main_v2 (ix2 (0 : Fin 1) j) = m (c.tc.loc main_arg6) (ix1 j) := by
  unfold V; entry_read; pointwise
theorem entry3 (j : Fin 1024) : V m c main_v3 (ix2 (0 : Fin 1) j) = m (c.tc.loc main_arg7) (ix1 j) := by
  unfold V; entry_read; pointwise
theorem entry4 (t : Fin 280) : V m c main_v4 (ix3 t (0 : Fin 1) (0 : Fin 1)) = m (c.tc.loc main_arg2) (ix1 t) := by
  unfold V; entry_read; pointwise
end

/-! ## The blocks the kernel is given, read from the arrays -/

theorem placed0 (t : Fin (cfgM m hO).N) : (((cfgM m hO).win 0).rect t).emb (ix3 (0 : Fin 1) (0 : Fin 1) (0 : Fin 1)) = (ix3 (tile m hO t) (0 : Fin 1) (0 : Fin 1) : S280x1x1.Idx) := by
  have e (a : Fin 3) := Pipeline.Window.rect_emb_val ((cfgM m hO).win 0) t (ix3 (0 : Fin 1) (0 : Fin 1) (0 : Fin 1) : S1x1x1.Idx) a rfl
  rw [index0 m hO t] at e
  refine funext fun a => Fin.ext ((e a).trans ?_)
  match a with
  | ⟨0, _⟩ => exact Nat.mul_one _
  | ⟨1, _⟩ => rfl
  | ⟨2, _⟩ => rfl

theorem placed1 (t : Fin (cfgM m hO).N) (i : Fin 256) (l : Fin 1152) (r : Fin 71680) (hr : (r : ℕ) = t.val * 256 + i) :
    (((cfgM m hO).win 1).rect t).emb (ix2 i l) = (ix2 r l : S71680x1152.Idx) := by
  have e (a : Fin 2) := Pipeline.Window.rect_emb_val ((cfgM m hO).win 1) t (ix2 i l : S256x1152.Idx) a rfl
  rw [index1 m hO t] at e
  refine funext fun a => Fin.ext ((e a).trans ?_)
  match a with
  | ⟨0, _⟩ => exact hr.symm
  | ⟨1, _⟩ => exact Nat.zero_add _

theorem placed2 (t : Fin (cfgM m hO).N) (d : Fin 1024) (k : Fin 1024) (e : Fin 16) (he : (tbl m 0 (ix1 (tile m hO t))).toNat = (e : ℕ)) :
    (((cfgM m hO).win 2).rect t).emb (ix3 (0 : Fin 1) d k) = (ix3 e d k : S16x1024x1024.Idx) := by
  have h (a : Fin 3) := Pipeline.Window.rect_emb_val ((cfgM m hO).win 2) t (ix3 (0 : Fin 1) d k : S1x1024x1024.Idx) a rfl
  rw [index2 m hO t, he] at h
  refine funext fun a => Fin.ext ((h a).trans ?_)
  match a with
  | ⟨0, _⟩ => exact Nat.mul_one _
  | ⟨1, _⟩ => exact Nat.zero_add _
  | ⟨2, _⟩ => exact Nat.zero_add _

theorem placed3 (t : Fin (cfgM m hO).N) (d : Fin 1024) (k : Fin 1024) (e : Fin 16) (he : (tbl m 1 (ix1 (tile m hO t))).toNat = (e : ℕ)) :
    (((cfgM m hO).win 3).rect t).emb (ix3 (0 : Fin 1) d k) = (ix3 e d k : S16x1024x1024.Idx) := by
  have h (a : Fin 3) := Pipeline.Window.rect_emb_val ((cfgM m hO).win 3) t (ix3 (0 : Fin 1) d k : S1x1024x1024.Idx) a rfl
  rw [index3 m hO t, he] at h
  refine funext fun a => Fin.ext ((h a).trans ?_)
  match a with
  | ⟨0, _⟩ => exact Nat.mul_one _
  | ⟨1, _⟩ => exact Nat.zero_add _
  | ⟨2, _⟩ => exact Nat.zero_add _

theorem placed4 (t : Fin (cfgM m hO).N) (d : Fin 512) (k : Fin 1024) (e : Fin 16) (he : (tbl m 0 (ix1 (tile m hO t))).toNat = (e : ℕ)) :
    (((cfgM m hO).win 4).rect t).emb (ix3 (0 : Fin 1) d k) = (ix3 e d k : S16x512x1024.Idx) := by
  have h (a : Fin 3) := Pipeline.Window.rect_emb_val ((cfgM m hO).win 4) t (ix3 (0 : Fin 1) d k : S1x512x1024.Idx) a rfl
  rw [index4 m hO t, he] at h
  refine funext fun a => Fin.ext ((h a).trans ?_)
  match a with
  | ⟨0, _⟩ => exact Nat.mul_one _
  | ⟨1, _⟩ => exact Nat.zero_add _
  | ⟨2, _⟩ => exact Nat.zero_add _

theorem placed5 (t : Fin (cfgM m hO).N) (d : Fin 512) (k : Fin 1024) (e : Fin 16) (he : (tbl m 1 (ix1 (tile m hO t))).toNat = (e : ℕ)) :
    (((cfgM m hO).win 5).rect t).emb (ix3 (0 : Fin 1) d k) = (ix3 e d k : S16x512x1024.Idx) := by
  have h (a : Fin 3) := Pipeline.Window.rect_emb_val ((cfgM m hO).win 5) t (ix3 (0 : Fin 1) d k : S1x512x1024.Idx) a rfl
  rw [index5 m hO t, he] at h
  refine funext fun a => Fin.ext ((h a).trans ?_)
  match a with
  | ⟨0, _⟩ => exact Nat.mul_one _
  | ⟨1, _⟩ => exact Nat.zero_add _
  | ⟨2, _⟩ => exact Nat.zero_add _

theorem placed6 (t : Fin (cfgM m hO).N) (j : Fin 1024) : (((cfgM m hO).win 6).rect t).emb (ix2 (0 : Fin 1) j) = (ix2 (0 : Fin 1) j : S1x1024.Idx) := by
  have e (a : Fin 2) := Pipeline.Window.rect_emb_val ((cfgM m hO).win 6) t (ix2 (0 : Fin 1) j : S1x1024.Idx) a rfl
  rw [index6 m hO t] at e
  refine funext fun a => Fin.ext ((e a).trans ?_)
  match a with
  | ⟨0, _⟩ => rfl
  | ⟨1, _⟩ => exact Nat.zero_add _

theorem placed7 (t : Fin (cfgM m hO).N) (j : Fin 1024) : (((cfgM m hO).win 7).rect t).emb (ix2 (0 : Fin 1) j) = (ix2 (0 : Fin 1) j : S1x1024.Idx) := by
  have e (a : Fin 2) := Pipeline.Window.rect_emb_val ((cfgM m hO).win 7) t (ix2 (0 : Fin 1) j : S1x1024.Idx) a rfl
  rw [index7 m hO t] at e
  refine funext fun a => Fin.ext ((e a).trans ?_)
  match a with
  | ⟨0, _⟩ => rfl
  | ⟨1, _⟩ => exact Nat.zero_add _

theorem placed8 (t : Fin (cfgM m hO).N) (i : Fin 256) (l : Fin 1024) (r : Fin 71680) (hr : (r : ℕ) = t.val * 256 + i) :
    (((cfgM m hO).win 8).rect t).emb (ix2 i l) = (ix2 r l : S71680x1024.Idx) := by
  have e (a : Fin 2) := Pipeline.Window.rect_emb_val ((cfgM m hO).win 8) t (ix2 i l : S256x1024.Idx) a rfl
  rw [index8 m hO t] at e
  refine funext fun a => Fin.ext ((e a).trans ?_)
  match a with
  | ⟨0, _⟩ => exact hr.symm
  | ⟨1, _⟩ => exact Nat.zero_add _

theorem block0 (c : Dev nD) (t : Fin (cfgM m hO).N) : iblk m hO c 0 t (ix3 (0 : Fin 1) (0 : Fin 1) (0 : Fin 1)) = m (c.tc.loc main_arg2) (ix1 (tile m hO t)) :=
  (congrArg (V m c main_v4) (placed0 m hO t)).trans (entry4 m c _)

theorem block1 (c : Dev nD) (t : Fin (cfgM m hO).N) (i : Fin 256) (l : Fin 1152) (r : Fin 71680) (hr : (r : ℕ) = t.val * 256 + i) :
    iblk m hO c 1 t (ix2 i l) = m (c.tc.loc main_arg3) (ix2 r l) := by
  rw [← V_main_arg3 m c]
  exact congrArg (V m c main_arg3) (placed1 m hO t i l r hr)

theorem block2 (c : Dev nD) (t : Fin (cfgM m hO).N) (d : Fin 1024) (k : Fin 1024) (e : Fin 16) (he : (tbl m 0 (ix1 (tile m hO t))).toNat = (e : ℕ)) :
    iblk m hO c 2 t (ix3 (0 : Fin 1) d k) = m (c.tc.loc main_arg4) (ix3 e d k) :=
  (congrArg (V m c main_v0) (placed2 m hO t d k e he)).trans (entry0 m c e d k)

theorem block3 (c : Dev nD) (t : Fin (cfgM m hO).N) (d : Fin 1024) (k : Fin 1024) (e : Fin 16) (he : (tbl m 1 (ix1 (tile m hO t))).toNat = (e : ℕ)) :
    iblk m hO c 3 t (ix3 (0 : Fin 1) d k) = m (c.tc.loc main_arg4) (ix3 e d k) :=
  (congrArg (V m c main_v0) (placed3 m hO t d k e he)).trans (entry0 m c e d k)

theorem block4 (c : Dev nD) (t : Fin (cfgM m hO).N) (d : Fin 512) (k : Fin 1024) (e : Fin 16) (he : (tbl m 0 (ix1 (tile m hO t))).toNat = (e : ℕ)) :
    iblk m hO c 4 t (ix3 (0 : Fin 1) d k) = m (c.tc.loc main_arg5) (ix3 e d k) :=
  (congrArg (V m c main_v1) (placed4 m hO t d k e he)).trans (entry1 m c e d k)

theorem block5 (c : Dev nD) (t : Fin (cfgM m hO).N) (d : Fin 512) (k : Fin 1024) (e : Fin 16) (he : (tbl m 1 (ix1 (tile m hO t))).toNat = (e : ℕ)) :
    iblk m hO c 5 t (ix3 (0 : Fin 1) d k) = m (c.tc.loc main_arg5) (ix3 e d k) :=
  (congrArg (V m c main_v1) (placed5 m hO t d k e he)).trans (entry1 m c e d k)

theorem block6 (c : Dev nD) (t : Fin (cfgM m hO).N) (j : Fin 1024) : iblk m hO c 6 t (ix2 (0 : Fin 1) j) = m (c.tc.loc main_arg6) (ix1 j) :=
  (congrArg (V m c main_v2) (placed6 m hO t j)).trans (entry2 m c j)

theorem block7 (c : Dev nD) (t : Fin (cfgM m hO).N) (j : Fin 1024) : iblk m hO c 7 t (ix2 (0 : Fin 1) j) = m (c.tc.loc main_arg7) (ix1 j) :=
  (congrArg (V m c main_v3) (placed7 m hO t j)).trans (entry3 m c j)

/-! ## The result array -/

/-- The test the kernel makes of a word: is it one? -/
theorem cond_iff (i : grid0.Coords) (v : BitVec 32) : cond0_0 i v ↔ v = 1#32 := by
  unfold cond0_0
  by_cases h : v = 1#32
  · subst h; exact ⟨fun _ => rfl, fun _ => by decide⟩
  · refine ⟨fun e => absurd e ?_, fun e => absurd e h⟩
    have : Scalar.cmpi .eq v 1#32 = 0#1 := by
      simp [Scalar.cmpi, IntOp.cmpi, beq_eq_false_iff_ne.2 h]
    rw [this]; decide

/-- What is left in a tile's block of the result, at a row and a column, over the blocks given there. -/
def left (x0 : Vec Ideal S1x1x1 .i32) (x : Vec Ideal S256x1152 .f32) (w w' : Vec Ideal S1x1024x1024 .bf16) (v v' : Vec Ideal S1x512x1024 .bf16)
    (g b : Vec Ideal S1x1024 .f32) (r : Fin 256) (j : Fin 1024) : EReal :=
  if (x0 (ix3 0 0 0) : BitVec 32) = 1#32 then ExpertBlock.written x w w' v v' g b r j else 0

theorem left_eq (x0 : Vec Ideal S1x1x1 .i32) (x : Vec Ideal S256x1152 .f32) (w w' : Vec Ideal S1x1024x1024 .bf16) (v v' : Vec Ideal S1x512x1024 .bf16)
    (g b : Vec Ideal S1x1024 .f32) (r : Fin 256) (j : Fin 1024) (u : BitVec 32) (n : EReal) (hu : (x0 (ix3 0 0 0) : BitVec 32) = u)
    (hn : ExpertBlock.written x w w' v v' g b r j = n) : left x0 x w w' v v' g b r j = if u = 1#32 then n else 0 := by
  unfold left
  rw [hu, hn]

/-- What tile `t` leaves in its block of the result, at a row and a column. -/
def block (c : Dev nD) (t : Fin (cfgM m hO).N) (r : Fin 256) (j : Fin 1024) : EReal :=
  left (iblk m hO c 0 t) (iblk m hO c 1 t) (iblk m hO c 2 t) (iblk m hO c 3 t) (iblk m hO c 4 t) (iblk m hO c 5 t) (iblk m hO c 6 t) (iblk m hO c 7 t) r j

theorem after_block (c : Dev nD) (t : Fin (cfgM m hO).N) (r : Fin 256) (j : Fin 1024) : outsAt0 m hO c t (ix2 r j) = block m hO c t r j := by
  by_cases h0 : cond0_0 (grid0.coords t) ((ms0_0 m hO t).view.readAt (Elt Ideal) (Rect.unit (s := S1x1x1) ![0, 0, 0] S1x1x1.size inb_S1x1x1_S1x1x1_0_0_0).toLoadRect ((hs0_0 m hO t).unread (iblk m hO c 0 t)) (Shape.Idx.first (numel1_S1x1x1.symm ▸ Nat.one_pos)))
  · have e := (ExpertBlock.word_eq (ms0_0 m hO t) (hs0_0 m hO t) (iblk m hO c 0 t)).symm.trans ((cond_iff _ _).1 h0)
    refine (congrFun (outsAt0_A m hO c t h0) _).trans (Eq.trans ?_ (if_pos e).symm)
    exact ExpertBlock.written_A c _ _ _ _ _ _ _ _ _ _ _ _ _ _ _ _ _ _ _ _ _ _ _ _ _ _ _ _ _ h0 r j
  · have e := fun h => h0 ((cond_iff _ _).2 ((ExpertBlock.word_eq (ms0_0 m hO t) (hs0_0 m hO t) (iblk m hO c 0 t)).trans h))
    refine (congrFun (outsAt0_B m hO c t h0) _).trans (Eq.trans ?_ (if_neg e).symm)
    exact ExpertBlock.written_B c _ _ _ _ _ _ _ _ _ _ _ _ _ _ _ _ _ _ _ _ _ _ _ _ _ _ _ _ _ h0 r j

/-- The tile a row of the result lies in. -/
def tileOf (r : Fin 71680) : Fin (cfgM m hO).N := (⟨(r : ℕ) / 256, by have := r.2; omega⟩ : Fin 280)

/-- The result array: every row is the matching row of its tile's block. -/
def result (c : Dev nD) : Vec Ideal S71680x1024 .f32 := fun y =>
  block m hO c (tileOf m hO (y 0)) (⟨(y 0 : ℕ) % 256, Nat.mod_lt _ (by norm_num)⟩ : Fin 256) (y 1 : Fin 1024)

theorem result_at (c : Dev nD) (t : Fin (cfgM m hO).N) (i : Fin 256) (l : Fin 1024) (r : Fin 71680) (hr : (r : ℕ) = t.val * 256 + i) :
    result m hO c (ix2 r l) = block m hO c t i l := by
  have ht : tileOf m hO r = t := Fin.ext (show (r : ℕ) / 256 = t.val by omega)
  have hi : (⟨(r : ℕ) % 256, Nat.mod_lt _ (by norm_num)⟩ : Fin 256) = i := Fin.ext (show (r : ℕ) % 256 = i by omega)
  show block m hO c (tileOf m hO r) (⟨(r : ℕ) % 256, _⟩ : Fin 256) l = _
  rw [ht, hi]

theorem covers : ((cfgM m hO).win 8).Covers := by
  refine ⟨fun a => ?_, fun β => ?_⟩
  · match a with
    | ⟨0, _⟩ => exact (by decide : 0 < 256)
    | ⟨1, _⟩ => exact (by decide : 0 < 1024)
  · have h0 : (β (0 : Fin 2) : ℕ) < 280 := (β (0 : Fin 2)).2.trans_eq (show (71680 + 256 - 1) / 256 = 280 by norm_num)
    have h1 : (β (1 : Fin 2) : ℕ) < 1 := (β (1 : Fin 2)).2.trans_eq (show (1024 + 1024 - 1) / 1024 = 1 by norm_num)
    refine ⟨(⟨(β (0 : Fin 2) : ℕ), h0⟩ : Fin 280), flush0_8 (adm m hO) _, fun a => ?_⟩
    have e := congrFun (index8 m hO (⟨(β (0 : Fin 2) : ℕ), h0⟩ : Fin 280))
    match a with
    | ⟨0, _⟩ => exact ⟨e (0 : Fin 2), Or.inl rfl⟩
    | ⟨1, _⟩ => exact ⟨(e (1 : Fin 2)).trans (Nat.lt_one_iff.1 h1).symm, Or.inl rfl⟩

theorem final (c : Dev nD) : (dats m hO 0 c).arrAt 8 (cfgM m hO).N = result m hO c := by
  refine (dats m hO 0 c).arrAt_eq_of_covers 8 _ (covers m hO) fun t hf (y : S256x1024.Idx) => ?_
  have ey : y = ix2 (y 0 : Fin 256) (y 1 : Fin 1024) := funext fun a => by match a with | ⟨0, _⟩ => rfl | ⟨1, _⟩ => rfl
  have hr : t.val * 256 + (y 0 : ℕ) < 71680 := by
    have h0 : t.val < 280 := t.isLt
    have h1 : (y 0 : ℕ) < 256 := (y 0).2
    omega
  refine (congrFun (after0_8 m hO c t) y).trans ?_
  rw [ey]
  refine (after_block m hO c t _ _).trans ((result_at m hO c t _ _ ⟨_, hr⟩ rfl).symm.trans ?_)
  exact congrArg (result m hO c) (placed8 m hO t _ _ ⟨_, hr⟩ rfl).symm

theorem run : θ_run defs (onTc (τ := τ) (main (F := Ideal))) ⟨m, fun _ => 0, ρ⟩ fun r => ∀ c : Dev nD,
    r.2.mem ((c.tc : Thread nD τ).loc main_v5) = result m hO c :=
  (θ_run defs _ _).mono (fun r h c => ((h c).1 8).trans (final m hO c)) (run_main m ρ hO)

end Cert.ExpertLeg
-- ==== Proof.ExpertRef.lean ====
/- The reference of the experts read a row at a time. -/
module

public import proofs.«01_k».proof.Proof.Gen.ExpertsReferenceIdeal.Run
public import proofs.«01_k».proof.Proof.ExpertBlock
public import Idealize.ShloMosaic.Lib.Pipeline.ValueKit.Point
public import Idealize.ShloMosaic.Lib.Tactic.CleanTypes
public import Idealize.ShloMosaic.Lib.StableHlo.Predicate

@[expose] public section

set_option maxRecDepth 100000
set_option maxHeartbeats 4000000

noncomputable section

namespace Cert.ExpertRef

open Cert.ExpertsReferenceIdeal Cert.ExpertsReferenceIdeal.Gen Cert.ExpertsReferenceIdeal.Value Idealize.ShloMosaic Idealize.ShloMosaic.TcCoe Idealize.SL.Sem Idealize.ShloMosaic.StableHlo

/-- The tile of a row. -/
def tile (r : Fin 71680) : Fin 280 := ⟨(r : ℕ) / 256, by have := r.2; omega⟩

/-- A word given for every tile, spread over the tile's rows. -/
def spread (A : IVec S280 32) : IVec S71680x1 32 :=
  broadcastInDim S71680x1 ![0] bcast_S71680_S71680x1_0 (shapeCast _ (broadcastInDim S280x256 ![0, 1] bcast_S280x1_S280x256_0_1 (broadcastInDim S280x1 ![0] bcast_S280_S280x1_0 A)) shapeCasts_S280x256_S71680)

theorem spread_at (A : IVec S280 32) (r : Fin 71680) : spread A (ix2 r 0) = A (ix1 (tile r)) := by
  pointwise [spread]
  rfl

/-- The two experts of a row. -/
def pair (A0 A1 : IVec S280 32) : IVec S71680x2 32 :=
  concatenate S71680x2 1 [⟨S71680x1, spread A0⟩, ⟨S71680x1, spread A1⟩] concatenates_S71680x1_S71680x1_S71680x2_d1

theorem pair_of (X Y : IVec S71680x1 32) (r : Fin 71680) (k : Fin 2) : (concatenate S71680x2 1 [⟨S71680x1, X⟩, ⟨S71680x1, Y⟩] concatenates_S71680x1_S71680x1_S71680x2_d1 : IVec S71680x2 32) (ix2 r k)
    = if (k : ℕ) < 1 then X (ix2 r 0) else Y (ix2 r 0) := by
  pointwise
  by_cases h : (k : ℕ) < 1
  · rw [dif_pos h, if_pos h]
    exact congrArg X (congrArg₂ ix2 rfl (Fin.ext (by omega)))
  · rw [dif_neg h, if_neg h]
    exact congrArg Y (congrArg₂ ix2 rfl (Fin.ext (by have := k.2; omega)))

/-- Two words compared, as a number. -/
theorem unit (x y : BitVec 32) : (FloatOps.uitofp FTy.f32 (IntOp.cmpi .eq x y) : Ideal .f32) = (if x = y then 1 else 0 : EReal) := by
  by_cases h : x = y
  · have e : IntOp.cmpi .eq x y = 1#1 := by simp [IntOp.cmpi, h]
    rw [e, if_pos h]
    show ((((1#1 : BitVec 1).toNat : ℕ) : ℝ) : EReal) = 1
    simp
  · have e : IntOp.cmpi .eq x y = 0#1 := by simp [IntOp.cmpi, beq_eq_false_iff_ne.2 h]
    rw [e, if_neg h]
    show ((((0#1 : BitVec 1).toNat : ℕ) : ℝ) : EReal) = 0
    simp

/-- Of the sum over all experts two terms are left: the others have weight zero. -/
theorem sum_two (p q : EReal) (a b : BitVec 32) (lo hi : Fin 16) (ha : a.toNat = lo) (hb : b.toNat = hi) (hn : (lo : ℕ) ≠ hi) (D : Fin 16 → EReal) :
    ∑ e : Fin 16, (p * (if a = BitVec.ofNat 32 e then 1 else 0) + q * (if b = BitVec.ofNat 32 e then 1 else 0)) * D e = p * D lo + q * D hi := by
  have of (x : BitVec 32) (i e : Fin 16) (hx : x.toNat = i) : x = BitVec.ofNat 32 e ↔ e = i := by
    rw [← BitVec.toNat_inj, hx, BitVec.toNat_ofNat, Nat.mod_eq_of_lt (by have := e.2; omega), eq_comm, Fin.val_inj]
  have h (e : Fin 16) : (p * (if a = BitVec.ofNat 32 e then 1 else 0) + q * (if b = BitVec.ofNat 32 e then 1 else 0)) * D e
      = (if e = lo then p * D e else 0) + if e = hi then q * D e else 0 := by
    simp only [of a lo e ha, of b hi e hb]
    by_cases h0 : e = lo
    · have h1 : e ≠ hi := fun h => by rw [h0] at h; rw [h] at hn; exact hn rfl
      simp [h0, h1, if_neg (h0 ▸ h1)]
    · by_cases h1 : e = hi
      · simp [h1, if_neg (h1 ▸ h0)]
      · simp [h0, h1]
  rw [Finset.sum_congr rfl fun e _ => h e, Finset.sum_add_distrib]
  simp

/-- The weight of every expert for a row. -/
def combine (W : FVec Ideal S71680x2 .f32) (I : IVec S71680x2 32) : FVec Ideal S71680x16 .f32 :=
  Host.dotGeneral dot_S71680x2_S71680x2x16_S71680x16_1_1_n_2_0_0 none W (uitofp .f32 (cmpi .eq (broadcastInDim S71680x2x16 ![0, 1, 2] bcast_S71680x2x1_S71680x2x16_0_1_2 (broadcastInDim S71680x2x1 ![0, 1] bcast_S71680x2_S71680x2x1_0_1 I)) (broadcastInDim S71680x2x16 ![0, 1, 2] bcast_S1x1x16_S71680x2x16_0_1_2 (iotaInDim S1x1x16 32 2))))

theorem combine_at (W : FVec Ideal S71680x2 .f32) (I : IVec S71680x2 32) (r : Fin 71680) (e : Fin 16) :
    combine W I (ix2 r e) = W (ix2 r 0) * (if I (ix2 r 0) = BitVec.ofNat 32 e then 1 else 0) + W (ix2 r 1) * (if I (ix2 r 1) = BitVec.ofNat 32 e then 1 else 0) := by
  pointwise [combine]
  rw [Fin.sum_univ_two, unit, unit]

/-- Every row through the first weights of every expert. -/
def first (A4 : FVec Ideal S16x1024x1024 .f32) (T : FVec Ideal S71680x1024 .f32) : FVec Ideal S16x71680x1024 .f32 :=
  transpose S16x71680x1024 [0, 2, 1] (Host.dotGeneral dot_S16x1024x1024_S71680x1024_S16x1024x71680_1_1_02_0_n_n none A4 T) transposes_S16x1024x71680_S16x71680x1024_0_2_1

theorem first_at (A4 : FVec Ideal S16x1024x1024 .f32) (T : FVec Ideal S71680x1024 .f32) (e : Fin 16) (r : Fin 71680) (k : Fin 1024) :
    first A4 T (ix3 e r k) = Expert.inner (fun d => T (ix2 r d)) (fun d k => A4 (ix3 e d k)) k := by
  pointwise [first]
  exact Finset.sum_congr rfl fun d _ => mul_comm _ _

/-- The gated half. -/
def hidden (G : FVec Ideal S16x71680x1024 .f32) : FVec Ideal S16x71680x512 .f32 :=
  mulf (mulf (extractStridedSlice S16x71680x512 ![0, 0, 0] G slices_S16x71680x1024_S16x71680x512_0_0_0) (Host.divf (broadcastInDim S16x71680x512 ![] bcast_S_S16x71680x512 (constant S_ .f32 0x3F800000#32)) (addf (broadcastInDim S16x71680x512 ![] bcast_S_S16x71680x512 (constant S_ .f32 0x3F800000#32)) (Host.exp (Host.negf (extractStridedSlice S16x71680x512 ![0, 0, 0] G slices_S16x71680x1024_S16x71680x512_0_0_0)))))) (extractStridedSlice S16x71680x512 ![0, 0, 512] G slices_S16x71680x1024_S16x71680x512_0_0_512)

theorem hidden_at (G : FVec Ideal S16x71680x1024 .f32) (e : Fin 16) (r : Fin 71680) (k : Fin 512) :
    hidden G (ix3 e r k) = Expert.silu (G (ix3 e r ⟨k, by omega⟩)) * G (ix3 e r ⟨512 + k, by omega⟩) := by
  pointwise [hidden]
  unfold Expert.silu
  rw [zero_sub]

theorem down_at (H : FVec Ideal S16x71680x512 .f32) (A5 : FVec Ideal S16x512x1024 .f32) (e : Fin 16) (r : Fin 71680) (j : Fin 1024) :
    (Host.dotGeneral dot_S16x71680x512_S16x512x1024_S16x71680x1024_2_1_1_2_0_0 none H A5 : FVec Ideal S16x71680x1024 .f32) (ix3 e r j) = ∑ k : Fin 512, H (ix3 e r k) * A5 (ix3 e k j) := by
  pointwise

/-- Every row's token. -/
def token (A3 : FVec Ideal S71680x1152 .f32) : FVec Ideal S71680x1024 .f32 := extractStridedSlice S71680x1024 ![0, 0] A3 slices_S71680x1152_S71680x1024_0_0

theorem token_at (A3 : FVec Ideal S71680x1152 .f32) (r : Fin 71680) (d : Fin 1024) : token A3 (ix2 r d) = A3 (ix2 r ⟨d, by omega⟩) := by
  pointwise [token]

/-- Every row's two weights. -/
def weights (A3 : FVec Ideal S71680x1152 .f32) : FVec Ideal S71680x2 .f32 := extractStridedSlice S71680x2 ![0, 1024] A3 slices_S71680x1152_S71680x2_0_1024

theorem weights_at0 (A3 : FVec Ideal S71680x1152 .f32) (r : Fin 71680) : weights A3 (ix2 r 0) = A3 (ix2 r 1024) := by
  pointwise [weights]
theorem weights_at1 (A3 : FVec Ideal S71680x1152 .f32) (r : Fin 71680) : weights A3 (ix2 r 1) = A3 (ix2 r 1025) := by
  pointwise [weights]

theorem mixed_of (T : FVec Ideal S71680x1024 .f32) (C : FVec Ideal S71680x16 .f32) (D : FVec Ideal S16x71680x1024 .f32) (r : Fin 71680) (j : Fin 1024) :
    (addf (mulf (broadcastInDim S71680x1024 ![] bcast_S_S71680x1024 (constant S_ .f32 0x3FD744FD#32)) T) (Host.dotGeneral dot_S71680x16_S16x71680x1024_S71680x1024_1_0_n_2_0_1 none C D) : FVec Ideal S71680x1024 .f32) (ix2 r j)
      = Ideal.ofBits FTy.f32 1071072509#32 * T (ix2 r j) + ∑ e : Fin 16, C (ix2 r e) * D (ix3 e r j) := by
  pointwise

theorem mean_of (v : FVec Ideal S71680x1024 .f32) (r : Fin 71680) : (Host.divf (broadcastInDim S71680x1 ![0] bcast_S71680_S71680x1_0 (Host.reduceAdd v (constant S_ .f32 0x00000000#32) reducesTo_S71680x1024_S71680_d1 h_S_)) (broadcastInDim S71680x1 ![] bcast_S_S71680x1 (constant S_ .f32 0x44800000#32)) : FVec Ideal S71680x1 .f32) (ix2 r 0) = Ideal.div (∑ x, v (ix2 r x)) (Ideal.ofBits FTy.f32 1149239296#32) := by
  pointwise

/-- The layer norm of every row, given the rows' means. -/
def norm (v : FVec Ideal S71680x1024 .f32) (u : FVec Ideal S71680x1 .f32) (g b : FVec Ideal S1024 .f32) : FVec Ideal S71680x1024 .f32 :=
  addf (mulf (mulf (subf v (broadcastInDim S71680x1024 ![0, 1] bcast_S71680x1_S71680x1024_0_1 u)) (broadcastInDim S71680x1024 ![0, 1] bcast_S71680x1_S71680x1024_0_1 (Host.rsqrt (addf (Host.divf (broadcastInDim S71680x1 ![0] bcast_S71680_S71680x1_0 (Host.reduceAdd (mulf (subf v (broadcastInDim S71680x1024 ![0, 1] bcast_S71680x1_S71680x1024_0_1 u)) (subf v (broadcastInDim S71680x1024 ![0, 1] bcast_S71680x1_S71680x1024_0_1 u))) (constant S_ .f32 0x00000000#32) reducesTo_S71680x1024_S71680_d1 h_S_)) (broadcastInDim S71680x1 ![] bcast_S_S71680x1 (constant S_ .f32 0x44800000#32))) (broadcastInDim S71680x1 ![] bcast_S_S71680x1 (constant S_ .f32 0x3727C5AC#32)))))) (broadcastInDim S71680x1024 ![0, 1] bcast_S1x1024_S71680x1024_0_1 (broadcastInDim S1x1024 ![1] bcast_S1024_S1x1024_1 g))) (broadcastInDim S71680x1024 ![0, 1] bcast_S1x1024_S71680x1024_0_1 (broadcastInDim S1x1024 ![1] bcast_S1024_S1x1024_1 b))

theorem norm_at (v : FVec Ideal S71680x1024 .f32) (u : FVec Ideal S71680x1 .f32) (g b : FVec Ideal S1024 .f32) (r : Fin 71680) (j : Fin 1024)
    (h : u (ix2 r 0) = Ideal.div (∑ x, v (ix2 r x)) (Ideal.ofBits FTy.f32 1149239296#32)) :
    norm v u g b (ix2 r j) = Layer.norm (fun j => v (ix2 r j)) (fun e => g (ix1 e)) (fun e => b (ix1 e)) j := by
  pointwise [norm]
  rw [h]
  rfl

/-- The rows in use, and zero in the others. -/
def chosen (A2 : IVec S280 32) (N : FVec Ideal S71680x1024 .f32) : FVec Ideal S71680x1024 .f32 :=
  select (broadcastInDim S71680x1024 ![0, 1] bcast_S71680x1_S71680x1024_0_1 (cmpi .eq (spread A2) (broadcastInDim S71680x1 ![] bcast_S_S71680x1 (constantI S_ 32 1#32)))) N (broadcastInDim S71680x1024 ![] bcast_S_S71680x1024 (constant S_ .f32 0x00000000#32))

theorem chosen_of (S : IVec S71680x1 32) (N : FVec Ideal S71680x1024 .f32) (r : Fin 71680) (j : Fin 1024) :
    (select (broadcastInDim S71680x1024 ![0, 1] bcast_S71680x1_S71680x1024_0_1 (cmpi .eq S (broadcastInDim S71680x1 ![] bcast_S_S71680x1 (constantI S_ 32 1#32)))) N (broadcastInDim S71680x1024 ![] bcast_S_S71680x1024 (constant S_ .f32 0x00000000#32)) : FVec Ideal S71680x1024 .f32) (ix2 r j)
      = if S (ix2 r 0) = 1#32 then N (ix2 r j) else 0 := by
  pointwise
  by_cases h : S (ix2 r 0) = 1#32
  · rw [if_pos h, h]; rfl
  · rw [if_neg h]
    have : IntOp.cmpi .eq (S (ix2 r 0)) 1#32 = 0#1 := by simp [IntOp.cmpi, beq_eq_false_iff_ne.2 h]
    rw [this]; rfl

/-- Every row before the layer norm. -/
def mixed (A0 A1 : IVec S280 32) (A3 : FVec Ideal S71680x1152 .f32) (A4 : FVec Ideal S16x1024x1024 .f32) (A5 : FVec Ideal S16x512x1024 .f32) : FVec Ideal S71680x1024 .f32 :=
  addf (mulf (broadcastInDim S71680x1024 ![] bcast_S_S71680x1024 (constant S_ .f32 0x3FD744FD#32)) (token A3)) (Host.dotGeneral dot_S71680x16_S16x71680x1024_S71680x1024_1_0_n_2_0_1 none (combine (weights A3) (pair A0 A1)) (Host.dotGeneral dot_S16x71680x512_S16x512x1024_S16x71680x1024_2_1_1_2_0_0 none (hidden (first A4 (token A3))) A5))

/-- The reference's result, of its arguments. -/
def result (A0 A1 A2 : IVec S280 32) (A3 : FVec Ideal S71680x1152 .f32) (A4 : FVec Ideal S16x1024x1024 .f32) (A5 : FVec Ideal S16x512x1024 .f32) (A6 A7 : FVec Ideal S1024 .f32) : FVec Ideal S71680x1024 .f32 :=
  chosen A2 (norm (mixed A0 A1 A3 A4 A5) (Host.divf (broadcastInDim S71680x1 ![0] bcast_S71680_S71680x1_0 (Host.reduceAdd (mixed A0 A1 A3 A4 A5) (constant S_ .f32 0x00000000#32) reducesTo_S71680x1024_S71680_d1 h_S_)) (broadcastInDim S71680x1 ![] bcast_S_S71680x1 (constant S_ .f32 0x44800000#32))) A6 A7)

/-- A row before the layer norm: its token and the outputs of its two experts. -/
theorem mixed_at (A0 A1 : IVec S280 32) (A3 : FVec Ideal S71680x1152 .f32) (A4 : FVec Ideal S16x1024x1024 .f32) (A5 : FVec Ideal S16x512x1024 .f32)
    (r : Fin 71680) (lo hi : Fin 16) (h0 : (A0 (ix1 (tile r))).toNat = lo) (h1 : (A1 (ix1 (tile r))).toNat = hi) (hn : (lo : ℕ) ≠ hi) (j : Fin 1024) :
    mixed A0 A1 A3 A4 A5 (ix2 r j) = Expert.sum (fun d => A3 (ix2 r ⟨d, by omega⟩)) (A3 (ix2 r 1024)) (A3 (ix2 r 1025))
      (fun d k => A4 (ix3 lo d k)) (fun d k => A4 (ix3 hi d k)) (fun k e => A5 (ix3 lo k e)) (fun k e => A5 (ix3 hi k e)) j := by
  unfold mixed
  refine (mixed_of _ _ _ r j).trans ?_
  have p0 : pair A0 A1 (ix2 r 0) = A0 (ix1 (tile r)) := (pair_of _ _ r 0).trans (spread_at A0 r)
  have p1 : pair A0 A1 (ix2 r 1) = A1 (ix1 (tile r)) := (pair_of _ _ r 1).trans (spread_at A1 r)
  have d (e : Fin 16) : (Host.dotGeneral dot_S16x71680x512_S16x512x1024_S16x71680x1024_2_1_1_2_0_0 none (hidden (first A4 (token A3))) A5 : FVec Ideal S16x71680x1024 .f32) (ix3 e r j)
      = Expert.ffn (fun d => A3 (ix2 r ⟨d, by omega⟩)) (fun d k => A4 (ix3 e d k)) (fun k e' => A5 (ix3 e k e')) j := by
    refine (down_at _ _ e r j).trans (Finset.sum_congr rfl fun k _ => ?_)
    rw [hidden_at, first_at, first_at]
    simp only [token_at]
  rw [token_at, Finset.sum_congr rfl fun e _ => congrArg₂ (· * ·) ((combine_at _ _ r e).trans (by rw [p0, p1, weights_at0, weights_at1])) (d e)]
  rw [sum_two _ _ _ _ lo hi h0 h1 hn, ← add_assoc]
  rfl

/-- A row of the reference's result. -/
theorem result_at (A0 A1 A2 : IVec S280 32) (A3 : FVec Ideal S71680x1152 .f32) (A4 : FVec Ideal S16x1024x1024 .f32) (A5 : FVec Ideal S16x512x1024 .f32) (A6 A7 : FVec Ideal S1024 .f32)
    (r : Fin 71680) (lo hi : Fin 16) (h0 : (A0 (ix1 (tile r))).toNat = lo) (h1 : (A1 (ix1 (tile r))).toNat = hi) (hn : (lo : ℕ) ≠ hi) (j : Fin 1024) :
    result A0 A1 A2 A3 A4 A5 A6 A7 (ix2 r j) = if A2 (ix1 (tile r)) = 1#32 then
      Layer.norm (Expert.sum (fun d => A3 (ix2 r ⟨d, by omega⟩)) (A3 (ix2 r 1024)) (A3 (ix2 r 1025))
        (fun d k => A4 (ix3 lo d k)) (fun d k => A4 (ix3 hi d k)) (fun k e => A5 (ix3 lo k e)) (fun k e => A5 (ix3 hi k e)))
        (fun e => A6 (ix1 e)) (fun e => A7 (ix1 e)) j else 0 := by
  unfold result chosen
  refine (chosen_of _ _ r j).trans ?_
  rw [spread_at, norm_at _ _ _ _ r j (mean_of _ r), funext fun j => mixed_at A0 A1 A3 A4 A5 r lo hi h0 h1 hn j]

theorem result_eq (m : (ℓ : Loc nD τ sig) → Buf (Elt Ideal) ℓ) (c : Dev nD) : res_main_v54 m c
    = result (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  rfl

end Cert.ExpertRef
-- ==== Proof.ExpertRows.lean ====
/- The experts' result array and its reference's, row by row, are equal. -/
module

public import proofs.«01_k».proof.Proof.ExpertLeg
public import proofs.«01_k».proof.Proof.ExpertRef
public import proofs.«01_k».proof.Proof.Rows

@[expose] public section

set_option maxRecDepth 100000
set_option maxHeartbeats 1000000

noncomputable section

namespace Cert.Expert

theorem sum_congr {x x' : Fin 1024 → EReal} {p p' q q' : EReal} {w₁ w₁' w₂ w₂' : Fin 1024 → Fin 1024 → EReal} {v₁ v₁' v₂ v₂' : Fin 512 → Fin 1024 → EReal}
    (e0 : ∀ d, x d = x' d) (e1 : p = p') (e2 : q = q') (e3 : ∀ d k, w₁ d k = w₁' d k) (e4 : ∀ d k, w₂ d k = w₂' d k)
    (e5 : ∀ k j, v₁ k j = v₁' k j) (e6 : ∀ k j, v₂ k j = v₂' k j) : sum x p q w₁ w₂ v₁ v₂ = sum x' p' q' w₁' w₂' v₁' v₂' := by
  rw [funext e0, e1, e2, funext fun d => funext (e3 d), funext fun d => funext (e4 d), funext fun d => funext (e5 d), funext fun d => funext (e6 d)]

end Cert.Expert

namespace Cert.ExpertRows

open Cert.ExpertsIdeal Cert.ExpertsIdeal.Gen Idealize.ShloMosaic Idealize.ShloMosaic.TcCoe Idealize.SL.Sem

attribute [local instance] Cert.Pairs.facts

variable (m : (ℓ : Loc nD τ sig) → Buf (Elt Ideal) ℓ) (h : Cert.Pre_ExpertsIdeal m) (hO : Ok m) (c : Dev nD)

/-- The reference's result of the kernel's arguments. -/
def expected : Vec Ideal S71680x1024 .f32 :=
  ExpertRef.result (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7))

include h in
theorem row_eq (r : Fin 71680) (j : Fin 1024) : ExpertLeg.result m hO c (ix2 r j) = expected m c (ix2 r j) := by
  obtain rfl : c = 0 := Subsingleton.elim _ _
  have w := Pairs.two_ideal m h (ix1 (ExpertRef.tile r))
  have hr : (r : ℕ) = (ExpertLeg.tileOf m hO r).val * 256 + (⟨(r : ℕ) % 256, Nat.mod_lt _ (by norm_num)⟩ : Fin 256) :=
    show (r : ℕ) = (r : ℕ) / 256 * 256 + (r : ℕ) % 256 by omega
  refine (ExpertLeg.result_at m hO 0 (ExpertLeg.tileOf m hO r) ⟨(r : ℕ) % 256, Nat.mod_lt _ (by norm_num)⟩ j r hr).trans ?_
  refine Eq.trans ?_ (ExpertRef.result_at _ _ _ _ _ _ _ _ r ⟨_, w.1⟩ ⟨_, w.2.1⟩ rfl rfl w.2.2 j).symm
  refine ExpertLeg.left_eq _ _ _ _ _ _ _ _ _ _ _ _ (ExpertLeg.block0 m hO 0 (ExpertLeg.tileOf m hO r)) ?_
  unfold ExpertBlock.written
  refine congrFun (Layer.norm_congr (Expert.sum_congr (fun d => ?_) ?_ ?_ (fun d k => ?_) (fun d k => ?_) (fun k e => ?_) (fun k e => ?_)) (fun d => ?_) (fun d => ?_)) j
  · exact ExpertLeg.block1 m hO 0 _ _ _ r hr
  · exact ExpertLeg.block1 m hO 0 _ _ _ r hr
  · exact ExpertLeg.block1 m hO 0 _ _ _ r hr
  · exact ExpertLeg.block2 m hO 0 _ d k ⟨_, w.1⟩ rfl
  · exact ExpertLeg.block3 m hO 0 _ d k ⟨_, w.2.1⟩ rfl
  · exact ExpertLeg.block4 m hO 0 _ k e ⟨_, w.1⟩ rfl
  · exact ExpertLeg.block5 m hO 0 _ k e ⟨_, w.2.1⟩ rfl
  · exact ExpertLeg.block6 m hO 0 _ d
  · exact ExpertLeg.block7 m hO 0 _ d

include h in
theorem result_eq : ExpertLeg.result m hO c = expected m c :=
  funext fun y : S71680x1024.Idx => by
    have e : y = ix2 (y 0 : Fin 71680) (y 1 : Fin 1024) := funext fun a => by match a with | ⟨0, _⟩ => rfl | ⟨1, _⟩ => rfl
    rw [e]
    exact row_eq m h hO c _ _

end Cert.ExpertRows
-- ==== Proof.ProjectionBlock.lean ====
/- What the input projection leaves of a tile of rows: the queries, keys, values and gates. -/
module

public import proofs.«01_k».proof.Proof.Gen.ProjectionIdeal.Frame
public import Idealize.ShloMosaic.Lib.Pipeline.ReadBack
public import Idealize.ShloMosaic.Lib.Pipeline.ValueKit.Point
public import Idealize.ShloMosaic.Lib.Pipeline.ValueKit.Tiles

@[expose] public section

set_option maxRecDepth 100000
set_option maxHeartbeats 4000000

noncomputable section

namespace Cert.Projection

open Idealize.ShloMosaic

/-- One entry of the projection: a row by a column of the weights, and the column's bias. -/
def entry (x : Fin 1024 → EReal) (w : Fin 1024 → EReal) (b : EReal) : EReal := (∑ d, x d * w d) + b

/-- The logistic function. -/
def logistic (g : EReal) : EReal := Ideal.div 1 (1 + Ideal.exp (0 - g))

/-- The factor the queries are stored with. -/
def scale : EReal := Ideal.ofBits FTy.f32 0x3E38AA3B#32

end Cert.Projection

namespace Cert.ProjectionBlock

open Cert.ProjectionIdeal Cert.ProjectionIdeal.Gen Idealize.ShloMosaic Idealize.ShloMosaic.TcCoe Idealize.SL.Sem Cert.Projection

section
variable (x : Vec Ideal S512x1024 .f32) (w : Vec Ideal S1024x512 .bf16) (b : Vec Ideal S1x512 .f32) (r j : Fin 512)

theorem queries_at : k0_pay60 (k0_pay2 x) w b (ix2 r j) = entry (fun d => x (ix2 r d)) (fun d => w (ix2 d j)) (b (ix2 0 j)) * scale := by
  pointwise [k0_pay60, k0_pay2]
  rfl

theorem keys_at : k0_pay104 (k0_pay2 x) w b (ix2 r j) = entry (fun d => x (ix2 r d)) (fun d => w (ix2 d j)) (b (ix2 0 j)) := by
  pointwise [k0_pay104, k0_pay2]
  rfl

theorem values_at : k0_pay152 (k0_pay2 x) w b (ix2 r j) = entry (fun d => x (ix2 r d)) (fun d => w (ix2 d j)) (b (ix2 0 j)) := by
  pointwise [k0_pay152, k0_pay2]
  rfl

theorem gates0_at : k0_pay198 (k0_pay197 (k0_pay2 x) w b) (ix2 r j) = logistic (entry (fun d => x (ix2 r d)) (fun d => w (ix2 d j)) (b (ix2 0 j))) := by
  pointwise [k0_pay198, k0_pay197, k0_pay2]
  rfl

theorem gates1_at : k0_pay199 (k0_pay2 x) w b (ix2 r j) = logistic (entry (fun d => x (ix2 r d)) (fun d => w (ix2 d j)) (b (ix2 0 j))) := by
  pointwise [k0_pay199, k0_pay2]
  rfl

theorem gates2_at : k0_pay202 (k0_pay200 (k0_pay2 x) w b) (k0_pay201 (F := Ideal)) (ix2 r j) = logistic (entry (fun d => x (ix2 r d)) (fun d => w (ix2 d j)) (b (ix2 0 j))) := by
  pointwise [k0_pay202, k0_pay201, k0_pay200, k0_pay2]
  rfl

theorem gates3_at : k0_pay1 (k0_pay203 (k0_pay2 x) w) b (ix2 r j) = logistic (entry (fun d => x (ix2 r d)) (fun d => w (ix2 d j)) (b (ix2 0 j))) := by
  pointwise [k0_pay1, k0_pay203, k0_pay2]
  rfl

/-- A block of 512 columns of the weights, at an index. -/
theorem weights_at (w : Vec Ideal S1024x4608 .bf16) (o : ℕ) (inb) (d : Fin 1024) (j : Fin 512) (k : Fin 4608) (hk : (k : ℕ) = o + j) :
    View.ld (Val := Elt Ideal) (S := S1024x4608) (e' := .bf16) w (Rect.unit ![0, o] ![1024, 512] inb) (ix2 d j) = w (ix2 d k) :=
  View.ld_unit_apply_of (Val := Elt Ideal) (e := .bf16) (S := S1024x4608) w _ _ _ _ _ fun a => by fin_cases a <;> simp [hk]

/-- A block of 512 columns of the bias, at an index. -/
theorem bias_at (b : Vec Ideal S1x4608 .f32) (o : ℕ) (inb) (j : Fin 512) (k : Fin 4608) (hk : (k : ℕ) = o + j) :
    View.ld (Val := Elt Ideal) (S := S1x4608) (e' := .f32) b (Rect.unit ![0, o] ![1, 512] inb) (ix2 0 j) = b (ix2 0 k) :=
  View.ld_unit_apply_of (Val := Elt Ideal) (e := .f32) (S := S1x4608) b _ _ _ _ _ fun a => by fin_cases a <;> simp [hk]
end

/-- One entry of a tile's projection. -/
def projected (x : Vec Ideal S512x1024 .f32) (w : Vec Ideal S1024x4608 .bf16) (b : Vec Ideal S1x4608 .f32) (r : Fin 512) (k : Fin 4608) : EReal :=
  entry (fun d => x (ix2 r d)) (fun d => w (ix2 d k)) (b (ix2 0 k))

theorem entry_of (x : Vec Ideal S512x1024 .f32) (w : Vec Ideal S1024x4608 .bf16) (b : Vec Ideal S1x4608 .f32) (r j : Fin 512) (o : ℕ) (i1 i2) (k : Fin 4608) (hk : (k : ℕ) = o + j) :
    entry (fun d => x (ix2 r d)) (fun d => View.ld (Val := Elt Ideal) (S := S1024x4608) (e' := .bf16) w (Rect.unit ![0, o] ![1024, 512] i1) (ix2 d j))
      (View.ld (Val := Elt Ideal) (S := S1x4608) (e' := .f32) b (Rect.unit ![0, o] ![1, 512] i2) (ix2 0 j)) = projected x w b r k := by
  rw [bias_at b o i2 j k hk, funext fun d => weights_at w o i1 d j k hk]
  rfl

theorem queries_A (c : Dev nD) (i : grid0.Coords) (arg1 : Memref sig .tc .vmem S512x1024 .f32) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S32x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x2048 .bf16) (harg12 : arg12.IsWhole) (arg13 : Memref sig .tc .vmem S544x512 .f32) (harg13 : arg13.IsWhole) (arg14 : Memref sig .tc .vmem S7x544x512 .f32) (harg14 : arg14.IsWhole) (hc0 : cond0_0 i) (hc1 : ¬cond0_1 i)
    (x0 : Vec Ideal S512x1024 .f32) (x1 : Vec Ideal S1024x4608 .bf16) (x2 : Vec Ideal S1x4608 .f32) (x3 : Vec Ideal S32x512 .f32) (x4 : Vec Ideal S1x512 .f32) (x5 : Vec Ideal S1x512 .f32) (x6 : Vec Ideal S1x512 .f32) (r j : Fin 512) (k : Fin 4608) (hk : (k : ℕ) = 1024 + j) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 (ix2 r j) = projected x0 x1 x2 r k * scale := by
  frame_open
  simp (disch := decide) only [↓ View.readCov_skip, ↓ View.readCov_cons_toLoadRect, View.readAt_eq_ld, Memref.IsWhole.read_unread, View.ld_unit_lit', View.read_writes_junk_eq_canon, View.canon_cons_unit_lit']
  refine (queries_at _ _ _ r j).trans ?_
  rw [entry_of x0 x1 x2 r j 1024 _ _ k hk]

theorem queries_B (c : Dev nD) (i : grid0.Coords) (arg1 : Memref sig .tc .vmem S512x1024 .f32) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S32x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x2048 .bf16) (harg12 : arg12.IsWhole) (arg13 : Memref sig .tc .vmem S544x512 .f32) (harg13 : arg13.IsWhole) (arg14 : Memref sig .tc .vmem S7x544x512 .f32) (harg14 : arg14.IsWhole) (hc0 : ¬cond0_0 i) (hc1 : cond0_1 i)
    (x0 : Vec Ideal S512x1024 .f32) (x1 : Vec Ideal S1024x4608 .bf16) (x2 : Vec Ideal S1x4608 .f32) (x3 : Vec Ideal S32x512 .f32) (x4 : Vec Ideal S1x512 .f32) (x5 : Vec Ideal S1x512 .f32) (x6 : Vec Ideal S1x512 .f32) (xs0 : Vec Ideal S544x512 .f32) (r j : Fin 512) (k : Fin 4608) (hk : (k : ℕ) = 1024 + j) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 (ix2 r j) = projected x0 x1 x2 r k * scale := by
  frame_open
  simp (disch := decide) only [↓ View.readCov_skip, ↓ View.readCov_cons_toLoadRect, View.readAt_eq_ld, Memref.IsWhole.read_unread, View.ld_unit_lit', View.read_writes_junk_eq_canon, View.canon_cons_unit_lit']
  refine (queries_at _ _ _ r j).trans ?_
  rw [entry_of x0 x1 x2 r j 1024 _ _ k hk]

theorem keys_A (c : Dev nD) (i : grid0.Coords) (arg1 : Memref sig .tc .vmem S512x1024 .f32) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S32x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x2048 .bf16) (harg12 : arg12.IsWhole) (arg13 : Memref sig .tc .vmem S544x512 .f32) (harg13 : arg13.IsWhole) (arg14 : Memref sig .tc .vmem S7x544x512 .f32) (harg14 : arg14.IsWhole) (hc0 : cond0_0 i) (hc1 : ¬cond0_1 i)
    (x0 : Vec Ideal S512x1024 .f32) (x1 : Vec Ideal S1024x4608 .bf16) (x2 : Vec Ideal S1x4608 .f32) (x3 : Vec Ideal S32x512 .f32) (x4 : Vec Ideal S1x512 .f32) (x5 : Vec Ideal S1x512 .f32) (x6 : Vec Ideal S1x512 .f32) (r j : Fin 512) (k : Fin 4608) (hk : (k : ℕ) = 1536 + j) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 (ix2 r j) = projected x0 x1 x2 r k := by
  frame_open
  simp (disch := decide) only [↓ View.readCov_skip, ↓ View.readCov_cons_toLoadRect, View.readAt_eq_ld, Memref.IsWhole.read_unread, View.ld_unit_lit', View.read_writes_junk_eq_canon, View.canon_cons_unit_lit']
  refine (keys_at _ _ _ r j).trans ?_
  rw [entry_of x0 x1 x2 r j 1536 _ _ k hk]

theorem keys_B (c : Dev nD) (i : grid0.Coords) (arg1 : Memref sig .tc .vmem S512x1024 .f32) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S32x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x2048 .bf16) (harg12 : arg12.IsWhole) (arg13 : Memref sig .tc .vmem S544x512 .f32) (harg13 : arg13.IsWhole) (arg14 : Memref sig .tc .vmem S7x544x512 .f32) (harg14 : arg14.IsWhole) (hc0 : ¬cond0_0 i) (hc1 : cond0_1 i)
    (x0 : Vec Ideal S512x1024 .f32) (x1 : Vec Ideal S1024x4608 .bf16) (x2 : Vec Ideal S1x4608 .f32) (x3 : Vec Ideal S32x512 .f32) (x4 : Vec Ideal S1x512 .f32) (x5 : Vec Ideal S1x512 .f32) (x6 : Vec Ideal S1x512 .f32) (xs0 : Vec Ideal S544x512 .f32) (r j : Fin 512) (k : Fin 4608) (hk : (k : ℕ) = 1536 + j) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 (ix2 r j) = projected x0 x1 x2 r k := by
  frame_open
  simp (disch := decide) only [↓ View.readCov_skip, ↓ View.readCov_cons_toLoadRect, View.readAt_eq_ld, Memref.IsWhole.read_unread, View.ld_unit_lit', View.read_writes_junk_eq_canon, View.canon_cons_unit_lit']
  refine (keys_at _ _ _ r j).trans ?_
  rw [entry_of x0 x1 x2 r j 1536 _ _ k hk]

theorem values_A (c : Dev nD) (i : grid0.Coords) (arg1 : Memref sig .tc .vmem S512x1024 .f32) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S32x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x2048 .bf16) (harg12 : arg12.IsWhole) (arg13 : Memref sig .tc .vmem S544x512 .f32) (harg13 : arg13.IsWhole) (arg14 : Memref sig .tc .vmem S7x544x512 .f32) (harg14 : arg14.IsWhole) (hc0 : cond0_0 i) (hc1 : ¬cond0_1 i)
    (x0 : Vec Ideal S512x1024 .f32) (x1 : Vec Ideal S1024x4608 .bf16) (x2 : Vec Ideal S1x4608 .f32) (x3 : Vec Ideal S32x512 .f32) (x4 : Vec Ideal S1x512 .f32) (x5 : Vec Ideal S1x512 .f32) (x6 : Vec Ideal S1x512 .f32) (r j : Fin 512) (k : Fin 4608) (hk : (k : ℕ) = 2048 + j) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 (ix2 r j) = projected x0 x1 x2 r k := by
  frame_open
  simp (disch := decide) only [↓ View.readCov_skip, ↓ View.readCov_cons_toLoadRect, View.readAt_eq_ld, Memref.IsWhole.read_unread, View.ld_unit_lit', View.read_writes_junk_eq_canon, View.canon_cons_unit_lit']
  refine (values_at _ _ _ r j).trans ?_
  rw [entry_of x0 x1 x2 r j 2048 _ _ k hk]

theorem values_B (c : Dev nD) (i : grid0.Coords) (arg1 : Memref sig .tc .vmem S512x1024 .f32) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S32x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x2048 .bf16) (harg12 : arg12.IsWhole) (arg13 : Memref sig .tc .vmem S544x512 .f32) (harg13 : arg13.IsWhole) (arg14 : Memref sig .tc .vmem S7x544x512 .f32) (harg14 : arg14.IsWhole) (hc0 : ¬cond0_0 i) (hc1 : cond0_1 i)
    (x0 : Vec Ideal S512x1024 .f32) (x1 : Vec Ideal S1024x4608 .bf16) (x2 : Vec Ideal S1x4608 .f32) (x3 : Vec Ideal S32x512 .f32) (x4 : Vec Ideal S1x512 .f32) (x5 : Vec Ideal S1x512 .f32) (x6 : Vec Ideal S1x512 .f32) (xs0 : Vec Ideal S544x512 .f32) (r j : Fin 512) (k : Fin 4608) (hk : (k : ℕ) = 2048 + j) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 (ix2 r j) = projected x0 x1 x2 r k := by
  frame_open
  simp (disch := decide) only [↓ View.readCov_skip, ↓ View.readCov_cons_toLoadRect, View.readAt_eq_ld, Memref.IsWhole.read_unread, View.ld_unit_lit', View.read_writes_junk_eq_canon, View.canon_cons_unit_lit']
  refine (values_at _ _ _ r j).trans ?_
  rw [entry_of x0 x1 x2 r j 2048 _ _ k hk]

/-- Four blocks of 512 columns side by side, at an index. -/
theorem quarters (r : Fin 512) (l : Fin 2048) (v : Fin 2048 → EReal) (P0 P1 P2 P3 : S512x512.Idx → Ideal .bf16) (i0 i1 i2 i3)
    (h0 : ∀ j : Fin 512, P0 (ix2 r j) = v ⟨j, by omega⟩) (h1 : ∀ j : Fin 512, P1 (ix2 r j) = v ⟨512 + j, by omega⟩)
    (h2 : ∀ j : Fin 512, P2 (ix2 r j) = v ⟨1024 + j, by omega⟩) (h3 : ∀ j : Fin 512, P3 (ix2 r j) = v ⟨1536 + j, by omega⟩) :
    View.canon (Val := Elt Ideal) (s := S512x2048) (e := .bf16) [⟨Rect.unit ![0, 1536] ![512, 512] i3, P3⟩, ⟨Rect.unit ![0, 1024] ![512, 512] i2, P2⟩,
      ⟨Rect.unit ![0, 512] ![512, 512] i1, P1⟩, ⟨Rect.unit ![0, 0] ![512, 512] i0, P0⟩] (ix2 r l) = v l := by
  have hl := l.2
  have hr := r.2
  have place (o : ℕ) (P : S512x512.Idx → Ideal .bf16) (h : ∀ j : Fin 512, ∀ k : Fin 2048, (k : ℕ) = o + j → P (ix2 r j) = v k) :
      View.TileAt (Val := Elt Ideal) (S := S512x2048) (e := .bf16) (ix2 r l) ![0, o] ![512, 512] P (v l) := by
    intro y hy
    have e0 : (r : ℕ) = 0 + y 0 := hy 0
    have e1 : (l : ℕ) = o + y 1 := hy 1
    have ey : y = ix2 r (y 1 : Fin 512) := funext fun a => by
      match a with
      | ⟨0, _⟩ => exact Fin.ext (show (y 0 : ℕ) = r by omega)
      | ⟨1, _⟩ => rfl
    rw [ey]
    exact h _ l e1
  refine View.canon_eq_of_allAt _ _ _ ?_ (View.allAt_cons_unit _ _ _ _ _ (place 1536 P3 fun j k e => (h3 j).trans (congrArg v (Fin.ext e.symm))) (View.allAt_cons_unit _ _ _ _ _ (place 1024 P2 fun j k e => (h2 j).trans (congrArg v (Fin.ext e.symm)))
    (View.allAt_cons_unit _ _ _ _ _ (place 512 P1 fun j k e => (h1 j).trans (congrArg v (Fin.ext e.symm))) (View.allAt_cons_unit _ _ _ _ _ (place 0 P0 fun j k e => (h0 j).trans (congrArg v (Fin.ext (e.trans (Nat.zero_add _)).symm))) (View.allAt_nil _ _)))))
  have mem (o : ℕ) (i) (h0 : o ≤ l) (h1 : (l : ℕ) < o + 512) : (ix2 r l : S512x2048.Idx) ∈ (Rect.unit (s := S512x2048) ![0, o] ![512, 512] i).set :=
    Rect.mem_set_unit.mpr fun a => by fin_cases a <;> simp <;> omega
  rcases (by omega : (l : ℕ) < 512 ∨ (512 ≤ (l : ℕ) ∧ (l : ℕ) < 1024) ∨ (1024 ≤ (l : ℕ) ∧ (l : ℕ) < 1536) ∨ 1536 ≤ (l : ℕ)) with h | h | h | h
  · exact ⟨_, List.mem_cons_of_mem _ (List.mem_cons_of_mem _ (List.mem_cons_of_mem _ List.mem_cons_self)), mem 0 i0 (by omega) (by omega)⟩
  · exact ⟨_, List.mem_cons_of_mem _ (List.mem_cons_of_mem _ List.mem_cons_self), mem 512 i1 (by omega) (by omega)⟩
  · exact ⟨_, List.mem_cons_of_mem _ List.mem_cons_self, mem 1024 i2 (by omega) (by omega)⟩
  · exact ⟨_, List.mem_cons_self, mem 1536 i3 (by omega) (by omega)⟩

theorem gates_A (c : Dev nD) (i : grid0.Coords) (arg1 : Memref sig .tc .vmem S512x1024 .f32) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S32x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x2048 .bf16) (harg12 : arg12.IsWhole) (arg13 : Memref sig .tc .vmem S544x512 .f32) (harg13 : arg13.IsWhole) (arg14 : Memref sig .tc .vmem S7x544x512 .f32) (harg14 : arg14.IsWhole) (hc0 : cond0_0 i) (hc1 : ¬cond0_1 i)
    (x0 : Vec Ideal S512x1024 .f32) (x1 : Vec Ideal S1024x4608 .bf16) (x2 : Vec Ideal S1x4608 .f32) (x3 : Vec Ideal S32x512 .f32) (x4 : Vec Ideal S1x512 .f32) (x5 : Vec Ideal S1x512 .f32) (x6 : Vec Ideal S1x512 .f32) (r : Fin 512) (l : Fin 2048) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 (ix2 r l) = logistic (projected x0 x1 x2 r ⟨2560 + l, by omega⟩) := by
  frame_open
  simp (disch := decide) only [↓ View.readCov_skip, ↓ View.readCov_cons_toLoadRect, View.readAt_eq_ld, Memref.IsWhole.read_unread, View.ld_unit_lit', View.read_writes_junk_eq_canon, View.canon_cons_unit_lit']
  refine quarters r l (fun l => logistic (projected x0 x1 x2 r ⟨2560 + l, by omega⟩)) _ _ _ _ _ _ _ _ (fun j => (gates0_at _ _ _ r j).trans ?_) (fun j => (gates1_at _ _ _ r j).trans ?_)
    (fun j => (gates2_at _ _ _ r j).trans ?_) (fun j => (gates3_at _ _ _ r j).trans ?_)
  · exact congrArg logistic (entry_of x0 x1 x2 r j 2560 _ _ _ rfl)
  · exact congrArg logistic (entry_of x0 x1 x2 r j 3072 _ _ _ (by simp; omega))
  · exact congrArg logistic (entry_of x0 x1 x2 r j 3584 _ _ _ (by simp; omega))
  · exact congrArg logistic (entry_of x0 x1 x2 r j 4096 _ _ _ (by simp; omega))

theorem gates_B (c : Dev nD) (i : grid0.Coords) (arg1 : Memref sig .tc .vmem S512x1024 .f32) (harg1 : arg1.IsWhole) (arg2 : Memref sig .tc .vmem S1024x4608 .bf16) (harg2 : arg2.IsWhole) (arg3 : Memref sig .tc .vmem S1x4608 .f32) (harg3 : arg3.IsWhole) (arg4 : Memref sig .tc .vmem S32x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x2048 .bf16) (harg12 : arg12.IsWhole) (arg13 : Memref sig .tc .vmem S544x512 .f32) (harg13 : arg13.IsWhole) (arg14 : Memref sig .tc .vmem S7x544x512 .f32) (harg14 : arg14.IsWhole) (hc0 : ¬cond0_0 i) (hc1 : cond0_1 i)
    (x0 : Vec Ideal S512x1024 .f32) (x1 : Vec Ideal S1024x4608 .bf16) (x2 : Vec Ideal S1x4608 .f32) (x3 : Vec Ideal S32x512 .f32) (x4 : Vec Ideal S1x512 .f32) (x5 : Vec Ideal S1x512 .f32) (x6 : Vec Ideal S1x512 .f32) (xs0 : Vec Ideal S544x512 .f32) (r : Fin 512) (l : Fin 2048) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 (ix2 r l) = logistic (projected x0 x1 x2 r ⟨2560 + l, by omega⟩) := by
  frame_open
  simp (disch := decide) only [↓ View.readCov_skip, ↓ View.readCov_cons_toLoadRect, View.readAt_eq_ld, Memref.IsWhole.read_unread, View.ld_unit_lit', View.read_writes_junk_eq_canon, View.canon_cons_unit_lit']
  refine quarters r l (fun l => logistic (projected x0 x1 x2 r ⟨2560 + l, by omega⟩)) _ _ _ _ _ _ _ _ (fun j => (gates0_at _ _ _ r j).trans ?_) (fun j => (gates1_at _ _ _ r j).trans ?_)
    (fun j => (gates2_at _ _ _ r j).trans ?_) (fun j => (gates3_at _ _ _ r j).trans ?_)
  · exact congrArg logistic (entry_of x0 x1 x2 r j 2560 _ _ _ rfl)
  · exact congrArg logistic (entry_of x0 x1 x2 r j 3072 _ _ _ (by simp; omega))
  · exact congrArg logistic (entry_of x0 x1 x2 r j 3584 _ _ _ (by simp; omega))
  · exact congrArg logistic (entry_of x0 x1 x2 r j 4096 _ _ _ (by simp; omega))

end Cert.ProjectionBlock
-- ==== Proof.ProjectionLeg.lean ====
/- The result arrays of the input projection, from the arrays it is given. -/
module

public import proofs.«01_k».proof.Proof.ProjectionBlock
public import Idealize.ShloMosaic.Lib.Pipeline.Value
public import Idealize.ShloMosaic.Lib.Pipeline.ValueKit.Point

@[expose] public section

set_option maxRecDepth 16384
set_option maxHeartbeats 4000000

noncomputable section

namespace Cert.ProjectionLeg

open Cert.ProjectionIdeal Cert.ProjectionIdeal.Gen Idealize.ShloMosaic Idealize.ShloMosaic.TcCoe Idealize.SL.Sem Cert.Projection Cert.ProjectionBlock
open Idealize.ShloMosaic.Pipeline (Dat)

variable (m : (ℓ : Loc nD τ sig) → Buf (Elt Ideal) ℓ) (ρ : Dev nD → PrngReg)

/-- Row `i` of tile `t`, as a row of the whole array. -/
def rowOf (t : Fin cfg0.N) (i : Fin 512) : Fin 65536 := ⟨t.val * 512 + i, by have := i.2; have := t.2; have : cfg0.N = 128 := N_0; omega⟩

/-- The tile a row lies in. -/
def tileOf (r : Fin 65536) : Fin cfg0.N := ⟨(r : ℕ) / 512, by have := r.2; have : cfg0.N = 128 := N_0; omega⟩

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)
theorem index11 : ∀ t : Fin cfg0.N, win0_11.index t = ![t.val, 0] := (by decide +kernel : ∀ t : Fin grid0.N, _)

section
variable (c : Dev nD) (t : Fin cfg0.N)

theorem read1 (d : Fin 1024) (k : Fin 4608) : V m c main_v3 (ix2 d k) = m (c.tc.loc main_arg1) (ix2 d k) := by
  unfold V; entry_read; pointwise
theorem read2 (k : Fin 4608) : V m c main_v4 (ix2 (0 : Fin 1) k) = m (c.tc.loc main_arg2) (ix1 k) := by
  unfold V; entry_read; pointwise

theorem block0 (i : Fin 512) (l : Fin 1024) : iblk m c 0 t (ix2 i l) = m (c.tc.loc main_arg0) (ix2 (rowOf t i) l) := by
  rw [← V_main_arg0 m c]; blk_ext! [iblk, index0 t, rowOf]
theorem block1 : iblk m c 1 t = V m c main_v3 := by blk_ext! [iblk, index1 t]
theorem block2 : iblk m c 2 t = V m c main_v4 := by blk_ext! [iblk, index2 t]
end

/-- One entry of the projection of the whole array. -/
def at_ (c : Dev nD) (r : Fin 65536) (k : Fin 4608) : EReal :=
  entry (fun d => m (c.tc.loc main_arg0) (ix2 r d)) (fun d => m (c.tc.loc main_arg1) (ix2 d k)) (m (c.tc.loc main_arg2) (ix1 k))

theorem entry_congr {x x' w w' : Fin 1024 → EReal} {b b' : EReal} (hx : ∀ d, x d = x' d) (hw : ∀ d, w d = w' d) (hb : b = b') : entry x w b = entry x' w' b' := by
  rw [funext hx, funext hw, hb]

theorem projected_at (c : Dev nD) (t : Fin cfg0.N) (i : Fin 512) (k : Fin 4608) : projected (iblk m c 0 t) (iblk m c 1 t) (iblk m c 2 t) i k = at_ m c (rowOf t i) k := by
  refine entry_congr (fun d => block0 m c t i d) (fun d => ?_) ?_
  · rw [block1]; exact read1 m c d k
  · rw [block2]; exact read2 m c k

/-- The queries of every row. -/
def queriesAt (c : Dev nD) (r : Fin 65536) (l : Fin 512) : Ideal .bf16 := at_ m c r ⟨1024 + l, by omega⟩ * scale

/-- The array of them. -/
def queries (c : Dev nD) : Vec Ideal S65536x512 .bf16 := fun y => queriesAt m c (y 0) (y 1)

theorem queries_block (c : Dev nD) (t : Fin cfg0.N) (i : Fin 512) (l : Fin 512) : (outsAt0 m c t.val t.isLt).2.1 (ix2 i l) = at_ m c (rowOf t i) ⟨1024 + l, by omega⟩ * scale := by
  by_cases h : t.val % 16 = 0
  · rw [outsAt0_A m c t h (not_not_intro h)]
    dsimp only
    exact (queries_A _ _ _ _ _ _ _ _ _ _ _ _ _ _ _ _ _ _ _ _ _ _ _ _ _ _ _ _ _ _ _ _ _ _ _ _ _ _ _ i l _ rfl).trans (congrArg (· * scale) (projected_at m c t i _))
  · rw [outsAt0_B m c t h h]
    dsimp only
    exact (queries_B _ _ _ _ _ _ _ _ _ _ _ _ _ _ _ _ _ _ _ _ _ _ _ _ _ _ _ _ _ _ _ _ _ _ _ _ _ _ _ _ i l _ rfl).trans (congrArg (· * scale) (projected_at m c t i _))

theorem queries_final (c : Dev nD) : (dats m 0 c).arrAt 8 cfg0.N = queries m c := by
  refine (dats m 0 c).arrAt_eq_of_covers 8 _ (by decide +kernel) fun t hf y => ?_
  blk_simp
  rw [after0_8]
  have e : ((win0_8.blk t).view.emb y 0 : ℕ) = t.val * 512 + (y 0 : ℕ) ∧ ((win0_8.blk t).view.emb y 1 : ℕ) = (y 1 : ℕ) := by
    constructor <;> blk_simp [index8 t] <;> simp
  have ey : y = (ix2 (y 0 : Fin 512) (y 1 : Fin 512) : S512x512.Idx) := funext fun a => by match a with | ⟨0, _⟩ => rfl | ⟨1, _⟩ => rfl
  have ez : (win0_8.blk t).view.emb y = (ix2 (rowOf t (y 0 : Fin 512)) (y 1 : Fin 512) : S65536x512.Idx) := funext fun a => by
    match a with
    | ⟨0, _⟩ => exact Fin.ext e.1
    | ⟨1, _⟩ => exact Fin.ext e.2
  rw [ez]
  refine (congrArg _ ey).trans ?_
  exact queries_block m c t (y 0 : Fin 512) (y 1 : Fin 512)

/-- The keys of every row. -/
def keysAt (c : Dev nD) (r : Fin 65536) (l : Fin 512) : Ideal .bf16 := at_ m c r ⟨1536 + l, by omega⟩

/-- The array of them. -/
def keys (c : Dev nD) : Vec Ideal S65536x512 .bf16 := fun y => keysAt m c (y 0) (y 1)

theorem keys_block (c : Dev nD) (t : Fin cfg0.N) (i : Fin 512) (l : Fin 512) : (outsAt0 m c t.val t.isLt).2.2.1 (ix2 i l) = at_ m c (rowOf t i) ⟨1536 + l, by omega⟩ := by
  by_cases h : t.val % 16 = 0
  · rw [outsAt0_A m c t h (not_not_intro h)]
    dsimp only
    exact (keys_A _ _ _ _ _ _ _ _ _ _ _ _ _ _ _ _ _ _ _ _ _ _ _ _ _ _ _ _ _ _ _ _ _ _ _ _ _ _ _ i l _ rfl).trans (projected_at m c t i _)
  · rw [outsAt0_B m c t h h]
    dsimp only
    exact (keys_B _ _ _ _ _ _ _ _ _ _ _ _ _ _ _ _ _ _ _ _ _ _ _ _ _ _ _ _ _ _ _ _ _ _ _ _ _ _ _ _ i l _ rfl).trans (projected_at m c t i _)

theorem keys_final (c : Dev nD) : (dats m 0 c).arrAt 9 cfg0.N = keys m c := by
  refine (dats m 0 c).arrAt_eq_of_covers 9 _ (by decide +kernel) fun t hf y => ?_
  blk_simp
  rw [after0_9]
  have e : ((win0_9.blk t).view.emb y 0 : ℕ) = t.val * 512 + (y 0 : ℕ) ∧ ((win0_9.blk t).view.emb y 1 : ℕ) = (y 1 : ℕ) := by
    constructor <;> blk_simp [index9 t] <;> simp
  have ey : y = (ix2 (y 0 : Fin 512) (y 1 : Fin 512) : S512x512.Idx) := funext fun a => by match a with | ⟨0, _⟩ => rfl | ⟨1, _⟩ => rfl
  have ez : (win0_9.blk t).view.emb y = (ix2 (rowOf t (y 0 : Fin 512)) (y 1 : Fin 512) : S65536x512.Idx) := funext fun a => by
    match a with
    | ⟨0, _⟩ => exact Fin.ext e.1
    | ⟨1, _⟩ => exact Fin.ext e.2
  rw [ez]
  refine (congrArg _ ey).trans ?_
  exact keys_block m c t (y 0 : Fin 512) (y 1 : Fin 512)

/-- The values of every row. -/
def valuesAt (c : Dev nD) (r : Fin 65536) (l : Fin 512) : Ideal .bf16 := at_ m c r ⟨2048 + l, by omega⟩

/-- The array of them. -/
def values (c : Dev nD) : Vec Ideal S65536x512 .bf16 := fun y => valuesAt m c (y 0) (y 1)

theorem values_block (c : Dev nD) (t : Fin cfg0.N) (i : Fin 512) (l : Fin 512) : (outsAt0 m c t.val t.isLt).2.2.2.1 (ix2 i l) = at_ m c (rowOf t i) ⟨2048 + l, by omega⟩ := by
  by_cases h : t.val % 16 = 0
  · rw [outsAt0_A m c t h (not_not_intro h)]
    dsimp only
    exact (values_A _ _ _ _ _ _ _ _ _ _ _ _ _ _ _ _ _ _ _ _ _ _ _ _ _ _ _ _ _ _ _ _ _ _ _ _ _ _ _ i l _ rfl).trans (projected_at m c t i _)
  · rw [outsAt0_B m c t h h]
    dsimp only
    exact (values_B _ _ _ _ _ _ _ _ _ _ _ _ _ _ _ _ _ _ _ _ _ _ _ _ _ _ _ _ _ _ _ _ _ _ _ _ _ _ _ _ i l _ rfl).trans (projected_at m c t i _)

theorem values_final (c : Dev nD) : (dats m 0 c).arrAt 10 cfg0.N = values m c := by
  refine (dats m 0 c).arrAt_eq_of_covers 10 _ (by decide +kernel) fun t hf y => ?_
  blk_simp
  rw [after0_10]
  have e : ((win0_10.blk t).view.emb y 0 : ℕ) = t.val * 512 + (y 0 : ℕ) ∧ ((win0_10.blk t).view.emb y 1 : ℕ) = (y 1 : ℕ) := by
    constructor <;> blk_simp [index10 t] <;> simp
  have ey : y = (ix2 (y 0 : Fin 512) (y 1 : Fin 512) : S512x512.Idx) := funext fun a => by match a with | ⟨0, _⟩ => rfl | ⟨1, _⟩ => rfl
  have ez : (win0_10.blk t).view.emb y = (ix2 (rowOf t (y 0 : Fin 512)) (y 1 : Fin 512) : S65536x512.Idx) := funext fun a => by
    match a with
    | ⟨0, _⟩ => exact Fin.ext e.1
    | ⟨1, _⟩ => exact Fin.ext e.2
  rw [ez]
  refine (congrArg _ ey).trans ?_
  exact values_block m c t (y 0 : Fin 512) (y 1 : Fin 512)

/-- The gates of every row. -/
def gatesAt (c : Dev nD) (r : Fin 65536) (l : Fin 2048) : Ideal .bf16 := logistic (at_ m c r ⟨2560 + l, by omega⟩)

/-- The array of them. -/
def gates (c : Dev nD) : Vec Ideal S65536x2048 .bf16 := fun y => gatesAt m c (y 0) (y 1)

theorem gates_block (c : Dev nD) (t : Fin cfg0.N) (i : Fin 512) (l : Fin 2048) : (outsAt0 m c t.val t.isLt).2.2.2.2.1 (ix2 i l) = logistic (at_ m c (rowOf t i) ⟨2560 + l, by omega⟩) := by
  by_cases h : t.val % 16 = 0
  · rw [outsAt0_A m c t h (not_not_intro h)]
    dsimp only
    exact (gates_A _ _ _ _ _ _ _ _ _ _ _ _ _ _ _ _ _ _ _ _ _ _ _ _ _ _ _ _ _ _ _ _ _ _ _ _ _ _ _ i l).trans (congrArg logistic (projected_at m c t i _))
  · rw [outsAt0_B m c t h h]
    dsimp only
    exact (gates_B _ _ _ _ _ _ _ _ _ _ _ _ _ _ _ _ _ _ _ _ _ _ _ _ _ _ _ _ _ _ _ _ _ _ _ _ _ _ _ _ i l).trans (congrArg logistic (projected_at m c t i _))

theorem gates_final (c : Dev nD) : (dats m 0 c).arrAt 11 cfg0.N = gates m c := by
  refine (dats m 0 c).arrAt_eq_of_covers 11 _ (by decide +kernel) fun t hf y => ?_
  blk_simp
  rw [after0_11]
  have e : ((win0_11.blk t).view.emb y 0 : ℕ) = t.val * 512 + (y 0 : ℕ) ∧ ((win0_11.blk t).view.emb y 1 : ℕ) = (y 1 : ℕ) := by
    constructor <;> blk_simp [index11 t] <;> simp
  have ey : y = (ix2 (y 0 : Fin 512) (y 1 : Fin 2048) : S512x2048.Idx) := funext fun a => by match a with | ⟨0, _⟩ => rfl | ⟨1, _⟩ => rfl
  have ez : (win0_11.blk t).view.emb y = (ix2 (rowOf t (y 0 : Fin 512)) (y 1 : Fin 2048) : S65536x2048.Idx) := funext fun a => by
    match a with
    | ⟨0, _⟩ => exact Fin.ext e.1
    | ⟨1, _⟩ => exact Fin.ext e.2
  rw [ez]
  refine (congrArg _ ey).trans ?_
  exact gates_block m c t (y 0 : Fin 512) (y 1 : Fin 2048)

theorem run : θ_run defs (onTc (τ := τ) (main (F := Ideal))) ⟨m, fun _ => 0, ρ⟩ fun r => ∀ c : Dev nD,
    r.2.mem ((c.tc : Thread nD τ).loc main_v8_1) = queries m c ∧ r.2.mem ((c.tc : Thread nD τ).loc main_v8_2) = keys m c
      ∧ r.2.mem ((c.tc : Thread nD τ).loc main_v8_3) = values m c ∧ r.2.mem ((c.tc : Thread nD τ).loc main_v8_4) = gates m c :=
  (θ_run defs _ _).mono (fun r h c => ⟨((h c).1 8).trans (queries_final m c), ((h c).1 9).trans (keys_final m c), ((h c).1 10).trans (values_final m c),
    ((h c).1 11).trans (gates_final m c)⟩) (run_main m ρ)

end Cert.ProjectionLeg
-- ==== Proof.ProjectionRef.lean ====
/- The reference of the input projection, read an entry at a time. -/
module

public import proofs.«01_k».proof.Proof.Gen.ProjectionReferenceIdeal.Run
public import proofs.«01_k».proof.Proof.ProjectionBlock
public import Idealize.ShloMosaic.Lib.Pipeline.ValueKit.Point
public import Idealize.ShloMosaic.Lib.Tactic.CleanTypes

@[expose] public section

set_option maxRecDepth 100000
set_option maxHeartbeats 4000000

noncomputable section

namespace Cert.ProjectionRef

open Cert.ProjectionReferenceIdeal Cert.ProjectionReferenceIdeal.Gen Cert.ProjectionReferenceIdeal.Value Idealize.ShloMosaic Idealize.ShloMosaic.TcCoe Idealize.SL.Sem Idealize.ShloMosaic.StableHlo
open Cert.Projection

variable (X : FVec Ideal S65536x1024 .f32) (W : FVec Ideal S1024x4608 .f32) (B : FVec Ideal S4608 .f32)

/-- The projection of every row. -/
def product : FVec Ideal S65536x4608 .f32 :=
  addf (Host.dotGeneral dot_S65536x1024_S1024x4608_S65536x4608_1_0_0_1_n_n none X W) (broadcastInDim S65536x4608 ![0, 1] bcast_S1x4608_S65536x4608_0_1 (broadcastInDim S1x4608 ![1] bcast_S4608_S1x4608_1 B))

theorem product_at (r : Fin 65536) (k : Fin 4608) : product X W B (ix2 r k) = entry (fun d => X (ix2 r d)) (fun d => W (ix2 d k)) (B (ix1 k)) := by
  pointwise [product]
  rfl

/-- The queries, scaled. -/
def queries : FVec Ideal S65536x512 .bf16 :=
  truncf .bf16 (mulf (extractStridedSlice S65536x512 ![0, 1024] (product X W B) slices_S65536x4608_S65536x512_0_1024) (broadcastInDim S65536x512 ![] bcast_S_S65536x512 (constant S_ .f32 0x3E38AA3B#32))) bitsLt_bf16_f32

/-- The keys. -/
def keys : FVec Ideal S65536x512 .bf16 := truncf .bf16 (extractStridedSlice S65536x512 ![0, 1536] (product X W B) slices_S65536x4608_S65536x512_0_1536) bitsLt_bf16_f32

/-- The values. -/
def values : FVec Ideal S65536x512 .bf16 := truncf .bf16 (extractStridedSlice S65536x512 ![0, 2048] (product X W B) slices_S65536x4608_S65536x512_0_2048) bitsLt_bf16_f32

/-- The gates. -/
def gates : FVec Ideal S65536x2048 .bf16 :=
  truncf .bf16 (Host.divf (broadcastInDim S65536x2048 ![] bcast_S_S65536x2048 (constant S_ .f32 0x3F800000#32)) (addf (broadcastInDim S65536x2048 ![] bcast_S_S65536x2048 (constant S_ .f32 0x3F800000#32)) (Host.exp (Host.negf (extractStridedSlice S65536x2048 ![0, 2560] (product X W B) slices_S65536x4608_S65536x2048_0_2560))))) bitsLt_bf16_f32

variable (r : Fin 65536) (j : Fin 512)

theorem queries_of (P : FVec Ideal S65536x4608 .f32) (k : Fin 4608) (hk : (k : ℕ) = 1024 + j) :
    (truncf .bf16 (mulf (extractStridedSlice S65536x512 ![0, 1024] P slices_S65536x4608_S65536x512_0_1024) (broadcastInDim S65536x512 ![] bcast_S_S65536x512 (constant S_ .f32 0x3E38AA3B#32))) bitsLt_bf16_f32 : FVec Ideal S65536x512 .bf16) (ix2 r j)
      = P (ix2 r k) * scale := by
  pointwise
  refine congrArg (fun u => P u * scale) (congrArg₂ ix2 (Fin.ext ?_) (Fin.ext ?_)) <;> simp [hk]

theorem keys_of (P : FVec Ideal S65536x4608 .f32) (k : Fin 4608) (hk : (k : ℕ) = 1536 + j) :
    (truncf .bf16 (extractStridedSlice S65536x512 ![0, 1536] P slices_S65536x4608_S65536x512_0_1536) bitsLt_bf16_f32 : FVec Ideal S65536x512 .bf16) (ix2 r j) = P (ix2 r k) := by
  pointwise
  refine congrArg P (congrArg₂ ix2 (Fin.ext ?_) (Fin.ext ?_)) <;> simp [hk]

theorem values_of (P : FVec Ideal S65536x4608 .f32) (k : Fin 4608) (hk : (k : ℕ) = 2048 + j) :
    (truncf .bf16 (extractStridedSlice S65536x512 ![0, 2048] P slices_S65536x4608_S65536x512_0_2048) bitsLt_bf16_f32 : FVec Ideal S65536x512 .bf16) (ix2 r j) = P (ix2 r k) := by
  pointwise
  refine congrArg P (congrArg₂ ix2 (Fin.ext ?_) (Fin.ext ?_)) <;> simp [hk]

theorem gates_of (P : FVec Ideal S65536x4608 .f32) (l : Fin 2048) (k : Fin 4608) (hk : (k : ℕ) = 2560 + l) :
    (truncf .bf16 (Host.divf (broadcastInDim S65536x2048 ![] bcast_S_S65536x2048 (constant S_ .f32 0x3F800000#32)) (addf (broadcastInDim S65536x2048 ![] bcast_S_S65536x2048 (constant S_ .f32 0x3F800000#32)) (Host.exp (Host.negf (extractStridedSlice S65536x2048 ![0, 2560] P slices_S65536x4608_S65536x2048_0_2560))))) bitsLt_bf16_f32 : FVec Ideal S65536x2048 .bf16) (ix2 r l)
      = logistic (P (ix2 r k)) := by
  have e (g : EReal) : Ideal.div 1 (1 + Ideal.exp (-g)) = logistic g :=
    (congrArg (fun u => Ideal.div 1 (1 + Ideal.exp u)) (zero_sub g)).symm
  refine Eq.trans ?_ (e (P (ix2 r k)))
  pointwise
  refine congrArg (fun u => Ideal.div 1 (1 + Ideal.exp (-P u))) (congrArg₂ ix2 (Fin.ext ?_) (Fin.ext ?_)) <;> simp [hk]

theorem queries_at (k : Fin 4608) (hk : (k : ℕ) = 1024 + j) : queries X W B (ix2 r j) = entry (fun d => X (ix2 r d)) (fun d => W (ix2 d k)) (B (ix1 k)) * scale :=
  (queries_of r j (product X W B) k hk).trans (congrArg (· * scale) (product_at X W B r k))

theorem keys_at (k : Fin 4608) (hk : (k : ℕ) = 1536 + j) : keys X W B (ix2 r j) = entry (fun d => X (ix2 r d)) (fun d => W (ix2 d k)) (B (ix1 k)) :=
  (keys_of r j (product X W B) k hk).trans (product_at X W B r k)

theorem values_at (k : Fin 4608) (hk : (k : ℕ) = 2048 + j) : values X W B (ix2 r j) = entry (fun d => X (ix2 r d)) (fun d => W (ix2 d k)) (B (ix1 k)) :=
  (values_of r j (product X W B) k hk).trans (product_at X W B r k)

theorem gates_at (l : Fin 2048) (k : Fin 4608) (hk : (k : ℕ) = 2560 + l) : gates X W B (ix2 r l) = logistic (entry (fun d => X (ix2 r d)) (fun d => W (ix2 d k)) (B (ix1 k))) :=
  (gates_of r (product X W B) l k hk).trans (congrArg logistic (product_at X W B r k))

end Cert.ProjectionRef
-- ==== Proof.ProjectionRows.lean ====
/- The result arrays of the input projection are the reference's. -/
module

public import proofs.«01_k».proof.Proof.ProjectionLeg
public import proofs.«01_k».proof.Proof.ProjectionRef

@[expose] public section

set_option maxRecDepth 100000
set_option maxHeartbeats 4000000

noncomputable section

namespace Cert.ProjectionRows

open Cert.ProjectionIdeal Cert.ProjectionIdeal.Gen Idealize.ShloMosaic Idealize.ShloMosaic.TcCoe Idealize.SL.Sem

variable (m : (ℓ : Loc nD τ sig) → Buf (Elt Ideal) ℓ) (c : Dev nD)

theorem queries_eq : ProjectionLeg.queries m c = ProjectionRef.queries (m (c.tc.loc main_arg0)) (m (c.tc.loc main_arg1)) (m (c.tc.loc main_arg2)) := by
  funext y
  have ey : y = (ix2 (y 0 : Fin 65536) (y 1 : Fin 512) : S65536x512.Idx) := funext fun a => by match a with | ⟨0, _⟩ => rfl | ⟨1, _⟩ => rfl
  rw [ey]
  exact (ProjectionRef.queries_at _ _ _ (y 0 : Fin 65536) (y 1 : Fin 512) _ rfl).symm

theorem keys_eq : ProjectionLeg.keys m c = ProjectionRef.keys (m (c.tc.loc main_arg0)) (m (c.tc.loc main_arg1)) (m (c.tc.loc main_arg2)) := by
  funext y
  have ey : y = (ix2 (y 0 : Fin 65536) (y 1 : Fin 512) : S65536x512.Idx) := funext fun a => by match a with | ⟨0, _⟩ => rfl | ⟨1, _⟩ => rfl
  rw [ey]
  exact (ProjectionRef.keys_at _ _ _ (y 0 : Fin 65536) (y 1 : Fin 512) _ rfl).symm

theorem values_eq : ProjectionLeg.values m c = ProjectionRef.values (m (c.tc.loc main_arg0)) (m (c.tc.loc main_arg1)) (m (c.tc.loc main_arg2)) := by
  funext y
  have ey : y = (ix2 (y 0 : Fin 65536) (y 1 : Fin 512) : S65536x512.Idx) := funext fun a => by match a with | ⟨0, _⟩ => rfl | ⟨1, _⟩ => rfl
  rw [ey]
  exact (ProjectionRef.values_at _ _ _ (y 0 : Fin 65536) (y 1 : Fin 512) _ rfl).symm

theorem gates_eq : ProjectionLeg.gates m c = ProjectionRef.gates (m (c.tc.loc main_arg0)) (m (c.tc.loc main_arg1)) (m (c.tc.loc main_arg2)) := by
  funext y
  have ey : y = (ix2 (y 0 : Fin 65536) (y 1 : Fin 2048) : S65536x2048.Idx) := funext fun a => by match a with | ⟨0, _⟩ => rfl | ⟨1, _⟩ => rfl
  rw [ey]
  exact (ProjectionRef.gates_at _ _ _ (y 0 : Fin 65536) (y 1 : Fin 2048) _ rfl).symm

end Cert.ProjectionRows
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsReferenceIdeal
public import proofs.«01_k».proof.Proof.Gen.ExpertsReferenceIdeal.Run
public import proofs.«01_k».proof.Proof.Gen.Projection
public import proofs.«01_k».proof.Proof.Gen.Projection.Skeleton
public import proofs.«01_k».proof.Proof.Gen.Projection.Launch
public import proofs.«01_k».proof.Proof.Gen.Projection.Points
public import proofs.«01_k».proof.Proof.Gen.Projection.Frame
public import proofs.«01_k».proof.Proof.Gen.ProjectionIdeal
public import proofs.«01_k».proof.Proof.Gen.ProjectionIdeal.Skeleton
public import proofs.«01_k».proof.Proof.Gen.ProjectionIdeal.Launch
public import proofs.«01_k».proof.Proof.Gen.ProjectionIdeal.Points
public import proofs.«01_k».proof.Proof.Gen.ProjectionIdeal.Frame
public import proofs.«01_k».proof.Proof.Gen.ProjectionReferenceIdeal
public import proofs.«01_k».proof.Proof.Gen.ProjectionReferenceIdeal.Run
public import proofs.«01_k».proof.Proof.Rows
public import proofs.«01_k».proof.Proof.Finite
public import proofs.«01_k».proof.Proof.ExpertRows
public import proofs.«01_k».proof.Proof.ProjectionRows
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo

/-- The kernel's result array and the reference's are equal, given finite queries, keys and biases. -/
theorem values : Cert.algebraic_KernelIdeal_ReferenceIdeal_pre_finite_scores (hKernelIdeal := Cert.KernelIdeal.Gen.facts)
    (hReferenceIdeal := Cert.ReferenceIdeal.Gen.facts) (hPre_finite_scores := Cert.Finite.facts) := by
  intro m g m' g' hpre hagree
  refine ⟨fun c => Cert.Leg.result m c,
    (θ_run Cert.KernelIdeal.defs _ _).mono (fun r h c => ⟨h.1 c, h.2.1 c⟩) (θ_run_and (Cert.Leg.run m g) (Cert.KernelIdeal.Gen.frame m g)),
    (θ_run Cert.ReferenceIdeal.defs _ _).mono (fun r h c => ⟨(h c).1.trans ?_, (h c).2⟩) (Cert.ReferenceIdeal.Value.run (F := Ideal) m' g')⟩
  obtain ⟨h0, h1, h2, h3, h4, h5, h6, h7, h8, h9, h10, h11, h12, h13, h14⟩ := hagree c
  obtain ⟨hq, hk, hb⟩ := hpre c
  exact (Cert.Rows.result_eq (V0 := launchContents m' c) ⟨h0, h1, h2, h3, h4, h5, h6, h7, h8, h9, h10, h11, h12, h13, h14⟩
    (Cert.Finite.queries _ _ _ _ _ _ _ _ _ _ _ _ _ _ _ hq) (Cert.Finite.keys _ _ _ _ _ _ _ _ _ _ _ _ _ _ _ hk)
    (Cert.Finite.biases _ _ _ _ _ _ _ _ _ _ _ _ _ _ _ hb)).symm

/-- The experts' result array and their reference's are equal, given two different experts for every tile. -/
theorem experts : Cert.algebraic_ExpertsIdeal_ExpertsReferenceIdeal (hExpertsIdeal := Cert.ExpertsIdeal.Gen.facts)
    (hExpertsReferenceIdeal := Cert.ExpertsReferenceIdeal.Gen.facts) (hPre_two_experts := Cert.Pairs.facts) := by
  intro m g m' g' hpre hagree
  have hO := Cert.Pairs.ok_of_pre_ideal m hpre
  refine ⟨fun c => Cert.ExpertLeg.result m hO c,
    (θ_run Cert.ExpertsIdeal.defs _ _).mono (fun r h c => ⟨h.1 c, h.2.1 c⟩) (θ_run_and (Cert.ExpertLeg.run m g hO) (Cert.ExpertsIdeal.Gen.frame m g hO)),
    (θ_run Cert.ExpertsReferenceIdeal.defs _ _).mono (fun r h c => ⟨(h c).1.trans ?_, (h c).2⟩) (Cert.ExpertsReferenceIdeal.Value.run (F := Ideal) m' g')⟩
  obtain ⟨h0, h1, h2, h3, h4, h5, h6, h7⟩ := hagree c
  refine (Cert.ExpertRef.result_eq m' c).trans (Eq.trans ?_ (Cert.ExpertRows.result_eq m hpre hO c).symm)
  unfold Cert.ExpertRows.expected
  rw [h0, h1, h2, h3, h4, h5, h6, h7]

/-- The four result arrays of the input projection and the reference's are equal. -/
theorem projection : Cert.algebraic_ProjectionIdeal_ProjectionReferenceIdeal (hProjectionIdeal := Cert.ProjectionIdeal.Gen.facts)
    (hProjectionReferenceIdeal := Cert.ProjectionReferenceIdeal.Gen.facts) := by
  intro m g m' g' _ hagree
  refine ⟨fun c => Cert.ProjectionLeg.queries m c, fun c => Cert.ProjectionLeg.keys m c, fun c => Cert.ProjectionLeg.values m c, fun c => Cert.ProjectionLeg.gates m c,
    (θ_run Cert.ProjectionIdeal.defs _ _).mono (fun r h c => ⟨(h.1 c).1, (h.1 c).2.1, (h.1 c).2.2.1, (h.1 c).2.2.2, h.2.1 c⟩)
      (θ_run_and (Cert.ProjectionLeg.run m g) (Cert.ProjectionIdeal.Gen.frame m g)),
    (θ_run Cert.ProjectionReferenceIdeal.defs _ _).mono (fun r h c => ⟨(h c).1.trans ?_, (h c).2.1.trans ?_, (h c).2.2.1.trans ?_, (h c).2.2.2.1.trans ?_, (h c).2.2.2.2⟩)
      (Cert.ProjectionReferenceIdeal.Value.run (F := Ideal) m' g')⟩ <;>
  obtain ⟨h0, h1, h2, -⟩ := hagree c
  · rw [h0, h1, h2]; exact (Cert.ProjectionRows.queries_eq m c).symm
  · rw [h0, h1, h2]; exact (Cert.ProjectionRows.keys_eq m c).symm
  · rw [h0, h1, h2]; exact (Cert.ProjectionRows.values_eq m c).symm
  · rw [h0, h1, h2]; exact (Cert.ProjectionRows.gates_eq m c).symm

/-- The programs' side conditions, the runs that leave their arguments alone, the values the three named
    constants are given, and the equality of the result arrays: of the layer's kernel of attention and
    routing, of the experts' and of the input projection's. -/
theorem claim : Cert.Claim := ⟨Cert.Kernel.Gen.facts, Cert.KernelIdeal.Gen.facts, Cert.ReferenceIdeal.Gen.facts, Cert.Experts.Gen.facts, Cert.ExpertsIdeal.Gen.facts,
  Cert.ExpertsReferenceIdeal.Gen.facts, Cert.Projection.Gen.facts, Cert.ProjectionIdeal.Gen.facts, Cert.ProjectionReferenceIdeal.Gen.facts, Cert.Finite.facts, Cert.Pairs.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2, sem_eq_zero_of_no_sems (by decide) r.2⟩)
    (Cert.ReferenceIdeal.Value.run (F := Ideal) m ρ),
  fun m ρ _ => (θ_run Cert.ReferenceIdeal.defs _ _).mono (fun r h => ⟨fun c => (h c).2, sem_eq_zero_of_no_sems (by decide) r.2⟩)
    (Cert.ReferenceIdeal.Value.run (F := Ideal) m ρ),
  fun m ρ h => Cert.Experts.Gen.frame m ρ (Cert.Pairs.ok_of_pre m h),
  fun m ρ h => Cert.ExpertsIdeal.Gen.frame m ρ (Cert.Pairs.ok_of_pre_ideal m h),
  fun m ρ _ => (θ_run Cert.ExpertsReferenceIdeal.defs _ _).mono (fun r h => ⟨fun c => (h c).2, sem_eq_zero_of_no_sems (by decide) r.2⟩)
    (Cert.ExpertsReferenceIdeal.Value.run (F := Ideal) m ρ),
  fun m ρ _ => (θ_run Cert.ExpertsReferenceIdeal.defs _ _).mono (fun r h => ⟨fun c => (h c).2, sem_eq_zero_of_no_sems (by decide) r.2⟩)
    (Cert.ExpertsReferenceIdeal.Value.run (F := Ideal) m ρ),
  fun m ρ _ => Cert.Projection.Gen.frame m ρ,
  fun m ρ _ => Cert.ProjectionIdeal.Gen.frame m ρ,
  fun m ρ _ => (θ_run Cert.ProjectionReferenceIdeal.defs _ _).mono (fun r h => ⟨fun c => (h c).2.2.2.2, sem_eq_zero_of_no_sems (by decide) r.2⟩)
    (Cert.ProjectionReferenceIdeal.Value.run (F := Ideal) m ρ),
  ⟨IdealRules.named_const.statement Cert.KernelIdeal.κ "qscale" .f32 0x3E38AA3B#32 ((8⁻¹ * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩,
  values,
  trivial,
  experts,
  trivial,
  projection⟩

end Cert.Proof

end
